-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S2048x256 : Shape := ⟨2, ![2048, 256]⟩
abbrev S2x3x1024x128 : Shape := ⟨4, ![2, 3, 1024, 128]⟩
abbrev S39 : Shape := ⟨1, ![39]⟩
abbrev S_ : Shape := ⟨0, ![]⟩
abbrev S1 : Shape := ⟨1, ![1]⟩
abbrev S1024x256 : Shape := ⟨2, ![1024, 256]⟩
abbrev S2048x512 : Shape := ⟨2, ![2048, 512]⟩
abbrev S1024x128 : Shape := ⟨2, ![1024, 128]⟩
abbrev S1x1x1024x128 : Shape := ⟨4, ![1, 1, 1024, 128]⟩
abbrev S512x128 : Shape := ⟨2, ![512, 128]⟩
abbrev S1x1x512x128 : Shape := ⟨4, ![1, 1, 512, 128]⟩
abbrev S256x128 : Shape := ⟨2, ![256, 128]⟩
abbrev S1x1x256x128 : Shape := ⟨4, ![1, 1, 256, 128]⟩

abbrev nBuf : Space → Nat
  | .hbm => 8
  | .vmem => 12
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S2048x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .f32⟩
  | .local _ .vmem, ⟨10, _⟩ => ⟨S2048x256, .bf16⟩
  | .local _ .vmem, ⟨11, _⟩ => ⟨S2x3x1024x128, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_6 : BitVec 32 := 1#32
  let v12 : BitVec 32 := Scalar.muli v3 c1_i32_6
  let v13 : BitVec 32 := Scalar.addi c0_i32 v12
  v13.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_8 : BitVec 32 := 1#32
  let v14 : BitVec 32 := Scalar.muli v4 c1_i32_8
  let v15 : BitVec 32 := Scalar.addi c0_i32_9 v14
  v15.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_11 : BitVec 32 := 1#32
  let v16 : BitVec 32 := Scalar.muli v5 c1_i32_11
  let v17 : BitVec 32 := Scalar.addi c0_i32_12 v16
  v17.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v21 : BitVec 32 := Scalar.muli v2 c256_i32
  let v22 : Index := Scalar.indexCast v21
  let c0_15 : Index := 0#32
  ![v22.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_16 : BitVec 32 := 256#32
  let v26 : BitVec 32 := Scalar.muli v2 c256_i32_16
  let c0_i32_21 : BitVec 32 := 0#32
  ![v26.toNat, 0]
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_19 : BitVec 32 := 1#32
  let v27 : BitVec 32 := Scalar.muli v3 c1_i32_19
  let v28 : BitVec 32 := Scalar.addi c0_i32_20 v27
  v28.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v6 : BitVec 32 := Scalar.andi v2 c1_i32_1
  let v45 : BitVec 32 := Scalar.subi v2 v6
  let c256_i32_34 : BitVec 32 := 256#32
  let v46 : BitVec 32 := Scalar.muli v45 c256_i32_34
  let c0_i32_39 : BitVec 32 := 0#32
  ![v46.toNat, 0]
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_37 : BitVec 32 := 1#32
  let v47 : BitVec 32 := Scalar.muli v4 c1_i32_37
  let v48 : BitVec 32 := Scalar.addi c0_i32_38 v47
  v48.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v65 : BitVec 32 := Scalar.andi v2 c3_i32_52
  let v66 : BitVec 32 := Scalar.subi v2 v65
  let c256_i32_53 : BitVec 32 := 256#32
  let v67 : BitVec 32 := Scalar.muli v66 c256_i32_53
  let c0_i32_58 : BitVec 32 := 0#32
  ![v67.toNat, 0]
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_56 : BitVec 32 := 1#32
  let v68 : BitVec 32 := Scalar.muli v5 c1_i32_56
  let v69 : BitVec 32 := Scalar.addi c0_i32_57 v68
  v69.toNat
def k0_off5 (d0 : Dev nD) : Fin 2 → Nat :=
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v91 : BitVec 32 := Scalar.subi c1_i32_72 v10
  let c1024_i32_73 : BitVec 32 := 1024#32
  let v92 : BitVec 32 := Scalar.muli v91 c1024_i32_73
  let v127 : Index := Scalar.indexCast v92
  let c0_97 : Index := 0#32
  ![v127.toNat, 0]
def k0_off6 (d0 : Dev nD) : Fin 2 → Nat :=
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let v104 : BitVec 32 := Scalar.subi c1_i32_81 v8
  let c1024_i32_82 : BitVec 32 := 1024#32
  let v105 : BitVec 32 := Scalar.muli v104 c1024_i32_82
  let v134 : Index := Scalar.indexCast v105
  let c128 : Index := 128#32
  ![v134.toNat, 128]
def k0_off7 (d0 : Dev nD) : Fin 2 → Nat :=
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let v91 : BitVec 32 := Scalar.subi c1_i32_72 v10
  let c1024_i32_73 : BitVec 32 := 1024#32
  let v92 : BitVec 32 := Scalar.muli v91 c1024_i32_73
  let c0_i32_108 : BitVec 32 := 0#32
  ![v92.toNat, 0]
def k0_dev7 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_104 : BitVec 32 := 1#32
  let v141 : BitVec 32 := Scalar.muli v5 c1_i32_104
  let v142 : BitVec 32 := Scalar.addi c0_i32_105 v141
  v142.toNat
def k0_off8 (d0 : Dev nD) : Fin 2 → Nat :=
  let c1_i32_81 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let v104 : BitVec 32 := Scalar.subi c1_i32_81 v8
  let c1024_i32_82 : BitVec 32 := 1024#32
  let v105 : BitVec 32 := Scalar.muli v104 c1024_i32_82
  let c128_i32 : BitVec 32 := 128#32
  ![v105.toNat, 128]
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_113 : BitVec 32 := 1#32
  let v150 : BitVec 32 := Scalar.muli v4 c1_i32_113
  let v151 : BitVec 32 := Scalar.addi c0_i32_114 v150
  v151.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let v171 : Index := Scalar.indexCast v86
  let c0_134 : Index := 0#32
  ![v171.toNat, 0]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_74 : BitVec 32 := 1#32
  let c1_i32_2 : BitVec 32 := 1#32
  let v7 : BitVec 32 := Scalar.shrsi v2 c1_i32_2
  let c1_i32_3 : BitVec 32 := 1#32
  let v8 : BitVec 32 := Scalar.andi v7 c1_i32_3
  let v93 : BitVec 32 := Scalar.subi c1_i32_74 v8
  let c512_i32_75 : BitVec 32 := 512#32
  let v94 : BitVec 32 := Scalar.muli v93 c512_i32_75
  let v95 : BitVec 32 := Scalar.addi v86 v94
  let v181 : Index := Scalar.indexCast v95
  let c0_140 : Index := 0#32
  ![v181.toNat, 0]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_74 : BitVec 32 := 1#32
  let c1_i32_2 : BitVec 32 := 1#32
  let v7 : BitVec 32 := Scalar.shrsi v2 c1_i32_2
  let c1_i32_3 : BitVec 32 := 1#32
  let v8 : BitVec 32 := Scalar.andi v7 c1_i32_3
  let v93 : BitVec 32 := Scalar.subi c1_i32_74 v8
  let c512_i32_75 : BitVec 32 := 512#32
  let v94 : BitVec 32 := Scalar.muli v93 c512_i32_75
  let v95 : BitVec 32 := Scalar.addi v86 v94
  let c0_i32_149 : BitVec 32 := 0#32
  ![v95.toNat, 0]
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_145 : BitVec 32 := 1#32
  let v188 : BitVec 32 := Scalar.muli v4 c1_i32_145
  let v189 : BitVec 32 := Scalar.addi c0_i32_146 v188
  v189.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let v209 : Index := Scalar.indexCast v99
  let c128_167 : Index := 128#32
  ![v209.toNat, 128]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c1_i32_83 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v106 : BitVec 32 := Scalar.subi c1_i32_83 v10
  let c512_i32_84 : BitVec 32 := 512#32
  let v107 : BitVec 32 := Scalar.muli v106 c512_i32_84
  let v108 : BitVec 32 := Scalar.addi v99 v107
  let v219 : Index := Scalar.indexCast v108
  let c128_172 : Index := 128#32
  ![v219.toNat, 128]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c1_i32_83 : BitVec 32 := 1#32
  let c2_i32 : BitVec 32 := 2#32
  let v9 : BitVec 32 := Scalar.shrsi v2 c2_i32
  let c1_i32_4 : BitVec 32 := 1#32
  let v10 : BitVec 32 := Scalar.andi v9 c1_i32_4
  let v106 : BitVec 32 := Scalar.subi c1_i32_83 v10
  let c512_i32_84 : BitVec 32 := 512#32
  let v107 : BitVec 32 := Scalar.muli v106 c512_i32_84
  let v108 : BitVec 32 := Scalar.addi v99 v107
  let c128_i32_181 : BitVec 32 := 128#32
  ![v108.toNat, 128]
def k0_dev10 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_177 : BitVec 32 := 1#32
  let v226 : BitVec 32 := Scalar.muli v5 c1_i32_177
  let v227 : BitVec 32 := Scalar.addi c0_i32_178 v226
  v227.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_2 : BitVec 32 := 1#32
  let v7 : BitVec 32 := Scalar.shrsi v2 c1_i32_2
  let c1_i32_3 : BitVec 32 := 1#32
  let v8 : BitVec 32 := Scalar.andi v7 c1_i32_3
  let c512_i32 : BitVec 32 := 512#32
  let v87 : BitVec 32 := Scalar.muli v8 c512_i32
  let v88 : BitVec 32 := Scalar.addi v86 v87
  let v247 : Index := Scalar.indexCast v88
  let c0_199 : Index := 0#32
  ![v247.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_2 : BitVec 32 := 1#32
  let v7 : BitVec 32 := Scalar.shrsi v2 c1_i32_2
  let c1_i32_3 : BitVec 32 := 1#32
  let v8 : BitVec 32 := Scalar.andi v7 c1_i32_3
  let c512_i32 : BitVec 32 := 512#32
  let v87 : BitVec 32 := Scalar.muli v8 c512_i32
  let v88 : BitVec 32 := Scalar.addi v86 v87
  let c1_i32_76 : BitVec 32 := 1#32
  let c1_i32_1 : BitVec 32 := 1#32
  let v6 : BitVec 32 := Scalar.andi v2 c1_i32_1
  let v96 : BitVec 32 := Scalar.subi c1_i32_76 v6
  let c256_i32_77 : BitVec 32 := 256#32
  let v97 : BitVec 32 := Scalar.muli v96 c256_i32_77
  let v98 : BitVec 32 := Scalar.addi v88 v97
  let v257 : Index := Scalar.indexCast v98
  let c0_205 : Index := 0#32
  ![v257.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_2 : BitVec 32 := 1#32
  let v7 : BitVec 32 := Scalar.shrsi v2 c1_i32_2
  let c1_i32_3 : BitVec 32 := 1#32
  let v8 : BitVec 32 := Scalar.andi v7 c1_i32_3
  let c512_i32 : BitVec 32 := 512#32
  let v87 : BitVec 32 := Scalar.muli v8 c512_i32
  let v88 : BitVec 32 := Scalar.addi v86 v87
  let c1_i32_76 : BitVec 32 := 1#32
  let c1_i32_1 : BitVec 32 := 1#32
  let v6 : BitVec 32 := Scalar.andi v2 c1_i32_1
  let v96 : BitVec 32 := Scalar.subi c1_i32_76 v6
  let c256_i32_77 : BitVec 32 := 256#32
  let v97 : BitVec 32 := Scalar.muli v96 c256_i32_77
  let v98 : BitVec 32 := Scalar.addi v88 v97
  let c0_i32_214 : BitVec 32 := 0#32
  ![v98.toNat, 0]
def k0_dev11 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_210 : BitVec 32 := 1#32
  let v264 : BitVec 32 := Scalar.muli v3 c1_i32_210
  let v265 : BitVec 32 := Scalar.addi c0_i32_211 v264
  v265.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c2_i32 : BitVec 32 := 2#32
  let v9 : BitVec 32 := Scalar.shrsi v2 c2_i32
  let c1_i32_4 : BitVec 32 := 1#32
  let v10 : BitVec 32 := Scalar.andi v9 c1_i32_4
  let c512_i32_79 : BitVec 32 := 512#32
  let v100 : BitVec 32 := Scalar.muli v10 c512_i32_79
  let v101 : BitVec 32 := Scalar.addi v99 v100
  let v285 : Index := Scalar.indexCast v101
  let c128_232 : Index := 128#32
  ![v285.toNat, 128]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c2_i32 : BitVec 32 := 2#32
  let v9 : BitVec 32 := Scalar.shrsi v2 c2_i32
  let c1_i32_4 : BitVec 32 := 1#32
  let v10 : BitVec 32 := Scalar.andi v9 c1_i32_4
  let c512_i32_79 : BitVec 32 := 512#32
  let v100 : BitVec 32 := Scalar.muli v10 c512_i32_79
  let v101 : BitVec 32 := Scalar.addi v99 v100
  let c1_i32_85 : BitVec 32 := 1#32
  let c1_i32_1 : BitVec 32 := 1#32
  let v6 : BitVec 32 := Scalar.andi v2 c1_i32_1
  let v109 : BitVec 32 := Scalar.subi c1_i32_85 v6
  let c256_i32_86 : BitVec 32 := 256#32
  let v110 : BitVec 32 := Scalar.muli v109 c256_i32_86
  let v111 : BitVec 32 := Scalar.addi v101 v110
  let v295 : Index := Scalar.indexCast v111
  let c128_238 : Index := 128#32
  ![v295.toNat, 128]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c2_i32 : BitVec 32 := 2#32
  let v9 : BitVec 32 := Scalar.shrsi v2 c2_i32
  let c1_i32_4 : BitVec 32 := 1#32
  let v10 : BitVec 32 := Scalar.andi v9 c1_i32_4
  let c512_i32_79 : BitVec 32 := 512#32
  let v100 : BitVec 32 := Scalar.muli v10 c512_i32_79
  let v101 : BitVec 32 := Scalar.addi v99 v100
  let c1_i32_85 : BitVec 32 := 1#32
  let c1_i32_1 : BitVec 32 := 1#32
  let v6 : BitVec 32 := Scalar.andi v2 c1_i32_1
  let v109 : BitVec 32 := Scalar.subi c1_i32_85 v6
  let c256_i32_86 : BitVec 32 := 256#32
  let v110 : BitVec 32 := Scalar.muli v109 c256_i32_86
  let v111 : BitVec 32 := Scalar.addi v101 v110
  let c128_i32_248 : BitVec 32 := 128#32
  ![v111.toNat, 128]
def k0_dev12 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_244 : BitVec 32 := 1#32
  let v302 : BitVec 32 := Scalar.muli v3 c1_i32_244
  let v303 : BitVec 32 := Scalar.addi c0_i32_245 v302
  v303.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_2 : BitVec 32 := 1#32
  let v7 : BitVec 32 := Scalar.shrsi v2 c1_i32_2
  let c1_i32_3 : BitVec 32 := 1#32
  let v8 : BitVec 32 := Scalar.andi v7 c1_i32_3
  let c512_i32 : BitVec 32 := 512#32
  let v87 : BitVec 32 := Scalar.muli v8 c512_i32
  let v88 : BitVec 32 := Scalar.addi v86 v87
  let c1_i32_1 : BitVec 32 := 1#32
  let v6 : BitVec 32 := Scalar.andi v2 c1_i32_1
  let c256_i32_71 : BitVec 32 := 256#32
  let v89 : BitVec 32 := Scalar.muli v6 c256_i32_71
  let v90 : BitVec 32 := Scalar.addi v88 v89
  let v323 : Index := Scalar.indexCast v90
  let c0_266 : Index := 0#32
  ![v323.toNat, 0]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_2 : BitVec 32 := 1#32
  let v7 : BitVec 32 := Scalar.shrsi v2 c1_i32_2
  let c1_i32_3 : BitVec 32 := 1#32
  let v8 : BitVec 32 := Scalar.andi v7 c1_i32_3
  let c512_i32 : BitVec 32 := 512#32
  let v87 : BitVec 32 := Scalar.muli v8 c512_i32
  let v88 : BitVec 32 := Scalar.addi v86 v87
  let c1_i32_1 : BitVec 32 := 1#32
  let v6 : BitVec 32 := Scalar.andi v2 c1_i32_1
  let c256_i32_71 : BitVec 32 := 256#32
  let v89 : BitVec 32 := Scalar.muli v6 c256_i32_71
  let v90 : BitVec 32 := Scalar.addi v88 v89
  let c0_i32_274 : BitVec 32 := 0#32
  ![v90.toNat, 0]
def k0_dev13 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_272 : BitVec 32 := 1#32
  let v334 : BitVec 32 := Scalar.muli v3 c1_i32_272
  let v335 : BitVec 32 := Scalar.addi c0_i32_273 v334
  v335.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c2_i32 : BitVec 32 := 2#32
  let v9 : BitVec 32 := Scalar.shrsi v2 c2_i32
  let c1_i32_4 : BitVec 32 := 1#32
  let v10 : BitVec 32 := Scalar.andi v9 c1_i32_4
  let c512_i32_79 : BitVec 32 := 512#32
  let v100 : BitVec 32 := Scalar.muli v10 c512_i32_79
  let v101 : BitVec 32 := Scalar.addi v99 v100
  let c1_i32_1 : BitVec 32 := 1#32
  let v6 : BitVec 32 := Scalar.andi v2 c1_i32_1
  let c256_i32_80 : BitVec 32 := 256#32
  let v102 : BitVec 32 := Scalar.muli v6 c256_i32_80
  let v103 : BitVec 32 := Scalar.addi v101 v102
  let v354 : Index := Scalar.indexCast v103
  let c128_293 : Index := 128#32
  ![v354.toNat, 128]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c2_i32 : BitVec 32 := 2#32
  let v9 : BitVec 32 := Scalar.shrsi v2 c2_i32
  let c1_i32_4 : BitVec 32 := 1#32
  let v10 : BitVec 32 := Scalar.andi v9 c1_i32_4
  let c512_i32_79 : BitVec 32 := 512#32
  let v100 : BitVec 32 := Scalar.muli v10 c512_i32_79
  let v101 : BitVec 32 := Scalar.addi v99 v100
  let c1_i32_1 : BitVec 32 := 1#32
  let v6 : BitVec 32 := Scalar.andi v2 c1_i32_1
  let c256_i32_80 : BitVec 32 := 256#32
  let v102 : BitVec 32 := Scalar.muli v6 c256_i32_80
  let v103 : BitVec 32 := Scalar.addi v101 v102
  let c128_i32_302 : BitVec 32 := 128#32
  ![v103.toNat, 128]
def k0_dev14 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_300 : BitVec 32 := 1#32
  let v365 : BitVec 32 := Scalar.muli v3 c1_i32_300
  let v366 : BitVec 32 := Scalar.addi c0_i32_301 v365
  v366.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c1_i32_2 : BitVec 32 := 1#32
  let v7 : BitVec 32 := Scalar.shrsi v2 c1_i32_2
  let c1_i32_3 : BitVec 32 := 1#32
  let v8 : BitVec 32 := Scalar.andi v7 c1_i32_3
  let c512_i32 : BitVec 32 := 512#32
  let v87 : BitVec 32 := Scalar.muli v8 c512_i32
  let v88 : BitVec 32 := Scalar.addi v86 v87
  let c0_i32_318 : BitVec 32 := 0#32
  ![v88.toNat, 0]
def k0_dev15 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_316 : BitVec 32 := 1#32
  let v383 : BitVec 32 := Scalar.muli v4 c1_i32_316
  let v384 : BitVec 32 := Scalar.addi c0_i32_317 v383
  v384.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c2_i32 : BitVec 32 := 2#32
  let v9 : BitVec 32 := Scalar.shrsi v2 c2_i32
  let c1_i32_4 : BitVec 32 := 1#32
  let v10 : BitVec 32 := Scalar.andi v9 c1_i32_4
  let c512_i32_79 : BitVec 32 := 512#32
  let v100 : BitVec 32 := Scalar.muli v10 c512_i32_79
  let v101 : BitVec 32 := Scalar.addi v99 v100
  let c128_i32_334 : BitVec 32 := 128#32
  ![v101.toNat, 128]
def k0_dev16 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_332 : BitVec 32 := 1#32
  let v401 : BitVec 32 := Scalar.muli v5 c1_i32_332
  let v402 : BitVec 32 := Scalar.addi c0_i32_333 v401
  v402.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_4 : BitVec 32 := 1#32
  let v10 : BitVec 32 := Scalar.andi v9 c1_i32_4
  let c1024_i32 : BitVec 32 := 1024#32
  let v86 : BitVec 32 := Scalar.muli v10 c1024_i32
  let c0_i32_350 : BitVec 32 := 0#32
  ![v86.toNat, 0]
def k0_dev17 (d0 : Dev nD) : Nat :=
  let c0_i32_349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_348 : BitVec 32 := 1#32
  let v419 : BitVec 32 := Scalar.muli v5 c1_i32_348
  let v420 : BitVec 32 := Scalar.addi c0_i32_349 v419
  v420.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v7 : BitVec 32 := Scalar.shrsi v2 c1_i32_2
  let c1_i32_3 : BitVec 32 := 1#32
  let v8 : BitVec 32 := Scalar.andi v7 c1_i32_3
  let c1024_i32_78 : BitVec 32 := 1024#32
  let v99 : BitVec 32 := Scalar.muli v8 c1024_i32_78
  let c128_i32_366 : BitVec 32 := 128#32
  ![v99.toNat, 128]
def k0_dev18 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_364 : BitVec 32 := 1#32
  let v437 : BitVec 32 := Scalar.muli v4 c1_i32_364
  let v438 : BitVec 32 := Scalar.addi c0_i32_365 v437
  v438.toNat
def k0_dev19 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_408 : BitVec 32 := 1#32
  let v494 : BitVec 32 := Scalar.muli v5 c1_i32_408
  let v495 : BitVec 32 := Scalar.addi c0_i32_409 v494
  v495.toNat
def k0_dev20 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_416 : BitVec 32 := 1#32
  let v503 : BitVec 32 := Scalar.muli v4 c1_i32_416
  let v504 : BitVec 32 := Scalar.addi c0_i32_417 v503
  v504.toNat
def k0_dev21 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_449 : BitVec 32 := 1#32
  let v541 : BitVec 32 := Scalar.muli v4 c1_i32_449
  let v542 : BitVec 32 := Scalar.addi c0_i32_450 v541
  v542.toNat
def k0_dev22 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_482 : BitVec 32 := 1#32
  let v579 : BitVec 32 := Scalar.muli v5 c1_i32_482
  let v580 : BitVec 32 := Scalar.addi c0_i32_483 v579
  v580.toNat
def k0_dev23 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_515 : BitVec 32 := 1#32
  let v617 : BitVec 32 := Scalar.muli v3 c1_i32_515
  let v618 : BitVec 32 := Scalar.addi c0_i32_516 v617
  v618.toNat
def k0_dev24 (d0 : Dev nD) : Nat :=
  let c0_i32_549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_548 : BitVec 32 := 1#32
  let v655 : BitVec 32 := Scalar.muli v3 c1_i32_548
  let v656 : BitVec 32 := Scalar.addi c0_i32_549 v655
  v656.toNat
def k0_dev25 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_577 : BitVec 32 := 1#32
  let v687 : BitVec 32 := Scalar.muli v3 c1_i32_577
  let v688 : BitVec 32 := Scalar.addi c0_i32_578 v687
  v688.toNat
def k0_dev26 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_605 : BitVec 32 := 1#32
  let v718 : BitVec 32 := Scalar.muli v3 c1_i32_605
  let v719 : BitVec 32 := Scalar.addi c0_i32_606 v718
  v719.toNat
def k0_dev27 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_621 : BitVec 32 := 1#32
  let v736 : BitVec 32 := Scalar.muli v4 c1_i32_621
  let v737 : BitVec 32 := Scalar.addi c0_i32_622 v736
  v737.toNat
def k0_dev28 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_637 : BitVec 32 := 1#32
  let v754 : BitVec 32 := Scalar.muli v5 c1_i32_637
  let v755 : BitVec 32 := Scalar.addi c0_i32_638 v754
  v755.toNat
def k0_dev29 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_653 : BitVec 32 := 1#32
  let v772 : BitVec 32 := Scalar.muli v5 c1_i32_653
  let v773 : BitVec 32 := Scalar.addi c0_i32_654 v772
  v773.toNat
def k0_dev30 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_669 : BitVec 32 := 1#32
  let v790 : BitVec 32 := Scalar.muli v4 c1_i32_669
  let v791 : BitVec 32 := Scalar.addi c0_i32_670 v790
  v791.toNat
def k0_dev31 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_713 : BitVec 32 := 1#32
  let v847 : BitVec 32 := Scalar.muli v5 c1_i32_713
  let v848 : BitVec 32 := Scalar.addi c0_i32_714 v847
  v848.toNat
def k0_dev32 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_721 : BitVec 32 := 1#32
  let v856 : BitVec 32 := Scalar.muli v4 c1_i32_721
  let v857 : BitVec 32 := Scalar.addi c0_i32_722 v856
  v857.toNat
def k0_dev33 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_754 : BitVec 32 := 1#32
  let v894 : BitVec 32 := Scalar.muli v4 c1_i32_754
  let v895 : BitVec 32 := Scalar.addi c0_i32_755 v894
  v895.toNat
def k0_dev34 (d0 : Dev nD) : Nat :=
  let c0_i32_788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_787 : BitVec 32 := 1#32
  let v932 : BitVec 32 := Scalar.muli v5 c1_i32_787
  let v933 : BitVec 32 := Scalar.addi c0_i32_788 v932
  v933.toNat
def k0_dev35 (d0 : Dev nD) : Nat :=
  let c0_i32_821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_820 : BitVec 32 := 1#32
  let v970 : BitVec 32 := Scalar.muli v3 c1_i32_820
  let v971 : BitVec 32 := Scalar.addi c0_i32_821 v970
  v971.toNat
def k0_dev36 (d0 : Dev nD) : Nat :=
  let c0_i32_854 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_853 : BitVec 32 := 1#32
  let v1008 : BitVec 32 := Scalar.muli v3 c1_i32_853
  let v1009 : BitVec 32 := Scalar.addi c0_i32_854 v1008
  v1009.toNat
def k0_dev37 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_882 : BitVec 32 := 1#32
  let v1040 : BitVec 32 := Scalar.muli v3 c1_i32_882
  let v1041 : BitVec 32 := Scalar.addi c0_i32_883 v1040
  v1041.toNat
def k0_dev38 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_910 : BitVec 32 := 1#32
  let v1071 : BitVec 32 := Scalar.muli v3 c1_i32_910
  let v1072 : BitVec 32 := Scalar.addi c0_i32_911 v1071
  v1072.toNat
def k0_dev39 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_926 : BitVec 32 := 1#32
  let v1089 : BitVec 32 := Scalar.muli v4 c1_i32_926
  let v1090 : BitVec 32 := Scalar.addi c0_i32_927 v1089
  v1090.toNat
def k0_dev40 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_942 : BitVec 32 := 1#32
  let v1107 : BitVec 32 := Scalar.muli v5 c1_i32_942
  let v1108 : BitVec 32 := Scalar.addi c0_i32_943 v1107
  v1108.toNat
def k0_dev41 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_958 : BitVec 32 := 1#32
  let v1125 : BitVec 32 := Scalar.muli v5 c1_i32_958
  let v1126 : BitVec 32 := Scalar.addi c0_i32_959 v1125
  v1126.toNat
def k0_dev42 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_974 : BitVec 32 := 1#32
  let v1143 : BitVec 32 := Scalar.muli v4 c1_i32_974
  let v1144 : BitVec 32 := Scalar.addi c0_i32_975 v1143
  v1144.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x256 : Shape := ⟨2, ![2048, 256]⟩
abbrev S256x4096 : Shape := ⟨2, ![256, 4096]⟩
abbrev S4096x256 : Shape := ⟨2, ![4096, 256]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x256, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x256, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Tiles.lean ====
/-
# The machine's partners and the regions the transfers move

Eight devices; three partners of a device; the two column halves ("chains") of the 2048×256 buffers, with the row
ranges each stage sends and keeps; the remote copies, numbered in the order the kernel starts them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.K

open Cert.KernelIdeal Cert.KernelIdeal.Gen
open Idealize.ShloMosaic
open Idealize.ShloMosaic.TcCoe

/-! ## Partners -/

/-- The three partners of a device: the numbers that differ from its own by 1, by 3 and by 4 in binary. -/
def prt (j : Fin 3) (c : Fin 8) : Fin 8 :=
  match j with
  | 0 => ![1, 0, 3, 2, 5, 4, 7, 6] c
  | 1 => ![3, 2, 1, 0, 7, 6, 5, 4] c
  | 2 => ![4, 5, 6, 7, 0, 1, 2, 3] c

/-- Being a partner is mutual. -/
theorem prt_prt (j : Fin 3) (c : Fin 8) : prt j (prt j c) = c := by revert j c; decide

/-- Which partner stage `st` of chain `i` exchanges with. -/
def pj (i : Fin 2) (st : Fin 3) : Fin 3 :=
  match i with
  | 0 => ![2, 1, 0] st
  | 1 => ![1, 2, 0] st

/-- The partner of `c` at stage `st` of chain `i`. -/
def sp (i : Fin 2) (st : Fin 3) (c : Fin 8) : Fin 8 := prt (pj i st) c

theorem sp_sp (i : Fin 2) (st : Fin 3) (c : Fin 8) : sp i st (sp i st c) = c := prt_prt _ _

/-- The first block row of what `c` keeps before stage `st` of chain `i` (`st = 3`: after the last). -/
def kp (i : Fin 2) (st : Fin 4) (c : Fin 8) : Fin 8 :=
  match i, st with
  | 0, 0 => 0 | 0, 1 => ![0, 0, 0, 0, 4, 4, 4, 4] c | 0, 2 => ![0, 0, 2, 2, 4, 4, 6, 6] c | 0, 3 => c
  | 1, 0 => 0 | 1, 1 => ![0, 0, 4, 4, 0, 0, 4, 4] c | 1, 2 => ![0, 0, 4, 4, 2, 2, 6, 6] c | 1, 3 => ![0, 1, 4, 5, 2, 3, 6, 7] c

/-- How many block rows that is. -/
def kn (st : Fin 4) : ℕ := ![8, 4, 2, 1] st

/-- The first block row of what `c` sends at stage `st` of chain `i`: what its partner keeps after it. -/
def sn (i : Fin 2) (st : Fin 3) (c : Fin 8) : Fin 8 := kp i st.succ (sp i st c)

/-- The device that ends a layer's reduction holding block row `r` of chain `i`. -/
def owner (i : Fin 2) (r : Fin 8) : Fin 8 :=
  match i with
  | 0 => r
  | 1 => ![0, 1, 4, 5, 2, 3, 6, 7] r

/-! ## Tiles: a block row of 256 rows in one of the two column halves -/

abbrev Tile : Type := Fin 8 × Fin 2

/-- `n` block rows from `a` on, in the column halves from `b` on, `m` of them. -/
def tl (a n b m : ℕ) : Finset Tile := Finset.univ.filter fun t => (a ≤ t.1.val ∧ t.1.val < a + n) ∧ (b ≤ t.2.val ∧ t.2.val < b + m)

/-- What `c` keeps before stage `st` of chain `i`. -/
def keepT (i : Fin 2) (st : Fin 4) (c : Fin 8) : Finset Tile := tl (kp i st c) (kn st) i 1
/-- What `c` sends at stage `st` of chain `i`. -/
def sendT (i : Fin 2) (st : Fin 3) (c : Fin 8) : Finset Tile := tl (sn i st c) (kn st.succ) i 1
/-- A whole chain. -/
def chainT (i : Fin 2) : Finset Tile := tl 0 8 i 1

theorem keepT_zero (i : Fin 2) (c : Fin 8) : keepT i 0 c = chainT i := by revert i c; decide +kernel
theorem keepT_split (i : Fin 2) (st : Fin 3) (c : Fin 8) : keepT i st.castSucc c = keepT i st.succ c ∪ sendT i st c := by
  revert i st c; decide +kernel
theorem keepT_disj (i : Fin 2) (st : Fin 3) (c : Fin 8) : Disjoint (keepT i st.succ c) (sendT i st c) := by
  revert i st c; decide +kernel
/-- What a device sends is what its partner keeps, and the other way round. -/
theorem sendT_sp (i : Fin 2) (st : Fin 3) (c : Fin 8) : sendT i st (sp i st c) = keepT i st.succ c := by
  revert i st c; decide +kernel
theorem sendT_eq (i : Fin 2) (st : Fin 3) (c : Fin 8) : sendT i st c = keepT i st.succ (sp i st c) := by
  revert i st c; decide +kernel
theorem chainT_union : chainT 0 ∪ chainT 1 = Finset.univ := by decide +kernel
theorem chainT_disj : Disjoint (chainT 0) (chainT 1) := by decide +kernel
theorem owner_keep (i : Fin 2) (c r : Fin 8) (h : (r, i) ∈ keepT i 3 c) : owner i r = c := by
  revert i c r; decide +kernel

/-- The rows the preamble's exchange `j` sends from `c`: its own block, its pair's, its half's. -/
def preT (j : Fin 3) (c : Fin 8) : Finset Tile :=
  match j with
  | 0 => tl c 1 0 2
  | 1 => tl (![0, 0, 2, 2, 4, 4, 6, 6] c) 2 0 2
  | 2 => tl (![0, 0, 0, 0, 4, 4, 4, 4] c) 4 0 2

theorem pre_split0 (c : Fin 8) : preT 1 c = preT 0 c ∪ preT 0 (prt 0 c) := by revert c; decide +kernel
theorem pre_split1 (c : Fin 8) : preT 2 c = preT 1 c ∪ preT 1 (prt 1 c) := by revert c; decide +kernel
theorem pre_split2 (c : Fin 8) : Finset.univ = preT 2 c ∪ preT 2 (prt 2 c) := by revert c; decide +kernel
theorem pre_disj (j : Fin 3) (c : Fin 8) : Disjoint (preT j c) (preT j (prt j c)) := by revert j c; decide +kernel

/-! ## The kernel's offsets -/

theorem off1_eq (c : Dev nD) : k0_off1 c = ![256 * c.val, 0] := by revert c; decide +kernel
theorem off2_eq (c : Dev nD) : k0_off2 c = ![256 * c.val, 0] := by revert c; decide +kernel
theorem off3_eq (c : Dev nD) : k0_off3 c = ![256 * (![0, 0, 2, 2, 4, 4, 6, 6] c), 0] := by revert c; decide +kernel
theorem off4_eq (c : Dev nD) : k0_off4 c = ![256 * (![0, 0, 0, 0, 4, 4, 4, 4] c), 0] := by revert c; decide +kernel
theorem off5_eq (c : Dev nD) : k0_off5 c = ![256 * (sn 0 0 c).val, 0] := by revert c; decide +kernel
theorem off6_eq (c : Dev nD) : k0_off6 c = ![256 * (sn 1 0 c).val, 128] := by revert c; decide +kernel
theorem off7_eq (c : Dev nD) : k0_off7 c = ![256 * (sn 0 0 c).val, 0] := by revert c; decide +kernel
theorem off8_eq (c : Dev nD) : k0_off8 c = ![256 * (sn 1 0 c).val, 128] := by revert c; decide +kernel
theorem off9_eq (c : Dev nD) : k0_off9 c = ![256 * (kp 0 1 c).val, 0] := by revert c; decide +kernel
theorem off10_eq (c : Dev nD) : k0_off10 c = ![256 * (sn 0 1 c).val, 0] := by revert c; decide +kernel
theorem off11_eq (c : Dev nD) : k0_off11 c = ![256 * (sn 0 1 c).val, 0] := by revert c; decide +kernel
theorem off12_eq (c : Dev nD) : k0_off12 c = ![256 * (kp 1 1 c).val, 128] := by revert c; decide +kernel
theorem off13_eq (c : Dev nD) : k0_off13 c = ![256 * (sn 1 1 c).val, 128] := by revert c; decide +kernel
theorem off14_eq (c : Dev nD) : k0_off14 c = ![256 * (sn 1 1 c).val, 128] := by revert c; decide +kernel
theorem off15_eq (c : Dev nD) : k0_off15 c = ![256 * (kp 0 2 c).val, 0] := by revert c; decide +kernel
theorem off16_eq (c : Dev nD) : k0_off16 c = ![256 * (sn 0 2 c).val, 0] := by revert c; decide +kernel
theorem off17_eq (c : Dev nD) : k0_off17 c = ![256 * (sn 0 2 c).val, 0] := by revert c; decide +kernel
theorem off18_eq (c : Dev nD) : k0_off18 c = ![256 * (kp 1 2 c).val, 128] := by revert c; decide +kernel
theorem off19_eq (c : Dev nD) : k0_off19 c = ![256 * (sn 1 2 c).val, 128] := by revert c; decide +kernel
theorem off20_eq (c : Dev nD) : k0_off20 c = ![256 * (sn 1 2 c).val, 128] := by revert c; decide +kernel
theorem off21_eq (c : Dev nD) : k0_off21 c = ![256 * (kp 0 3 c).val, 0] := by revert c; decide +kernel
theorem off22_eq (c : Dev nD) : k0_off22 c = ![256 * (kp 0 3 c).val, 0] := by revert c; decide +kernel
theorem off23_eq (c : Dev nD) : k0_off23 c = ![256 * (kp 1 3 c).val, 128] := by revert c; decide +kernel
theorem off24_eq (c : Dev nD) : k0_off24 c = ![256 * (kp 1 3 c).val, 128] := by revert c; decide +kernel
theorem off25_eq (c : Dev nD) : k0_off25 c = ![256 * (kp 0 2 c).val, 0] := by revert c; decide +kernel
theorem off26_eq (c : Dev nD) : k0_off26 c = ![256 * (kp 1 2 c).val, 128] := by revert c; decide +kernel
theorem off27_eq (c : Dev nD) : k0_off27 c = ![256 * (kp 0 1 c).val, 0] := by revert c; decide +kernel
theorem off28_eq (c : Dev nD) : k0_off28 c = ![256 * (kp 1 1 c).val, 128] := by revert c; decide +kernel

/-! ## The kernel's target devices -/

theorem dev1_eq (c : Dev nD) : (⟨k0_dev1 c, k0_dev1_lt c⟩ : Dev nD) = prt 0 c := by revert c; decide +kernel
theorem dev2_eq (c : Dev nD) : (⟨k0_dev2 c, k0_dev2_lt c⟩ : Dev nD) = prt 1 c := by revert c; decide +kernel
theorem dev3_eq (c : Dev nD) : (⟨k0_dev3 c, k0_dev3_lt c⟩ : Dev nD) = prt 2 c := by revert c; decide +kernel
theorem dev4_eq (c : Dev nD) : (⟨k0_dev4 c, k0_dev4_lt c⟩ : Dev nD) = prt 0 c := by revert c; decide +kernel
theorem dev5_eq (c : Dev nD) : (⟨k0_dev5 c, k0_dev5_lt c⟩ : Dev nD) = prt 1 c := by revert c; decide +kernel
theorem dev6_eq (c : Dev nD) : (⟨k0_dev6 c, k0_dev6_lt c⟩ : Dev nD) = prt 2 c := by revert c; decide +kernel
theorem dev7_eq (c : Dev nD) : (⟨k0_dev7 c, k0_dev7_lt c⟩ : Dev nD) = sp 0 0 c := by revert c; decide +kernel
theorem dev8_eq (c : Dev nD) : (⟨k0_dev8 c, k0_dev8_lt c⟩ : Dev nD) = sp 1 0 c := by revert c; decide +kernel
theorem dev9_eq (c : Dev nD) : (⟨k0_dev9 c, k0_dev9_lt c⟩ : Dev nD) = sp 0 1 c := by revert c; decide +kernel
theorem dev10_eq (c : Dev nD) : (⟨k0_dev10 c, k0_dev10_lt c⟩ : Dev nD) = sp 1 1 c := by revert c; decide +kernel
theorem dev11_eq (c : Dev nD) : (⟨k0_dev11 c, k0_dev11_lt c⟩ : Dev nD) = sp 0 2 c := by revert c; decide +kernel
theorem dev12_eq (c : Dev nD) : (⟨k0_dev12 c, k0_dev12_lt c⟩ : Dev nD) = sp 1 2 c := by revert c; decide +kernel
theorem dev13_eq (c : Dev nD) : (⟨k0_dev13 c, k0_dev13_lt c⟩ : Dev nD) = sp 0 2 c := by revert c; decide +kernel
theorem dev14_eq (c : Dev nD) : (⟨k0_dev14 c, k0_dev14_lt c⟩ : Dev nD) = sp 1 2 c := by revert c; decide +kernel
theorem dev15_eq (c : Dev nD) : (⟨k0_dev15 c, k0_dev15_lt c⟩ : Dev nD) = sp 0 1 c := by revert c; decide +kernel
theorem dev16_eq (c : Dev nD) : (⟨k0_dev16 c, k0_dev16_lt c⟩ : Dev nD) = sp 1 1 c := by revert c; decide +kernel
theorem dev17_eq (c : Dev nD) : (⟨k0_dev17 c, k0_dev17_lt c⟩ : Dev nD) = sp 0 0 c := by revert c; decide +kernel
theorem dev18_eq (c : Dev nD) : (⟨k0_dev18 c, k0_dev18_lt c⟩ : Dev nD) = sp 1 0 c := by revert c; decide +kernel
theorem dev19_eq (c : Dev nD) : (⟨k0_dev19 c, k0_dev19_lt c⟩ : Dev nD) = sp 0 0 c := by revert c; decide +kernel
theorem dev20_eq (c : Dev nD) : (⟨k0_dev20 c, k0_dev20_lt c⟩ : Dev nD) = sp 1 0 c := by revert c; decide +kernel
theorem dev21_eq (c : Dev nD) : (⟨k0_dev21 c, k0_dev21_lt c⟩ : Dev nD) = sp 0 1 c := by revert c; decide +kernel
theorem dev22_eq (c : Dev nD) : (⟨k0_dev22 c, k0_dev22_lt c⟩ : Dev nD) = sp 1 1 c := by revert c; decide +kernel
theorem dev23_eq (c : Dev nD) : (⟨k0_dev23 c, k0_dev23_lt c⟩ : Dev nD) = sp 0 2 c := by revert c; decide +kernel
theorem dev24_eq (c : Dev nD) : (⟨k0_dev24 c, k0_dev24_lt c⟩ : Dev nD) = sp 1 2 c := by revert c; decide +kernel
theorem dev25_eq (c : Dev nD) : (⟨k0_dev25 c, k0_dev25_lt c⟩ : Dev nD) = sp 0 2 c := by revert c; decide +kernel
theorem dev26_eq (c : Dev nD) : (⟨k0_dev26 c, k0_dev26_lt c⟩ : Dev nD) = sp 1 2 c := by revert c; decide +kernel
theorem dev27_eq (c : Dev nD) : (⟨k0_dev27 c, k0_dev27_lt c⟩ : Dev nD) = sp 0 1 c := by revert c; decide +kernel
theorem dev28_eq (c : Dev nD) : (⟨k0_dev28 c, k0_dev28_lt c⟩ : Dev nD) = sp 1 1 c := by revert c; decide +kernel
theorem dev29_eq (c : Dev nD) : (⟨k0_dev29 c, k0_dev29_lt c⟩ : Dev nD) = sp 0 0 c := by revert c; decide +kernel
theorem dev30_eq (c : Dev nD) : (⟨k0_dev30 c, k0_dev30_lt c⟩ : Dev nD) = sp 1 0 c := by revert c; decide +kernel
theorem dev31_eq (c : Dev nD) : (⟨k0_dev31 c, k0_dev31_lt c⟩ : Dev nD) = sp 0 0 c := by revert c; decide +kernel
theorem dev32_eq (c : Dev nD) : (⟨k0_dev32 c, k0_dev32_lt c⟩ : Dev nD) = sp 1 0 c := by revert c; decide +kernel
theorem dev33_eq (c : Dev nD) : (⟨k0_dev33 c, k0_dev33_lt c⟩ : Dev nD) = sp 0 1 c := by revert c; decide +kernel
theorem dev34_eq (c : Dev nD) : (⟨k0_dev34 c, k0_dev34_lt c⟩ : Dev nD) = sp 1 1 c := by revert c; decide +kernel
theorem dev35_eq (c : Dev nD) : (⟨k0_dev35 c, k0_dev35_lt c⟩ : Dev nD) = sp 0 2 c := by revert c; decide +kernel
theorem dev36_eq (c : Dev nD) : (⟨k0_dev36 c, k0_dev36_lt c⟩ : Dev nD) = sp 1 2 c := by revert c; decide +kernel
theorem dev37_eq (c : Dev nD) : (⟨k0_dev37 c, k0_dev37_lt c⟩ : Dev nD) = sp 0 2 c := by revert c; decide +kernel
theorem dev38_eq (c : Dev nD) : (⟨k0_dev38 c, k0_dev38_lt c⟩ : Dev nD) = sp 1 2 c := by revert c; decide +kernel
theorem dev39_eq (c : Dev nD) : (⟨k0_dev39 c, k0_dev39_lt c⟩ : Dev nD) = sp 0 1 c := by revert c; decide +kernel
theorem dev40_eq (c : Dev nD) : (⟨k0_dev40 c, k0_dev40_lt c⟩ : Dev nD) = sp 1 1 c := by revert c; decide +kernel
theorem dev41_eq (c : Dev nD) : (⟨k0_dev41 c, k0_dev41_lt c⟩ : Dev nD) = sp 0 0 c := by revert c; decide +kernel
theorem dev42_eq (c : Dev nD) : (⟨k0_dev42 c, k0_dev42_lt c⟩ : Dev nD) = sp 1 0 c := by revert c; decide +kernel

/-! ## The remote copies, in the order the kernel starts them -/

/-- A remote copy: one of the preamble's three, or of layer `l` the reduction's stage `st` of chain `i`, or the
    gathering's that undoes stage `st` of chain `i`. -/
inductive Ex where
  | pre (j : Fin 3)
  | rs (l st : Fin 3) (i : Fin 2)
  | ag (l st : Fin 3) (i : Fin 2)
deriving DecidableEq

/-- The `k`-th remote copy. -/
def dec (k : Fin 39) : Ex :=
  if h : k.val < 3 then .pre ⟨k.val, h⟩
  else if h' : (k.val - 3) % 12 < 6 then .rs ⟨(k.val - 3) / 12, by omega⟩ ⟨(k.val - 3) % 12 / 2, by omega⟩ ⟨(k.val - 3) % 12 % 2, by omega⟩
  else .ag ⟨(k.val - 3) / 12, by omega⟩ ⟨2 - ((k.val - 3) % 12 - 6) / 2, by omega⟩ ⟨(k.val - 3) % 12 % 2, by omega⟩

/-- The place of a remote copy in that order. -/
def num : Ex → Fin 39
  | .pre j => ⟨j.val, by omega⟩
  | .rs l st i => ⟨3 + 12 * l.val + 2 * st.val + i.val, by omega⟩
  | .ag l st i => ⟨9 + 12 * l.val + 2 * (2 - st.val) + i.val, by omega⟩

theorem num_dec (k : Fin 39) : num (dec k) = k := by revert k; decide +kernel
theorem dec_num (e : Ex) : dec (num e) = e := by
  cases e with
  | pre j => revert j; decide +kernel
  | rs l st i => revert l st i; decide +kernel
  | ag l st i => revert l st i; decide +kernel

/-- Whom remote copy `e` of device `c` goes to: it comes from the same device. -/
def par : Ex → Fin 8 → Fin 8
  | .pre j, c => prt j c
  | .rs _ st i, c => sp i st c
  | .ag _ st i, c => sp i st c

theorem par_par (e : Ex) (c : Fin 8) : par e (par e c) = c := by
  cases e with
  | pre j => exact prt_prt j c
  | rs l st i => exact sp_sp i st c
  | ag l st i => exact sp_sp i st c

end Cert.K
-- ==== Proof.Regions.lean ====
/-
# Element sets of the scratch buffers

The elements of a 2048×256 buffer in a set of tiles, and of one slot of the landing buffer: that the kernel's rectangles
and slices go through exactly these, and what a store or a copy leaves at them.
-/
module

public import proofs.«01_k».proof.Proof.Tiles

@[expose] public section

noncomputable section

namespace Cert.K

open Cert.KernelIdeal Cert.KernelIdeal.Gen
open Idealize.ShloMosaic
open Idealize.ShloMosaic.TcCoe

/-! ## The 2048×256 buffers by tiles -/

/-- The tile an element lies in. -/
def tileOf (x : S2048x256.Idx) : Tile :=
  (⟨(x 0).val / 256, by have h : (x 0).val < 2048 := (x 0).isLt; omega⟩, ⟨(x 1).val / 128, by have h : (x 1).val < 256 := (x 1).isLt; omega⟩)

/-- The elements in a set of tiles. -/
def reg (T : Finset Tile) : Finset S2048x256.Idx := Finset.univ.filter fun x => tileOf x ∈ T

theorem mem_reg {T : Finset Tile} {x : S2048x256.Idx} : x ∈ reg T ↔ tileOf x ∈ T := by simp [reg]

theorem reg_univ : reg Finset.univ = Finset.univ := by ext x; simp [mem_reg]

theorem reg_union (T U : Finset Tile) : reg (T ∪ U) = reg T ∪ reg U := by
  ext x; simp only [mem_reg, Finset.mem_union]

theorem reg_disj {T U : Finset Tile} (h : Disjoint T U) : Disjoint (reg T) (reg U) :=
  Finset.disjoint_left.mpr fun x hx hy => Finset.disjoint_left.mp h (mem_reg.mp hx) (mem_reg.mp hy)

/-- A rectangle whose corners are tile corners goes through the elements of its tiles. -/
theorem rect_set {off size : Fin 2 → ℕ} {inb : ∀ a, off a + size a ≤ S2048x256.size a} (a n b m : ℕ)
    (ho : off = ![256 * a, 128 * b]) (hs : size = ![256 * n, 128 * m]) :
    (Rect.unit (s := S2048x256) off size inb).set = reg (tl a n b m) := by
  subst ho hs
  ext x
  rw [Rect.mem_set_unit, mem_reg]
  have h0 : (x 0).val < 2048 := (x 0).isLt
  have h1 : (x 1).val < 256 := (x 1).isLt
  simp only [tl, tileOf, Finset.mem_filter, Finset.mem_univ, true_and]
  constructor
  · intro h
    have e0 := h 0
    have e1 := h 1
    simp only [Matrix.cons_val_zero, Matrix.cons_val_one, Matrix.cons_val_fin_one] at e0 e1
    omega
  · rintro ⟨e0, e1⟩ a'
    match a' with
    | ⟨0, _⟩ => simp only [Fin.zero_eta, Matrix.cons_val_zero]; omega
    | ⟨1, _⟩ => simp only [Fin.mk_one, Matrix.cons_val_one, Matrix.cons_val_fin_one]; omega

/-- The element of the buffer that a rectangle's index names. -/
theorem rect_emb_val {off size : Fin 2 → ℕ} {inb : ∀ a, off a + size a ≤ S2048x256.size a}
    (y : (Rect.unit (s := S2048x256) off size inb).shape.Idx) (a : Fin 2) :
    ((Rect.unit (s := S2048x256) off size inb).emb y a : ℕ) = off a + (y a).val := by
  show off a + 1 * (y a).val = _
  rw [Nat.one_mul]

/-! ## The landing buffer by slots -/

/-- The slot of chain `i`'s stage `st`: the leading rows, as many as that stage sends. -/
def slot (i : Fin 2) (st : Fin 3) : Finset S2x3x1024x128.Idx :=
  Finset.univ.filter fun x => (x 0).val = i.val ∧ (x 1).val = st.val ∧ (x 2).val < 256 * kn st.succ

theorem mem_slot {i : Fin 2} {st : Fin 3} {x : S2x3x1024x128.Idx} :
    x ∈ slot i st ↔ (x 0).val = i.val ∧ (x 1).val = st.val ∧ (x 2).val < 256 * kn st.succ := by simp [slot]

theorem slot_disj {i i' : Fin 2} {st st' : Fin 3} (h : (i, st) ≠ (i', st')) : Disjoint (slot i st) (slot i' st') :=
  Finset.disjoint_left.mpr fun x hx hy => by
    obtain ⟨h0, h1, -⟩ := mem_slot.mp hx
    obtain ⟨g0, g1, -⟩ := mem_slot.mp hy
    exact h (Prod.ext (Fin.ext (h0.symm.trans g0)) (Fin.ext (h1.symm.trans g1)))

/-- A slot's rectangle goes through the slot's elements. -/
theorem slot_rect_set {off size : Fin 4 → ℕ} {inb : ∀ a, off a + size a ≤ S2x3x1024x128.size a} (i : Fin 2) (st : Fin 3)
    (ho : off = ![i.val, st.val, 0, 0]) (hs : size = ![1, 1, 256 * kn st.succ, 128]) :
    (Rect.unit (s := S2x3x1024x128) off size inb).set = slot i st := by
  subst ho hs
  ext x
  rw [Rect.mem_set_unit, mem_slot]
  have h3 : (x 3).val < 128 := (x 3).isLt
  constructor
  · intro h
    have e0 := h 0
    have e1 := h 1
    have e2 := h 2
    simp at e0 e1 e2
    refine ⟨by omega, by omega, by omega⟩
  · rintro ⟨e0, e1, e2⟩ a'
    match a' with
    | ⟨0, _⟩ => simp; omega
    | ⟨1, _⟩ => simp; omega
    | ⟨2, _⟩ => simp; omega
    | ⟨3, _⟩ => simp; omega

theorem slot_emb_val {off size : Fin 4 → ℕ} {inb : ∀ a, off a + size a ≤ S2x3x1024x128.size a}
    (y : (Rect.unit (s := S2x3x1024x128) off size inb).shape.Idx) (a : Fin 4) :
    ((Rect.unit (s := S2x3x1024x128) off size inb).emb y a : ℕ) = off a + (y a).val := by
  show off a + 1 * (y a).val = _
  rw [Nat.one_mul]

/-- The index of a slot's slice that a squeezed index names. -/
theorem squeeze_idx {n m : ℕ} (h : (⟨2, ![n, m]⟩ : Shape).numel = (⟨4, ![1, 1, n, m]⟩ : Shape).numel) (y : (⟨2, ![n, m]⟩ : Shape).Idx) :
    ((Shape.reshapeEquiv h y) 0).val = 0 ∧ ((Shape.reshapeEquiv h y) 1).val = 0 ∧
      ((Shape.reshapeEquiv h y) 2).val = (y 0).val ∧ ((Shape.reshapeEquiv h y) 3).val = (y 1).val := by
  have e : Shape.reshapeEquiv h y = (fun a => match a with
      | ⟨0, _⟩ => (⟨0, Nat.one_pos⟩ : Fin 1) | ⟨1, _⟩ => (⟨0, Nat.one_pos⟩ : Fin 1) | ⟨2, _⟩ => y 0 | ⟨3, _⟩ => y 1 : (⟨4, ![1, 1, n, m]⟩ : Shape).Idx) := by
    refine Shape.reshapeEquiv_eq_of_rowMajor h ?_
    rw [Shape.rowMajor_val_four, Shape.rowMajor_val_two]
    show ((0 * 1 + 0) * n + (y 0).val) * m + (y 1).val = (y 0).val * m + (y 1).val
    simp
  rw [e]
  exact ⟨rfl, rfl, rfl, rfl⟩

end Cert.K
-- ==== Proof.Values.lean ====
/-
# What the scratch buffers hold

From the device's inputs and weights, over any float type: the activations before each layer, each device's partial
product of a layer, the partial sums after each stage of the reduction, what lands in a slot of the landing buffer; and
the kernel's payloads, element by element.
-/
module

public import proofs.«01_k».proof.Proof.Regions
public import Idealize.ShloMosaic.Lib.Pipeline.Value

@[expose] public section

noncomputable section

namespace Cert.K

open Cert.KernelIdeal Cert.KernelIdeal.Gen
open Idealize.ShloMosaic
open Idealize.ShloMosaic.TcCoe

variable {F : FTy → Type} [FloatOps F]

/-- Every device's block of the input, and its block of every layer's two weights. -/
structure Inp (F : FTy → Type) where
  x : Fin 8 → Vec F S256x256 .f32
  win : Fin 3 → Fin 8 → Vec F S256x512 .f32
  wout : Fin 3 → Fin 8 → Vec F S512x256 .f32

/-- An element rounded to the narrow format. -/
def trS (a : F .f32) : F .bf16 := FloatOps.truncf .bf16 bitsLt_bf16_f32 a
/-- An element of the narrow format widened. -/
def exS (a : F .bf16) : F .f32 := FloatOps.extf .f32 bitsLt_bf16_f32 a

/-- The index of a 2048×256 array at a row and a column (taken into range). -/
def ix2 (r j : ℕ) : S2048x256.Idx := fun a => match a with
  | ⟨0, _⟩ => (⟨r % 2048, Nat.mod_lt _ (by decide)⟩ : Fin 2048)
  | ⟨1, _⟩ => (⟨j % 256, Nat.mod_lt _ (by decide)⟩ : Fin 256)

theorem ix2_eq (x : S2048x256.Idx) {r j : ℕ} (hr : (x 0).val = r) (hj : (x 1).val = j) : ix2 r j = x := by
  subst hr hj
  have h0 : (x 0).val < 2048 := (x 0).isLt
  have h1 : (x 1).val < 256 := (x 1).isLt
  funext a
  match a with
  | ⟨0, _⟩ => exact Fin.ext (Nat.mod_eq_of_lt h0)
  | ⟨1, _⟩ => exact Fin.ext (Nat.mod_eq_of_lt h1)

variable (I : Inp F)

/-- The index of a block that an element of the whole input lies at. -/
def blkIx (x : S2048x256.Idx) : S256x256.Idx := fun a => match a with
  | ⟨0, _⟩ => (⟨(x 0).val % 256, Nat.mod_lt _ (by decide)⟩ : Fin 256)
  | ⟨1, _⟩ => (x 1 : Fin 256)

/-- The whole input, rounded. -/
def X0 : Vec F S2048x256 .bf16 := fun x => trS (I.x (tileOf x).1 (blkIx x))

/-- Device `c`'s partial product of layer `l` on activations `X`. -/
def part (l : Fin 3) (X : Vec F S2048x256 .bf16) (c : Fin 8) : Vec F S2048x256 .f32 :=
  k0_pay4 (k0_pay3 X (I.win l c)) (I.wout l c)

/-- One stage of the reduction: each device adds to its own sums its partner's, rounded. -/
def stage (st : Fin 3) (A : Fin 8 → Vec F S2048x256 .f32) (c : Fin 8) : Vec F S2048x256 .f32 :=
  fun x => FloatOps.addf (A c x) (exS (trS (A (sp (tileOf x).2 st c) x)))

/-- The sums before stage `st` (`3`: after the last), on activations `X`. -/
def accX (l : Fin 3) (X : Vec F S2048x256 .bf16) (st : Fin 4) : Fin 8 → Vec F S2048x256 .f32 :=
  match st with
  | 0 => part I l X
  | 1 => stage 0 (part I l X)
  | 2 => stage 1 (stage 0 (part I l X))
  | 3 => stage 2 (stage 1 (stage 0 (part I l X)))

theorem accX_succ (l : Fin 3) (X : Vec F S2048x256 .bf16) (st : Fin 3) :
    accX I l X st.succ = stage st (accX I l X st.castSucc) := by
  match st with
  | 0 => rfl
  | 1 => rfl
  | 2 => rfl

/-- The activations after layer `l` on activations `X`: each element the rounded sum of the device that ends up holding it. -/
def nextX (l : Fin 3) (X : Vec F S2048x256 .bf16) : Vec F S2048x256 .bf16 :=
  fun x => trS (accX I l X 3 (owner (tileOf x).2 (tileOf x).1) x)

/-- The activations before layer `l` (`3`: after the last). -/
def Xs (l : Fin 4) : Vec F S2048x256 .bf16 :=
  match l with
  | 0 => X0 I
  | 1 => nextX I 0 (X0 I)
  | 2 => nextX I 1 (nextX I 0 (X0 I))
  | 3 => nextX I 2 (nextX I 1 (nextX I 0 (X0 I)))

theorem Xs_succ (l : Fin 3) : Xs I l.succ = nextX I l (Xs I l.castSucc) := by
  match l with
  | 0 => rfl
  | 1 => rfl
  | 2 => rfl

/-- The kernel's sums of layer `l` before stage `st`. -/
def acc (l : Fin 3) (st : Fin 4) : Fin 8 → Vec F S2048x256 .f32 := accX I l (Xs I l.castSucc) st

theorem acc_zero (l : Fin 3) (c : Fin 8) : acc I l 0 c = k0_pay4 (k0_pay3 (Xs I l.castSucc) (I.win l c)) (I.wout l c) := rfl

theorem acc_succ (l st : Fin 3) (c : Fin 8) (x : S2048x256.Idx) :
    acc I l st.succ c x = FloatOps.addf (acc I l st.castSucc c x) (exS (trS (acc I l st.castSucc (sp (tileOf x).2 st c) x))) := by
  unfold acc; rw [accX_succ]; rfl

/-- What a device's own last region holds after a layer is the layer's result. -/
theorem Xs_keep (l : Fin 3) (i : Fin 2) (c : Fin 8) (x : S2048x256.Idx) (hx : x ∈ reg (keepT i 3 c)) :
    Xs I l.succ x = trS (acc I l 3 c x) := by
  have ht := mem_reg.mp hx
  have hi : (tileOf x).2 = i := by
    have := (Finset.mem_filter.mp ht).2.2
    exact Fin.ext (by omega)
  rw [Xs_succ]
  show trS (acc I l 3 (owner (tileOf x).2 (tileOf x).1) x) = _
  rw [hi, owner_keep i c (tileOf x).1 (by rw [← hi]; rw [← hi] at ht; exact ht)]

/-- What stage `st` of chain `i` of layer `l` leaves in the slot of its receiver, coming from `p`. -/
def landed (l st : Fin 3) (i : Fin 2) (p : Fin 8) : Vec F S2x3x1024x128 .bf16 :=
  fun y => trS (acc I l st.castSucc p (ix2 (256 * (sn i st p).val + (y 2).val) (128 * i.val + (y 3).val)))

/-! ## The payloads, element by element -/

theorem pay1_eq (v : Vec F S2048x256 .bf16) : k0_pay1 v = fun x => exS (v x) := rfl
theorem pay2_eq (v : Vec F S256x256 .f32) : k0_pay2 v = fun x => trS (v x) := by
  unfold k0_pay2; simp only [shapeCast_self]; rfl
theorem pay5_eq (v : Vec F S1024x128 .f32) : k0_pay5 v = fun x => trS (v x) := by
  unfold k0_pay5; simp only [shapeCast_self]; rfl
theorem pay8_eq (v : Vec F S512x128 .f32) : k0_pay8 v = fun x => trS (v x) := by
  unfold k0_pay8; simp only [shapeCast_self]; rfl
theorem pay12_eq (v : Vec F S256x128 .f32) : k0_pay12 v = fun x => trS (v x) := by
  unfold k0_pay12; simp only [shapeCast_self]; rfl
theorem pay7_eq (v : Vec F S1024x128 .f32) (w : Vec F S1x1x1024x128 .bf16) :
    k0_pay7 v w = fun x => FloatOps.addf (v x) (exS (w (Shape.reshapeEquiv shapeCasts_S1x1x1024x128_S1024x128 x))) := by
  unfold k0_pay7; simp only [shapeCast_self]; rfl
theorem pay11_eq (v : Vec F S512x128 .f32) (w : Vec F S1x1x512x128 .bf16) :
    k0_pay11 v w = fun x => FloatOps.addf (v x) (exS (w (Shape.reshapeEquiv shapeCasts_S1x1x512x128_S512x128 x))) := by
  unfold k0_pay11; simp only [shapeCast_self]; rfl
theorem pay17_eq (v : Vec F S256x128 .f32) (w : Vec F S1x1x256x128 .bf16) :
    k0_pay17 v w = fun x => trS (FloatOps.addf (v x) (exS (w (Shape.reshapeEquiv shapeCasts_S1x1x256x128_S256x128 x)))) := by
  unfold k0_pay17; simp only [shapeCast_self]; rfl
theorem pay15_16_eq (v : Vec F S256x128 .f32) (w : Vec F S1x1x256x128 .bf16) :
    k0_pay16 (k0_pay15 v w) = k0_pay17 v w := rfl
theorem pay30_31_eq (v : Vec F S256x128 .f32) (w : Vec F S1x1x256x128 .bf16) :
    k0_pay31 (k0_pay30 v w) = k0_pay17 v w := rfl
theorem pay32_eq (v : Vec F S256x128 .f32) (w : Vec F S1x1x256x128 .bf16) : k0_pay32 v w = k0_pay17 v w := rfl
theorem pay46_47_eq (v : Vec F S256x128 .f32) (w : Vec F S1x1x256x128 .bf16) :
    k0_pay47 (k0_pay46 v w) = k0_pay17 v w := rfl
theorem pay48_49_eq (v : Vec F S256x128 .f32) (w : Vec F S1x1x256x128 .bf16) :
    k0_pay49 v (k0_pay48 w) = k0_pay17 v w := rfl
theorem pay38_39_eq (v : Vec F S512x128 .f32) : k0_pay39 (k0_pay38 v) = k0_pay8 v := rfl

theorem pay19_18_eq (X : Vec F S2048x256 .bf16) (w : Vec F S256x512 .f32) (u : Vec F S512x256 .f32) :
    k0_pay19 (k0_pay18 X w) u = k0_pay4 (k0_pay3 X w) u := rfl
theorem pay34_33_eq (X : Vec F S2048x256 .bf16) (w : Vec F S256x512 .f32) (u : Vec F S512x256 .f32) :
    k0_pay34 (k0_pay33 X w) u = k0_pay4 (k0_pay3 X w) u := rfl

end Cert.K
-- ==== Proof.Proto.lean ====
/-
# The protocol

Each semaphore the kernel uses, as a cell of the rounds library with one round: the barrier cell, paid one unit by each
of the three partners, and a send and a receive cell for each of the 39 remote copies. With each payment goes what the
payer hands over: at the barrier the parts of its buffers its partners will copy into, at a send the region copied
from, at a receive the region copied into — and, with the reduction's copies, the part of the activations the receiver will copy
back into during the gathering, with the gathering's the landing slot the receiver will copy into in the next layer.
-/
module

public import proofs.«01_k».proof.Proof.Values

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The launch's barrier semaphore. -/
abbrev barS : Sem sig := (SemArray.scalar (sig.barrier 0 rfl) : Sems sig S_).sem
/-- The `k`-th remote copy's send and receive semaphores. -/
def sendS (k : Fin 39) : DmaSem sig := ⟨8 + k.val, by have := k.isLt; show 8 + k.val < 86; omega⟩
def recvS (k : Fin 39) : DmaSem sig := ⟨47 + k.val, by have := k.isLt; show 47 + k.val < 86; omega⟩

abbrev barCell (c : Dev nD) : GSem nD τ sig := ((c : Thread nD τ), .reg barS)
abbrev sendCell (c : Dev nD) (k : Fin 39) : GSem nD τ sig := ((c : Thread nD τ), .dma (sendS k))
abbrev recvCell (c : Dev nD) (k : Fin 39) : GSem nD τ sig := ((c : Thread nD τ), .dma (recvS k))

/-- Which of the copies' semaphores a semaphore is: `false` send, `true` receive. -/
def semIx (s : SemLoc sig) : Option (Bool × Fin 39) :=
  match s with
  | .reg _ => none
  | .dma q => if h : 8 ≤ q.val ∧ q.val < 47 then some (false, ⟨q.val - 8, by omega⟩)
      else if h : 47 ≤ q.val ∧ q.val < 86 then some (true, ⟨q.val - 47, by omega⟩) else none

theorem semIx_send (k : Fin 39) : semIx (.dma (sendS k)) = some (false, k) := by
  have := k.isLt
  unfold semIx sendS
  simp only
  rw [dif_pos ⟨by omega, by omega⟩]
  simp
theorem semIx_recv (k : Fin 39) : semIx (.dma (recvS k)) = some (true, k) := by
  have := k.isLt
  unfold semIx recvS
  simp only
  rw [dif_neg (by omega), dif_pos ⟨by omega, by omega⟩]
  simp
theorem semIx_bar : semIx (.reg barS) = none := rfl

/-! ## Points-tos -/

/-- Device `c`'s activations scratch on a set of tiles. -/
def xP (c : Dev nD) (T : Finset Tile) (f : Vec F S2048x256 .bf16) : sProp 𝕄 :=
  ((c : Thread nD τ).loc cc0_scratch0) ↦[reg T]{fullShare} f
/-- Device `c`'s sums. -/
def pP (c : Dev nD) (T : Finset Tile) (f : Vec F S2048x256 .f32) : sProp 𝕄 :=
  ((c : Thread nD τ).loc cc0_scratch1) ↦[reg T]{fullShare} f
/-- Device `c`'s rounded sums. -/
def bP (c : Dev nD) (T : Finset Tile) (f : Vec F S2048x256 .bf16) : sProp 𝕄 :=
  ((c : Thread nD τ).loc cc0_scratch2) ↦[reg T]{fullShare} f
/-- Device `c`'s landing buffer on a set of elements. -/
def rP (c : Dev nD) (S : Finset S2x3x1024x128.Idx) (f : Vec F S2x3x1024x128 .bf16) : sProp 𝕄 :=
  ((c : Thread nD τ).loc cc0_scratch3) ↦[S]{fullShare} f

/-- Some contents. -/
def xE (c : Dev nD) (T : Finset Tile) : sProp 𝕄 := iprop(∃ f : Vec F S2048x256 .bf16, xP c T f)
def pE (c : Dev nD) (T : Finset Tile) : sProp 𝕄 := iprop(∃ f : Vec F S2048x256 .f32, pP c T f)
def bE (c : Dev nD) (T : Finset Tile) : sProp 𝕄 := iprop(∃ f : Vec F S2048x256 .bf16, bP c T f)
def rE (c : Dev nD) (S : Finset S2x3x1024x128.Idx) : sProp 𝕄 := iprop(∃ f : Vec F S2x3x1024x128 .bf16, rP c S f)

instance xP_storable (c T) (f : Vec F S2048x256 .bf16) : BI.Storable (upEmb : UEmb _ 𝕄) (xP c T f) := by unfold xP; infer_instance
instance pP_storable (c T) (f : Vec F S2048x256 .f32) : BI.Storable (upEmb : UEmb _ 𝕄) (pP c T f) := by unfold pP; infer_instance
instance bP_storable (c T) (f : Vec F S2048x256 .bf16) : BI.Storable (upEmb : UEmb _ 𝕄) (bP c T f) := by unfold bP; infer_instance
instance rP_storable (c S) (f : Vec F S2x3x1024x128 .bf16) : BI.Storable (upEmb : UEmb _ 𝕄) (rP c S f) := by unfold rP; infer_instance
instance xE_storable (c T) : BI.Storable (upEmb : UEmb _ 𝕄) (xE (F := F) c T) := by unfold xE; infer_instance
instance rE_storable (c S) : BI.Storable (upEmb : UEmb _ 𝕄) (rE (F := F) c S) := by unfold rE; infer_instance

/-! ## The payments -/

/-- The stages of the two chains at which partner `j` is exchanged with. -/
def stA (j : Fin 3) : Fin 3 := ![2, 1, 0] j
def stB (j : Fin 3) : Fin 3 := ![2, 0, 1] j

variable (I : Inp F)

/-- What partner `j` hands `c` at `c`'s barrier: the rows of its activations and the two slots that `c` copies into. -/
def barPay (c : Dev nD) (j : Fin 3) : sProp 𝕄 :=
  iprop(xE (prt j c) (preT j c) ∗ rE (prt j c) (slot 0 (stA j)) ∗ rE (prt j c) (slot 1 (stB j)))

/-- What `c` gets back once its copy `e` has left. -/
def sendPay (e : Ex) (c : Dev nD) : sProp 𝕄 :=
  match e with
  | .pre j => xP c (preT j c) (X0 I)
  | .rs l st i => bP c (sendT i st c) (fun x => trS (acc I l st.castSucc c x))
  | .ag l st i => xP c (keepT i st.succ c) (Xs I l.succ)

/-- What a gathering copy hands over beside the data: the sender's landing slot, unless the layer is the last. -/
def slotBack (l st : Fin 3) (i : Fin 2) (p : Dev nD) : sProp 𝕄 := if l = 2 then iprop(emp) else rE p (slot i st)

/-- What `c` gets once copy `e` has reached it. -/
def recvPay (e : Ex) (c : Dev nD) : sProp 𝕄 :=
  match e with
  | .pre j => xP c (preT j (prt j c)) (X0 I)
  | .rs l st i => iprop(rP c (slot i st) (landed I l st i (sp i st c)) ∗ xE (sp i st c) (sendT i st (sp i st c)))
  | .ag l st i => iprop(xP c (sendT i st c) (Xs I l.succ) ∗ slotBack l st i (sp i st c))

instance barPay_storable (c j) : BI.Storable (upEmb : UEmb _ 𝕄) (barPay (F := F) c j) := by unfold barPay; infer_instance
instance sendPay_storable (e c) : BI.Storable (upEmb : UEmb _ 𝕄) (sendPay I e c) := by
  unfold sendPay; split <;> infer_instance
instance slotBack_storable (l st i p) : BI.Storable (upEmb : UEmb _ 𝕄) (slotBack (F := F) l st i p) := by
  unfold slotBack; split <;> infer_instance
instance recvPay_storable (e c) : BI.Storable (upEmb : UEmb _ 𝕄) (recvPay I e c) := by
  unfold recvPay; split <;> infer_instance

/-- The shape a stage's copies move. -/
abbrev shp (st : Fin 3) : Shape := ⟨2, ![256 * kn st.succ, 128]⟩

/-- What a copy credits. -/
def amt (e : Ex) : ℕ :=
  match e with
  | .pre 0 => cc0_scratch0.dmaCredit S256x256 .bf16
  | .pre 1 => cc0_scratch0.dmaCredit S512x256 .bf16
  | .pre 2 => cc0_scratch0.dmaCredit S1024x256 .bf16
  | .rs _ st _ => cc0_scratch3.dmaCredit (shp st) .bf16
  | .ag _ st _ => cc0_scratch0.dmaCredit (shp st) .bf16

theorem amt_pos (e : Ex) : 0 < amt e := by
  match e with
  | .pre 0 => exact sig.dmaCredit_pos _ _ _ _ _ (by decide)
  | .pre 1 => exact sig.dmaCredit_pos _ _ _ _ _ (by decide)
  | .pre 2 => exact sig.dmaCredit_pos _ _ _ _ _ (by decide)
  | .rs _ st _ => exact sig.dmaCredit_pos _ _ _ _ _ (by revert st; decide)
  | .ag _ st _ => exact sig.dmaCredit_pos _ _ _ _ _ (by revert st; decide)

/-- The schedule: one round of each cell. -/
def sch : Rounds.Schedule (GSem nD τ sig) (Fin 3) 𝕄 where
  duties g r := if r = 0 ∧ g.1.2 = .tc then (if g.2 = .reg barS then Finset.univ else if (semIx g.2).isSome then {0} else ∅) else ∅
  unitless _ := False
  amount g _ _ := match semIx g.2 with
    | some (_, k) => amt (dec k)
    | none => 1
  payload g _ d := if g.2 = .reg barS then barPay g.1.1 d else match semIx g.2 with
    | some (false, k) => sendPay I (dec k) g.1.1
    | some (true, k) => recvPay I (dec k) g.1.1
    | none => iprop(emp)
  amount_pos g _ _ _ := by
    cases semIx g.2 with
    | none => exact Nat.one_pos
    | some bk => exact amt_pos _

instance sch_payload_storable (g : GSem nD τ sig) (r : ℕ) (d : Fin 3) : BI.Storable (upEmb : UEmb _ 𝕄) ((sch I).payload g r d) := by
  show BI.Storable upEmb (if g.2 = .reg barS then barPay g.1.1 d else match semIx g.2 with
    | some (false, k) => sendPay I (dec k) g.1.1
    | some (true, k) => recvPay I (dec k) g.1.1
    | none => iprop(emp))
  (repeat' split) <;> infer_instance

section Sched
variable (c : Dev nD) (k : Fin 39)

theorem send_ne_bar : (SemLoc.dma (sendS k) : SemLoc sig) ≠ .reg barS := fun h => by cases h
theorem recv_ne_bar : (SemLoc.dma (recvS k) : SemLoc sig) ≠ .reg barS := fun h => by cases h

theorem duties_bar : (sch I).duties (barCell c) 0 = Finset.univ := by
  dsimp only [sch]; rw [if_pos ⟨rfl, rfl⟩]; exact if_pos rfl
theorem duties_send : (sch I).duties (sendCell c k) 0 = {0} := by
  dsimp only [sch]; rw [if_pos ⟨rfl, rfl⟩, if_neg (send_ne_bar k), semIx_send]; rfl
theorem duties_recv : (sch I).duties (recvCell c k) 0 = {0} := by
  dsimp only [sch]; rw [if_pos ⟨rfl, rfl⟩, if_neg (recv_ne_bar k), semIx_recv]; rfl
theorem duties_later (g : GSem nD τ sig) : ∀ r, 1 ≤ r → (sch I).duties g r = ∅ :=
  fun r hr => by dsimp only [sch]; rw [if_neg fun h => by omega]

theorem amount_bar (d : Fin 3) : (sch I).amount (barCell c) 0 d = 1 := rfl
theorem amount_send (d : Fin 3) : (sch I).amount (sendCell c k) 0 d = amt (dec k) := by dsimp only [sch]; rw [semIx_send]
theorem amount_recv (d : Fin 3) : (sch I).amount (recvCell c k) 0 d = amt (dec k) := by dsimp only [sch]; rw [semIx_recv]

theorem expect_bar : (sch I).expect (barCell c) 0 = 3 := by
  unfold Schedule.expect Schedule.amountOf
  rw [duties_bar, Finset.sum_congr rfl fun d _ => amount_bar I c d, Finset.sum_const, Finset.card_univ, Fintype.card_fin, smul_eq_mul]
theorem expect_send : (sch I).expect (sendCell c k) 0 = amt (dec k) := by
  unfold Schedule.expect Schedule.amountOf; rw [duties_send, Finset.sum_singleton, amount_send]
theorem expect_recv : (sch I).expect (recvCell c k) 0 = amt (dec k) := by
  unfold Schedule.expect Schedule.amountOf; rw [duties_recv, Finset.sum_singleton, amount_recv]

theorem payload_bar (j : Fin 3) : (sch I).payload (barCell c) 0 j = barPay c j := by dsimp only [sch]; exact if_pos rfl
theorem payload_send (d : Fin 3) : (sch I).payload (sendCell c k) 0 d = sendPay I (dec k) c := by
  dsimp only [sch]; rw [if_neg (send_ne_bar k), semIx_send]
theorem payload_recv (d : Fin 3) : (sch I).payload (recvCell c k) 0 d = recvPay I (dec k) c := by
  dsimp only [sch]; rw [if_neg (recv_ne_bar k), semIx_recv]

/-- All that the barrier's round hands over: the three partners' parts. -/
theorem rest_bar : bigSep ((sch I).duties (barCell c) 0 \ ∅) (fun d => (sch I).payload (barCell c) 0 d)
    = iprop(barPay c 0 ∗ barPay c 1 ∗ barPay (F := F) c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((sch I).duties (sendCell c k) 0 \ ∅) (fun d => (sch I).payload (sendCell c k) 0 d) = sendPay I (dec k) c := by
  rw [Finset.sdiff_empty, duties_send, bigSep_singleton, payload_send]
theorem rest_recv : bigSep ((sch I).duties (recvCell c k) 0 \ ∅) (fun d => (sch I).payload (recvCell c k) 0 d) = recvPay I (dec k) c := by
  rw [Finset.sdiff_empty, duties_recv, bigSep_singleton, payload_recv]

end Sched

/-! ## What each device owes; the levels -/

/-- The copies from the `n`-th on, each to its receive cell. -/
def Ob (c : Dev nD) (n : ℕ) : CellTallies nD τ sig Unit :=
  ∑ k ∈ Finset.univ.filter (fun k : Fin 39 => n ≤ k.val), tallyAt (recvCell (par (dec k) c) k) () (amt (dec k))

theorem filter_succ (k : Fin 39) : Finset.univ.filter (fun k' : Fin 39 => k.val ≤ k'.val)
    = insert k (Finset.univ.filter (fun k' : Fin 39 => k.val + 1 ≤ k'.val)) := by
  ext k'
  simp only [Finset.mem_filter, Finset.mem_univ, true_and, Finset.mem_insert, Fin.ext_iff]
  omega

theorem not_mem_filter (k : Fin 39) : k ∉ Finset.univ.filter (fun k' : Fin 39 => k.val + 1 ≤ k'.val) := by simp

theorem Ob_succ (c : Dev nD) (k : Fin 39) :
    Ob c k.val = Ob c (k.val + 1) + tallyAt (recvCell (par (dec k) c) k) () (amt (dec k)) := by
  unfold Ob
  rw [filter_succ, Finset.sum_insert (not_mem_filter k), add_comm]

theorem Ob_last (c : Dev nD) : Ob c 39 = 0 := by
  unfold Ob
  rw [Finset.filter_false_of_mem (fun k _ => by have := k.isLt; omega), Finset.sum_empty]

theorem Ob_pos {c : Dev nD} {n : ℕ} {g : GSem nD τ sig} {u : Unit} (h : 0 < Ob c n g u) :
    ∃ k : Fin 39, n ≤ k.val ∧ g = recvCell (par (dec k) c) k := by
  revert g u
  unfold Ob
  refine Finset.sum_induction _ (fun O : CellTallies nD τ sig Unit => ∀ {g : GSem nD τ sig} {u : Unit}, 0 < O g u →
    ∃ k : Fin 39, n ≤ k.val ∧ g = recvCell (par (dec k) c) k) ?_ ?_ ?_
  · intro a b ha hb g u h
    rw [Pi.add_apply, Finsupp.add_apply] at h
    rcases Nat.add_pos_iff_pos_or_pos.mp h with h | h
    · exact ha h
    · exact hb h
  · intro g u h
    exact absurd h (Nat.lt_irrefl 0)
  · intro k hk g u h
    rw [tallyAt_apply] at h
    by_cases h' : g = recvCell (par (dec k) c) k ∧ u = ()
    · exact ⟨k, (Finset.mem_filter.mp hk).2, h'.1⟩
    · rw [if_neg h'] at h; exact absurd h (Nat.lt_irrefl 0)

/-- With the barrier units it owes its partners, in the order it signals them. -/
def O₂ (c : Dev nD) : CellTallies nD τ sig Unit := Ob c 0 + tallyAt (barCell (prt 2 c)) () 1
def O₁ (c : Dev nD) : CellTallies nD τ sig Unit := O₂ c + tallyAt (barCell (prt 1 c)) () 1
def O₀ (c : Dev nD) : CellTallies nD τ sig Unit := O₁ c + tallyAt (barCell (prt 0 c)) () 1

theorem O₀_pos {c : Dev nD} {g : GSem nD τ sig} {u : Unit} (h : 0 < O₀ c g u) :
    (∃ k : Fin 39, g = recvCell (par (dec k) c) k) ∨ ∃ j : Fin 3, g = barCell (prt j c) := by
  unfold O₀ O₁ O₂ at h
  rw [Pi.add_apply, Finsupp.add_apply, Pi.add_apply, Finsupp.add_apply, Pi.add_apply, Finsupp.add_apply, tallyAt_apply, tallyAt_apply, tallyAt_apply] at h
  by_cases h0 : 0 < Ob c 0 g u
  · obtain ⟨k, -, hk⟩ := Ob_pos h0
    exact .inl ⟨k, hk⟩
  by_contra hn
  rw [not_or, not_exists, not_exists] at hn
  rw [if_neg (fun h' => hn.2 2 h'.1), if_neg (fun h' => hn.2 1 h'.1), if_neg (fun h' => hn.2 0 h'.1)] at h
  omega

def L (g : GSem nD τ sig) : Finset Unit := if g.1.2 = .tc then {()} else ∅
/-- Staging and send cells lowest, then the barrier, then the receive cells in the order of their copies. -/
def lv (g : GSem nD τ sig) (_ : Unit) : ℕ := if g.2 = .reg barS then 1 else match semIx g.2 with
  | some (true, k) => k.val + 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_send (c : Dev nD) (k : Fin 39) : lv (sendCell c k) () = 0 := by
  unfold lv; rw [if_neg (send_ne_bar k), semIx_send]
theorem lv_recv (c : Dev nD) (k : Fin 39) : lv (recvCell c k) () = k.val + 2 := by
  unfold lv; rw [if_neg (recv_ne_bar k), semIx_recv]

/-- A device that owes only copies from the `n`-th on may wait at any cell below their levels. -/
theorem mayWait_of (c : Dev nD) (sm : SemLoc sig) (n : ℕ) (h : lv ((c : Thread nD τ), sm) () < n + 2) :
    (levAts L lv : sProp 𝕄) ⊢ MayWait (c : Thread nD τ) sm () (Ob c n) :=
  MayOwe.of_cut (L := L) (lev := lv) (n + 1) (fun p hp => by rw [Finset.mem_singleton.mp hp, L_tc]; exact Finset.mem_singleton_self _)
    (fun g u hg => by obtain ⟨k, -, rfl⟩ := Ob_pos hg; exact Finset.mem_singleton_self _)
    (fun p hp => by rw [Finset.mem_singleton.mp hp]; exact Nat.lt_succ_iff.mp h)
    (fun g u hg => by
      obtain ⟨k, hk, rfl⟩ := Ob_pos hg
      rw [lv_recv]; omega)

/-- Staging cells are below everything a device may owe. -/
theorem mayWait_stage (c : Dev nD) (q : DmaSem sig) (hq : semIx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨j, rfl⟩ <;> exact Finset.mem_singleton_self _)
      (fun p hp => by rw [Finset.mem_singleton.mp hp]; dsimp only [lv]; rw [if_neg (fun h => by cases h), hq])
      (fun g u hg => by
        rcases O₀_pos hg with ⟨k, rfl⟩ | ⟨j, rfl⟩
        · rw [lv_recv]; omega
        · rw [lv_bar]; decide)
  · rw [MayWait_zero]; iintro -; iempintro

end Cert.K
-- ==== Proof.Steps.lean ====
/-
# One operation at a time: the remote copies and their waits

The tokens of the copies still to start and of those done, kept together with what the device owes; and a rule for each
kind of operation on them.
-/
module

public import proofs.«01_k».proof.Proof.Proto

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of device `c`'s core. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Invariants -/

/-- A device's cells: its barrier cell, its send cells (`false`) and its receive cells (`true`). -/
abbrev CI : Type := Option (Bool × Fin 39)

def csem : CI → SemLoc sig
  | none => .reg barS
  | some (false, k) => .dma (sendS k)
  | some (true, k) => .dma (recvS k)
abbrev kcell (ck : Dev nD × CI) : GSem nD τ sig := ((ck.1 : Thread nD τ), csem ck.2)

variable (I : Inp F) (K : Dev nD × CI → ℕ)

/-- Every cell's invariant, and that its first round is open. -/
def Recs : sProp 𝕄 :=
  iprop(bigSep Finset.univ (fun ck : Dev nD × CI => cellInv ER (sch I) (K ck) (kcell ck))
    ∗ bigSep Finset.univ (fun ck : Dev nD × CI => reached ER (kcell ck) 0))

instance Recs_persistent : BI.Persistent (Recs I K) := by unfold Recs; infer_instance

theorem Recs_inv (ck : Dev nD × CI) : Recs I K ⊢ cellInv ER (sch I) (K ck) (kcell ck) := by
  unfold Recs
  exact sep_elim_left.trans (bigSep_elim (Finset.mem_univ ck))
theorem Recs_reached (ck : Dev nD × CI) : Recs I K ⊢ (reached ER (kcell ck) 0 : sProp 𝕄) := by
  unfold Recs
  exact sep_elim_right.trans (bigSep_elim (Finset.mem_univ ck))

/-! ## Tokens -/

/-- What device `c` holds of copy `k` before it starts it. -/
def Tok (c : Dev nD) (k : Fin 39) : sProp 𝕄 :=
  iprop(dutyTok ER (sendCell c k) 0 0 ∗ dutyTok ER (recvCell (par (dec k) c) k) 0 0
    ∗ atPos ER (sendCell c k) 0 ∅ 0 ∗ atPos ER (recvCell c k) 0 ∅ 0 ∗ cred (tallyAt (recvCell c k) () (amt (dec k))))
/-- Once it has started it. -/
def Fl (c : Dev nD) (k : Fin 39) : sProp 𝕄 :=
  iprop(cred (tallyAt (sendCell c k) () (amt (dec k))) ∗ atPos ER (sendCell c k) 0 ∅ 0 ∗ atPos ER (recvCell c k) 0 ∅ 0
    ∗ cred (tallyAt (recvCell c k) () (amt (dec k))))
/-- Once it has left. -/
def W1 (c : Dev nD) (k : Fin 39) : sProp 𝕄 :=
  iprop(atPos ER (sendCell c k) (0 + 1) ∅ 0 ∗ atPos ER (recvCell c k) 0 ∅ 0 ∗ cred (tallyAt (recvCell c k) () (amt (dec k))))
/-- Once its counterpart has reached `c`. -/
def Dn (c : Dev nD) (k : Fin 39) : sProp 𝕄 :=
  iprop(atPos ER (sendCell c k) (0 + 1) ∅ 0 ∗ atPos ER (recvCell c k) (0 + 1) ∅ 0)

/-- What `c` owes from copy `n` on, whatever waits it has met. -/
def owesN (c : Dev nD) (n : ℕ) : sProp 𝕄 := iprop(∃ W : Waits sig Unit, owes (c : Thread nD τ) (Ob c n) W)

/-- The records, the tokens of the copies from the `n`-th on, what is owed for them, and the copies before the `m`-th done. -/
def Pool (c : Dev nD) (n m : ℕ) : sProp 𝕄 :=
  iprop(Recs I K ∗ levAts L lv ∗ bigSep (Finset.univ.filter fun k : Fin 39 => n ≤ k.val) (fun k => Tok c k) ∗ owesN c n
    ∗ bigSep (Finset.univ.filter fun k : Fin 39 => k.val < m) (fun k => Dn c k))

theorem toks_succ (c : Dev nD) (k : Fin 39) :
    bigSep (Finset.univ.filter fun k' : Fin 39 => k.val ≤ k'.val) (fun k' => Tok (F := F) c k')
      = iprop(Tok c k ∗ bigSep (Finset.univ.filter fun k' : Fin 39 => k.val + 1 ≤ k'.val) (fun k' => Tok (F := F) c k')) := by
  rw [filter_succ, bigSep_insert (not_mem_filter k)]; rfl

theorem done_succ (c : Dev nD) (k : Fin 39) :
    bigSep (Finset.univ.filter fun k' : Fin 39 => k'.val < k.val + 1) (fun k' => Dn (F := F) c k')
      = iprop(Dn c k ∗ bigSep (Finset.univ.filter fun k' : Fin 39 => k'.val < k.val) (fun k' => Dn (F := F) c k')) := by
  have h : Finset.univ.filter (fun k' : Fin 39 => k'.val < k.val + 1) = insert k (Finset.univ.filter (fun k' : Fin 39 => k'.val < k.val)) := by
    ext k'
    simp only [Finset.mem_filter, Finset.mem_univ, true_and, Finset.mem_insert, Fin.ext_iff]
    omega
  rw [h, bigSep_insert (by simp)]; rfl

/-! ## Rules -/

/-- Starting a copy: its source and its target's elements, and what goes with them, are handed over. -/
theorem send_core (c : Dev nD) (k : Fin 39) {e : Ex} (hk : dec k = e) {n₀ n₁ m : ℕ} (h₀ : k.val = n₀) (h₁ : k.val + 1 = n₁)
    {s : Shape} {el : EltTy} {n : Dev nD} (hn : n = par e c)
    {src : Memref sig .tc .vmem s el} {dst : Memref sig (Dev.tc n : Thread nD τ).2.kind .vmem s el}
    {sS sR : DmaSem sig} (hS : sS = sendS k) (hR : sR = recvS k)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {kt : PUnit → Prog (TpuEff nD τ sig (Elt F) Λ₀ .tc) α}
    (fs : Buf (Elt F) (src.view.loc (c : Thread nD τ))) (fd : Buf (Elt F) (dst.view.loc (n : Thread nD τ))) {A B Fd : sProp 𝕄}
    (hN : dst.view.dmaCredit = amt e)
    (hA : A ⊢ (src.view.loc (c : Thread nD τ) ↦[src.view.set]{fullShare} fs : sProp 𝕄))
    (hB : B ⊢ (dst.view.loc (n : Thread nD τ) ↦[dst.view.set]{fullShare} fd : sProp 𝕄))
    (hp₁ : (src.view.loc (c : Thread nD τ) ↦[src.view.set]{fullShare} fs : sProp 𝕄) ⊢ sendPay I e c)
    (hp₂ : iprop((dst.view.loc (n : Thread nD τ) ↦[dst.view.set]{fullShare} (dst.view.write (Elt F) fd (src.view.read (Elt F) fs) Finset.univ)) ∗ Fd)
      ⊢ recvPay I e n) :
    iprop(Pool I K c n₀ m ∗ A ∗ B ∗ Fd)
      ⊢ iprop(((Pool I K c n₁ m ∗ Fl c k) -∗ WP c (kt ⟨⟩) Q)
          -∗ WP c (.op (.enqueueDma src (.remote (Dev.tc n : Thread nD τ) dst (.dma sS) hsc) (.dma sR) hsrc hdst hsem) kt) Q) := by
  subst hS hR h₀ h₁ hn hk
  unfold Pool owesN
  rw [toks_succ]
  unfold Tok
  iintro ⟨⟨#HR, #HL, ⟨⟨HtS, HtR, HaS, HaR, HcR⟩, Htoks⟩, ⟨%W, HO⟩, Hd⟩, HA, HB, HF⟩ Hk
  iapply (Rounds.wp_send_pointsTo_with 𝒱₀ ER (sch I) (c : Thread nD τ) none (κ₁ := K (c, some (false, k))) (κ₂ := K (par (dec k) c, some (true, k)))
    (src := src) (dst := dst) (fs := fs) (fd := fd) (F := Fd)
    (r₁ := 0) (r₂ := 0) (d₁ := 0) (d₂ := 0)
    (by rw [duties_send]; exact Finset.mem_singleton_self _) (by rw [duties_recv]; exact Finset.mem_singleton_self _)
    () () (amt (dec k)) (sem := .dma (recvS k)) hN (amount_send I c k 0) (amount_recv I (par (dec k) c) k 0) (Ob c (k.val + 1)) (Ob_succ c k) (W := W)
    (by rw [payload_send]; exact hp₁) (by rw [payload_recv]; exact hp₂)) $$ [HA HB HF HO HtS HtR]
  · isplitr; · iapply (Recs_inv I K (c, some (false, k))); iexact HR
    isplitr; · iapply (Recs_inv I K (par (dec k) c, some (true, k))); iexact HR
    isplitl [HA]; · iapply hA; iexact HA
    isplitl [HB HF]
    · isplitl [HB]; · iapply hB; iexact HB
      iexact HF
    isplitl [HO]; · iexact HO
    isplitl [HtS]; · iexact HtS
    isplitr; · iapply (Recs_reached I K (c, some (false, k))); iexact HR
    isplitl [HtR]; · iexact HtR
    iapply (Recs_reached I K (par (dec k) c, some (true, k))); iexact HR
  iintro ⟨HcS, HO⟩
  iapply Hk
  isplitl [Htoks HO Hd]
  · isplitr; · iexact HR
    isplitr; · iexact HL
    isplitl [Htoks]; · iexact Htoks
    isplitl [HO]; · iexists W; iexact HO
    iexact Hd
  unfold Fl
  isplitl [HcS]; · iexact HcS
  isplitl [HaS]; · iexact HaS
  isplitl [HaR]; · iexact HaR
  iexact HcR

/-- Waiting until a copy has left: what was copied from comes back. -/
theorem swait (c : Dev nD) (k : Fin 39) {e : Ex} (hk : dec k = e) {n m : ℕ}
    {s s' : Shape} {el el' : EltTy} {κ' : Kind} {src : Memref sig .tc .vmem s' el'} {dst : Memref sig κ' .vmem s el}
    {sm : DmaSem sig} (hS : sm = sendS k) {hsrc : src.view.WordExact} {hdst : dst.view.WordExact}
    {α : Type} {Q : α → sProp 𝕄} {kt : PUnit → Prog (TpuEff nD τ sig (Elt F) Λ₀ .tc) α}
    (hN : dst.view.dmaCredit = amt e) :
    iprop(Pool I K c n m ∗ Fl c k)
      ⊢ iprop(((Pool I K c n m ∗ W1 c k ∗ sendPay I e c) -∗ WP c (kt ⟨⟩) Q)
          -∗ WP c (.op (.waitDma2 sm src dst hsrc hdst) kt) Q) := by
  subst hS hk
  unfold Pool owesN Fl
  iintro ⟨⟨#HR, #HL, Htoks, ⟨%W, HO⟩, Hd⟩, HcS, HaS, HaR, HcR⟩ Hk
  iapply (Rounds.wp_wait_rest_token 𝒱₀ ER (sch I) (c : Thread nD τ) none (κ := K (c, some (false, k)))
      (wpE_waitDma2_eq 𝒱₀ (c : Thread nD τ) none Set.univ) (Set.mem_univ _) () (O := Ob c n) (W := W) (R := 0) (m := 0) (T := ∅)
      (by rw [Nat.zero_add, expect_send, hN])) $$ [HcS HO HaS]
  · isplitr; · iapply (Recs_inv I K (c, some (false, k))); iexact HR
    isplitl [HcS]; · rw [hN]; iexact HcS
    isplitl [HO]; · iexact HO
    isplitr; · iapply (mayWait_of c _ n (by rw [lv_send]; omega)); iexact HL
    iexact HaS
  iintro ⟨HO, HaS, -, Hpay⟩
  ihave Hp := (Entails.of_eq (rest_send I c k)) $$ Hpay
  iapply Hk
  isplitl [Htoks HO Hd]
  · isplitr; · iexact HR
    isplitr; · iexact HL
    isplitl [Htoks]; · iexact Htoks
    isplitl [HO]; · iexists _; iexact HO
    iexact Hd
  unfold W1
  isplitl [HaS HaR HcR]
  · isplitl [HaS]; · iexact HaS
    isplitl [HaR]; · iexact HaR
    iexact HcR
  iexact Hp

/-- Waiting until the partner's copy has arrived: what it hands over. -/
theorem rwait (c : Dev nD) (k : Fin 39) {e : Ex} (hk : dec k = e) {n m₀ m₁ : ℕ} (h₀ : k.val = m₀) (h₁ : k.val + 1 = m₁) (hlt : k.val < n)
    {s s' : Shape} {el el' : EltTy} {κ' : Kind} {src : Memref sig .tc .vmem s' el'} {dst : Memref sig κ' .vmem s el}
    {sm : DmaSem sig} (hS : sm = recvS k) {hsrc : src.view.WordExact} {hdst : dst.view.WordExact}
    {α : Type} {Q : α → sProp 𝕄} {kt : PUnit → Prog (TpuEff nD τ sig (Elt F) Λ₀ .tc) α}
    (hN : dst.view.dmaCredit = amt e) :
    iprop(Pool I K c n m₀ ∗ W1 c k)
      ⊢ iprop(((Pool I K c n m₁ ∗ recvPay I e c) -∗ WP c (kt ⟨⟩) Q)
          -∗ WP c (.op (.waitDma2 sm src dst hsrc hdst) kt) Q) := by
  subst hS hk h₀ h₁
  unfold Pool owesN W1
  rw [done_succ]
  iintro ⟨⟨#HR, #HL, Htoks, ⟨%W, HO⟩, Hd⟩, HaS, HaR, HcR⟩ Hk
  iapply (Rounds.wp_wait_rest_token 𝒱₀ ER (sch I) (c : Thread nD τ) none (κ := K (c, some (true, k)))
      (wpE_waitDma2_eq 𝒱₀ (c : Thread nD τ) none Set.univ) (Set.mem_univ _) () (O := Ob c n) (W := W) (R := 0) (m := 0) (T := ∅)
      (by rw [Nat.zero_add, expect_recv, hN])) $$ [HcR HO HaR]
  · isplitr; · iapply (Recs_inv I K (c, some (true, k))); iexact HR
    isplitl [HcR]; · rw [hN]; iexact HcR
    isplitl [HO]; · iexact HO
    isplitr; · iapply (mayWait_of c _ n (by rw [lv_recv]; omega)); iexact HL
    iexact HaR
  iintro ⟨HO, HaR, -, Hpay⟩
  ihave Hp := (Entails.of_eq (rest_recv I c k)) $$ Hpay
  iapply Hk
  isplitr [Hp]
  · isplitr; · iexact HR
    isplitr; · iexact HL
    isplitl [Htoks]; · iexact Htoks
    isplitl [HO]; · iexists _; iexact HO
    unfold Dn
    isplitl [HaS HaR]
    · isplitl [HaS]; · iexact HaS
      iexact HaR
    iexact Hd
  iexact Hp

end Cert.K
-- ==== Proof.Ops.lean ====
/-
# One operation at a time: the kernel's loads, stores and copies by tiles

A load or store of a tile-aligned rectangle of a scratch buffer, and the three kinds of remote copy, each on the tiles it
goes through.
-/
module

public import proofs.«01_k».proof.Proof.Steps

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tiles of one buffer -/

theorem reg_mono {T U : Finset Tile} (h : T ⊆ U) : reg T ⊆ reg U := fun x hx => mem_reg.mpr (h (mem_reg.mp hx))

section Tiles
variable (c : Dev nD) {T U V : Finset Tile}

theorem xP_union (h : Disjoint T U) (hV : T ∪ U = V) (f : Vec F S2048x256 .bf16) : (xP c V f : sProp 𝕄) ⊣⊢ iprop(xP c T f ∗ xP c U f) := by
  subst hV; unfold xP; rw [reg_union]; exact pointsTo_union (reg_disj h)
theorem pP_union (h : Disjoint T U) (hV : T ∪ U = V) (f : Vec F S2048x256 .f32) : (pP c V f : sProp 𝕄) ⊣⊢ iprop(pP c T f ∗ pP c U f) := by
  subst hV; unfold pP; rw [reg_union]; exact pointsTo_union (reg_disj h)
theorem bP_union (h : Disjoint T U) (hV : T ∪ U = V) (f : Vec F S2048x256 .bf16) : (bP c V f : sProp 𝕄) ⊣⊢ iprop(bP c T f ∗ bP c U f) := by
  subst hV; unfold bP; rw [reg_union]; exact pointsTo_union (reg_disj h)
theorem xE_split (h : Disjoint T U) (hV : T ∪ U = V) : (xE c V : sProp 𝕄) ⊢ iprop(xE c T ∗ xE c U) := by
  unfold xE
  iintro ⟨%f, H⟩
  ihave ⟨H1, H2⟩ := (xP_union c h hV f).1 $$ H
  isplitl [H1]
  · iexists f; iexact H1
  · iexists f; iexact H2
theorem bE_split (h : Disjoint T U) (hV : T ∪ U = V) : (bE c V : sProp 𝕄) ⊢ iprop(bE c T ∗ bE c U) := by
  unfold bE
  iintro ⟨%f, H⟩
  ihave ⟨H1, H2⟩ := (bP_union c h hV f).1 $$ H
  isplitl [H1]
  · iexists f; iexact H1
  · iexists f; iexact H2
theorem xE_join (h : Disjoint T U) (hV : T ∪ U = V) : iprop(xE c T ∗ xE c U) ⊢ (xE c V : sProp 𝕄) := by
  subst hV
  unfold xE xP
  iintro ⟨⟨%f, H1⟩, ⟨%g, H2⟩⟩
  iexists (reg U).piecewise g f
  rw [reg_union]
  iapply (pointsTo_join (reg_disj h))
  isplitl [H1]; · iexact H1
  iexact H2
theorem bE_join (h : Disjoint T U) (hV : T ∪ U = V) : iprop(bE c T ∗ bE c U) ⊢ (bE c V : sProp 𝕄) := by
  subst hV
  unfold bE bP
  iintro ⟨⟨%f, H1⟩, ⟨%g, H2⟩⟩
  iexists (reg U).piecewise g f
  rw [reg_union]
  iapply (pointsTo_join (reg_disj h))
  isplitl [H1]; · iexact H1
  iexact H2
theorem xP_xE (f : Vec F S2048x256 .bf16) : (xP c T f : sProp 𝕄) ⊢ xE c T := by unfold xE; iintro H; iexists f; iexact H
theorem bP_bE (f : Vec F S2048x256 .bf16) : (bP c T f : sProp 𝕄) ⊢ bE c T := by unfold bE; iintro H; iexists f; iexact H
theorem pP_pE (f : Vec F S2048x256 .f32) : (pP c T f : sProp 𝕄) ⊢ pE c T := by unfold pE; iintro H; iexists f; iexact H
theorem rP_rE {S : Finset S2x3x1024x128.Idx} (f : Vec F S2x3x1024x128 .bf16) : (rP c S f : sProp 𝕄) ⊢ rE c S := by unfold rE; iintro H; iexists f; iexact H
end Tiles

/-! ## Loads and stores -/

section Op
variable (c : Dev nD) {α : Type}
variable {off size : Fin 2 → ℕ} {inb : ∀ a, off a + size a ≤ S2048x256.size a}

omit [FloatOps F] in
/-- The elements a view goes through. -/
theorem view_mem {sp : Space} {s : Shape} {e : EltTy} (v : View sig .tc sp s e) {x : v.ty.Idx} (hx : x ∈ v.set) : ∃ y, v.emb y = x := by
  obtain ⟨y, -, h⟩ := Finset.mem_map.mp hx
  exact ⟨y, h⟩
theorem rect_mem (a n b m : ℕ) (ho : off = ![256 * a, 128 * b]) (hs : size = ![256 * n, 128 * m]) {x : S2048x256.Idx}
    (hx : x ∈ reg (tl a n b m)) : ∃ y, (Rect.unit (s := S2048x256) off size inb).emb y = x := by
  rw [← rect_set (inb := inb) a n b m ho hs, ← View.set_slice_whole cc0_scratch0] at hx
  exact view_mem _ hx

/-- A load of the sums. -/
theorem p_load {Q : α → sProp 𝕄} (a n b m : ℕ) (ho : off = ![256 * a, 128 * b]) (hs : size = ![256 * n, 128 * m]) {T : Finset Tile} (hT : tl a n b m ⊆ T)
    {hl : (Memref.whole cc0_scratch1).view.LoadsAt (Rect.unit (s := S2048x256) off size inb).toLoadRect}
    {kt : ((Rect.unit (s := S2048x256) off size inb).shape.Idx → Elt F .f32) → Prog (TpuEff nD τ sig (Elt F) Λ₀ .tc) α}
    (f : Vec F S2048x256 .f32) :
    (pP c T f : sProp 𝕄) ⊢ iprop((pP c T f -∗ WP c (kt (fun y => f ((Rect.unit (s := S2048x256) off size inb).emb y))) Q)
      -∗ WP c (.op (.load (Memref.whole cc0_scratch1) (Rect.unit (s := S2048x256) off size inb).toLoadRect hl) kt) Q) :=
  wp_load_rect 𝒱₀ (c : Thread nD τ) none Set.univ (m := Memref.whole cc0_scratch1) (r := Rect.unit (s := S2048x256) off size inb)
    (by rw [show ((Memref.whole cc0_scratch1).access (Rect.unit (s := S2048x256) off size inb)).set = _ from View.set_slice_whole _ _, rect_set a n b m ho hs]
        exact reg_mono hT)

/-- A load of the activations whose value is used. -/
theorem x_load {Q : α → sProp 𝕄} (a n b m : ℕ) (ho : off = ![256 * a, 128 * b]) (hs : size = ![256 * n, 128 * m]) {T : Finset Tile} (hT : tl a n b m ⊆ T)
    {hl : (Memref.whole cc0_scratch0).view.LoadsAt (Rect.unit (s := S2048x256) off size inb).toLoadRect}
    {kt : ((Rect.unit (s := S2048x256) off size inb).shape.Idx → Elt F .bf16) → Prog (TpuEff nD τ sig (Elt F) Λ₀ .tc) α}
    (f : Vec F S2048x256 .bf16) :
    (xP c T f : sProp 𝕄) ⊢ iprop((xP c T f -∗ WP c (kt (fun y => f ((Rect.unit (s := S2048x256) off size inb).emb y))) Q)
      -∗ WP c (.op (.load (Memref.whole cc0_scratch0) (Rect.unit (s := S2048x256) off size inb).toLoadRect hl) kt) Q) :=
  wp_load_rect 𝒱₀ (c : Thread nD τ) none Set.univ (m := Memref.whole cc0_scratch0) (r := Rect.unit (s := S2048x256) off size inb)
    (by rw [show ((Memref.whole cc0_scratch0).access (Rect.unit (s := S2048x256) off size inb)).set = _ from View.set_slice_whole _ _, rect_set a n b m ho hs]
        exact reg_mono hT)

/-- A load of the rounded sums. -/
theorem b_load {Q : α → sProp 𝕄} (a n b m : ℕ) (ho : off = ![256 * a, 128 * b]) (hs : size = ![256 * n, 128 * m]) {T : Finset Tile} (hT : tl a n b m ⊆ T)
    {hl : (Memref.whole cc0_scratch2).view.LoadsAt (Rect.unit (s := S2048x256) off size inb).toLoadRect}
    {kt : ((Rect.unit (s := S2048x256) off size inb).shape.Idx → Elt F .bf16) → Prog (TpuEff nD τ sig (Elt F) Λ₀ .tc) α}
    (f : Vec F S2048x256 .bf16) :
    (bP c T f : sProp 𝕄) ⊢ iprop((bP c T f -∗ WP c (kt (fun y => f ((Rect.unit (s := S2048x256) off size inb).emb y))) Q)
      -∗ WP c (.op (.load (Memref.whole cc0_scratch2) (Rect.unit (s := S2048x256) off size inb).toLoadRect hl) kt) Q) :=
  wp_load_rect 𝒱₀ (c : Thread nD τ) none Set.univ (m := Memref.whole cc0_scratch2) (r := Rect.unit (s := S2048x256) off size inb)
    (by rw [show ((Memref.whole cc0_scratch2).access (Rect.unit (s := S2048x256) off size inb)).set = _ from View.set_slice_whole _ _, rect_set a n b m ho hs]
        exact reg_mono hT)

/-- A load whose value is not used. -/
theorem b_skip {Q : α → sProp 𝕄} (a n b m : ℕ) (ho : off = ![256 * a, 128 * b]) (hs : size = ![256 * n, 128 * m]) {T : Finset Tile} (hT : tl a n b m ⊆ T)
    {hl : (Memref.whole cc0_scratch2).view.LoadsAt (Rect.unit (s := S2048x256) off size inb).toLoadRect}
    {p : Prog (TpuEff nD τ sig (Elt F) Λ₀ .tc) α} :
    (bE c T : sProp 𝕄) ⊢ iprop((bE c T -∗ WP c p Q)
      -∗ WP c (.op (.load (Memref.whole cc0_scratch2) (Rect.unit (s := S2048x256) off size inb).toLoadRect hl) (fun _ => p)) Q) := by
  unfold bE
  iintro ⟨%f, H⟩ Hk
  iapply (b_load c a n b m ho hs hT f) $$ H
  iintro H
  iapply Hk
  iexists f; iexact H
theorem x_skip {Q : α → sProp 𝕄} (a n b m : ℕ) (ho : off = ![256 * a, 128 * b]) (hs : size = ![256 * n, 128 * m]) {T : Finset Tile} (hT : tl a n b m ⊆ T)
    {hl : (Memref.whole cc0_scratch0).view.LoadsAt (Rect.unit (s := S2048x256) off size inb).toLoadRect}
    {p : Prog (TpuEff nD τ sig (Elt F) Λ₀ .tc) α} :
    (xE c T : sProp 𝕄) ⊢ iprop((xE c T -∗ WP c p Q)
      -∗ WP c (.op (.load (Memref.whole cc0_scratch0) (Rect.unit (s := S2048x256) off size inb).toLoadRect hl) (fun _ => p)) Q) := by
  unfold xE
  iintro ⟨%f, H⟩ Hk
  iapply (x_load c a n b m ho hs hT f) $$ H
  iintro H
  iapply Hk
  iexists f; iexact H
theorem p_skip {Q : α → sProp 𝕄} (a n b m : ℕ) (ho : off = ![256 * a, 128 * b]) (hs : size = ![256 * n, 128 * m]) {T : Finset Tile} (hT : tl a n b m ⊆ T)
    {hl : (Memref.whole cc0_scratch1).view.LoadsAt (Rect.unit (s := S2048x256) off size inb).toLoadRect}
    {p : Prog (TpuEff nD τ sig (Elt F) Λ₀ .tc) α} :
    (pE c T : sProp 𝕄) ⊢ iprop((pE c T -∗ WP c p Q)
      -∗ WP c (.op (.load (Memref.whole cc0_scratch1) (Rect.unit (s := S2048x256) off size inb).toLoadRect hl) (fun _ => p)) Q) := by
  unfold pE
  iintro ⟨%f, H⟩ Hk
  iapply (p_load c a n b m ho hs hT f) $$ H
  iintro H
  iapply Hk
  iexists f; iexact H

/-- A load of a slot of the landing buffer. -/
theorem r_load {Q : α → sProp 𝕄} (i : Fin 2) (st : Fin 3) {off size : Fin 4 → ℕ} {inb : ∀ a, off a + size a ≤ S2x3x1024x128.size a}
    (ho : off = ![i.val, st.val, 0, 0]) (hs : size = ![1, 1, 256 * kn st.succ, 128])
    {hl : (Memref.whole cc0_scratch3).view.LoadsAt (Rect.unit (s := S2x3x1024x128) off size inb).toLoadRect}
    {kt : ((Rect.unit (s := S2x3x1024x128) off size inb).shape.Idx → Elt F .bf16) → Prog (TpuEff nD τ sig (Elt F) Λ₀ .tc) α}
    (f : Vec F S2x3x1024x128 .bf16) :
    (rP c (slot i st) f : sProp 𝕄) ⊢ iprop((rP c (slot i st) f -∗ WP c (kt (fun y => f ((Rect.unit (s := S2x3x1024x128) off size inb).emb y))) Q)
      -∗ WP c (.op (.load (Memref.whole cc0_scratch3) (Rect.unit (s := S2x3x1024x128) off size inb).toLoadRect hl) kt) Q) :=
  wp_load_rect 𝒱₀ (c : Thread nD τ) none Set.univ (m := Memref.whole cc0_scratch3) (r := Rect.unit (s := S2x3x1024x128) off size inb)
    (by rw [show ((Memref.whole cc0_scratch3).access (Rect.unit (s := S2x3x1024x128) off size inb)).set = _ from View.set_slice_whole _ _, slot_rect_set i st ho hs])

theorem write_p (a n b m : ℕ) (ho : off = ![256 * a, 128 * b]) (hs : size = ![256 * n, 128 * m]) (f g : Vec F S2048x256 .f32)
    (w : (Rect.unit (s := S2048x256) off size inb).shape.Idx → Elt F .f32)
    (hw : ∀ y, w y = g ((Rect.unit (s := S2048x256) off size inb).emb y)) :
    ∀ x ∈ reg (tl a n b m), ((Memref.whole cc0_scratch1).access (Rect.unit (s := S2048x256) off size inb)).write (Elt F) f w Finset.univ x = g x := by
  intro x hx
  obtain ⟨y, rfl⟩ := rect_mem (inb := inb) a n b m ho hs hx
  exact (View.write_emb_of_mem (v := (Memref.whole cc0_scratch1).access (Rect.unit (s := S2048x256) off size inb)) f w (Finset.mem_univ y)).trans (hw y)

/-- A store to the sums: what the buffer holds there afterwards. -/
theorem p_store {Q : α → sProp 𝕄} (a n b m : ℕ) (ho : off = ![256 * a, 128 * b]) (hs : size = ![256 * n, 128 * m]) {T : Finset Tile} (hT : tl a n b m = T)
    {w : (Rect.unit (s := S2048x256) off size inb).shape.Idx → Elt F .f32}
    {hx : ((Memref.whole cc0_scratch1).access (Rect.unit (s := S2048x256) off size inb)).Stores Finset.univ}
    {hm : (Finset.univ : Finset (Rect.unit (s := S2048x256) off size inb).shape.Idx) = Finset.univ ∨ ∀ a, (Rect.unit (s := S2048x256) off size inb).stride a = 1}
    {kt : PUnit → Prog (TpuEff nD τ sig (Elt F) Λ₀ .tc) α} (g : Vec F S2048x256 .f32)
    (hw : ∀ y, w y = g ((Rect.unit (s := S2048x256) off size inb).emb y)) :
    (pE c T : sProp 𝕄) ⊢ iprop((pP c T g -∗ WP c (kt ⟨⟩) Q)
      -∗ WP c (.op (.store (Memref.whole cc0_scratch1) (Rect.unit (s := S2048x256) off size inb) w Finset.univ hx hm) kt) Q) := by
  subst hT
  unfold pE
  iintro ⟨%f, H⟩ Hk
  unfold pP
  iapply (wp_store 𝒱₀ (c : Thread nD τ) none Set.univ (m := Memref.whole cc0_scratch1) (r := Rect.unit (s := S2048x256) off size inb) (Mk := Finset.univ)
    (by rw [View.setOn_univ, show ((Memref.whole cc0_scratch1).access (Rect.unit (s := S2048x256) off size inb)).set = _ from View.set_slice_whole _ _, rect_set a n b m ho hs])) $$ H
  iintro H
  iapply Hk
  iapply (Entails.of_eq (pointsTo_congr (write_p a n b m ho hs f g w hw)))
  iexact H

theorem b_store {Q : α → sProp 𝕄} (a n b m : ℕ) (ho : off = ![256 * a, 128 * b]) (hs : size = ![256 * n, 128 * m]) {T : Finset Tile} (hT : tl a n b m = T)
    {w : (Rect.unit (s := S2048x256) off size inb).shape.Idx → Elt F .bf16}
    {hx : ((Memref.whole cc0_scratch2).access (Rect.unit (s := S2048x256) off size inb)).Stores Finset.univ}
    {hm : (Finset.univ : Finset (Rect.unit (s := S2048x256) off size inb).shape.Idx) = Finset.univ ∨ ∀ a, (Rect.unit (s := S2048x256) off size inb).stride a = 1}
    {kt : PUnit → Prog (TpuEff nD τ sig (Elt F) Λ₀ .tc) α} (g : Vec F S2048x256 .bf16)
    (hw : ∀ y, w y = g ((Rect.unit (s := S2048x256) off size inb).emb y)) :
    (bE c T : sProp 𝕄) ⊢ iprop((bP c T g -∗ WP c (kt ⟨⟩) Q)
      -∗ WP c (.op (.store (Memref.whole cc0_scratch2) (Rect.unit (s := S2048x256) off size inb) w Finset.univ hx hm) kt) Q) := by
  subst hT
  unfold bE
  iintro ⟨%f, H⟩ Hk
  unfold bP
  iapply (wp_store 𝒱₀ (c : Thread nD τ) none Set.univ (m := Memref.whole cc0_scratch2) (r := Rect.unit (s := S2048x256) off size inb) (Mk := Finset.univ)
    (by rw [View.setOn_univ, show ((Memref.whole cc0_scratch2).access (Rect.unit (s := S2048x256) off size inb)).set = _ from View.set_slice_whole _ _, rect_set a n b m ho hs])) $$ H
  iintro H
  iapply Hk
  iapply (Entails.of_eq (pointsTo_congr (g := g) (fun x hx => by
    obtain ⟨y, rfl⟩ := rect_mem (inb := inb) a n b m ho hs hx
    exact (View.write_emb_of_mem (v := (Memref.whole cc0_scratch2).access (Rect.unit (s := S2048x256) off size inb)) f w (Finset.mem_univ y)).trans (hw y))))
  iexact H

theorem x_store {Q : α → sProp 𝕄} (a n b m : ℕ) (ho : off = ![256 * a, 128 * b]) (hs : size = ![256 * n, 128 * m]) {T : Finset Tile} (hT : tl a n b m = T)
    {w : (Rect.unit (s := S2048x256) off size inb).shape.Idx → Elt F .bf16}
    {hx : ((Memref.whole cc0_scratch0).access (Rect.unit (s := S2048x256) off size inb)).Stores Finset.univ}
    {hm : (Finset.univ : Finset (Rect.unit (s := S2048x256) off size inb).shape.Idx) = Finset.univ ∨ ∀ a, (Rect.unit (s := S2048x256) off size inb).stride a = 1}
    {kt : PUnit → Prog (TpuEff nD τ sig (Elt F) Λ₀ .tc) α} (g : Vec F S2048x256 .bf16)
    (hw : ∀ y, w y = g ((Rect.unit (s := S2048x256) off size inb).emb y)) :
    (xE c T : sProp 𝕄) ⊢ iprop((xP c T g -∗ WP c (kt ⟨⟩) Q)
      -∗ WP c (.op (.store (Memref.whole cc0_scratch0) (Rect.unit (s := S2048x256) off size inb) w Finset.univ hx hm) kt) Q) := by
  subst hT
  unfold xE
  iintro ⟨%f, H⟩ Hk
  unfold xP
  iapply (wp_store 𝒱₀ (c : Thread nD τ) none Set.univ (m := Memref.whole cc0_scratch0) (r := Rect.unit (s := S2048x256) off size inb) (Mk := Finset.univ)
    (by rw [View.setOn_univ, show ((Memref.whole cc0_scratch0).access (Rect.unit (s := S2048x256) off size inb)).set = _ from View.set_slice_whole _ _, rect_set a n b m ho hs])) $$ H
  iintro H
  iapply Hk
  iapply (Entails.of_eq (pointsTo_congr (g := g) (fun x hx => by
    obtain ⟨y, rfl⟩ := rect_mem (inb := inb) a n b m ho hs hx
    exact (View.write_emb_of_mem (v := (Memref.whole cc0_scratch0).access (Rect.unit (s := S2048x256) off size inb)) f w (Finset.mem_univ y)).trans (hw y))))
  iexact H

end Op

/-! ## Copies -/

section Send
variable (I : Inp F) (K : Dev nD × CI → ℕ) (c : Dev nD) {α : Type}

theorem x_send {Q : α → sProp 𝕄} (k : Fin 39) {e : Ex} (hk : dec k = e) {n₀ n₁ m : ℕ} (h₀ : k.val = n₀) (h₁ : k.val + 1 = n₁)
    {off size : Fin 2 → ℕ} {inb : ∀ a, off a + size a ≤ S2048x256.size a} {hst hst' : ∀ a, (Rect.unit (s := S2048x256) off size inb).stride a = 1}
    (a w b h : ℕ) (ho : off = ![256 * a, 128 * b]) (hs : size = ![256 * w, 128 * h]) {T : Finset Tile} (hT : tl a w b h = T)
    {n : Dev nD} (hn : n = par e c) {sS sR : DmaSem sig} (hS : sS = sendS k) (hR : sR = recvS k)
    {hsc hsrc hdst hsem} {kt : PUnit → Prog (TpuEff nD τ sig (Elt F) Λ₀ .tc) α} (X : Vec F S2048x256 .bf16) {Fd : sProp 𝕄}
    (hN : cc0_scratch0.dmaCredit (⟨2, size⟩ : Shape) .bf16 = amt e)
    (hp₁ : xP c T X ⊢ sendPay I e c) (hp₂ : iprop(xP (par e c) T X ∗ Fd) ⊢ recvPay I e (par e c)) :
    iprop(Pool I K c n₀ m ∗ xP c T X ∗ xE (par e c) T ∗ Fd)
      ⊢ iprop(((Pool I K c n₁ m ∗ Fl c k) -∗ WP c (kt ⟨⟩) Q)
          -∗ WP c (.op (.enqueueDma ((Memref.whole cc0_scratch0).slice (Rect.unit (s := S2048x256) off size inb) hst)
              (.remote (Dev.tc n : Thread nD τ) ((Memref.whole cc0_scratch0).slice (Rect.unit (s := S2048x256) off size inb) hst') (.dma sS) hsc) (.dma sR) hsrc hdst hsem) kt) Q) := by
  subst hT hn
  have hset : (((Memref.whole cc0_scratch0).slice (Rect.unit (s := S2048x256) off size inb) hst).view).set = reg (tl a w b h) :=
    (View.set_slice_whole _ _).trans (rect_set a w b h ho hs)
  unfold xE
  iintro ⟨HP, HX, ⟨%fd, HE⟩, HF⟩
  iapply (send_core I K c k hk h₀ h₁ (n := par e c) rfl hS hR
    (src := (Memref.whole cc0_scratch0).slice (Rect.unit (s := S2048x256) off size inb) hst)
    (dst := (Memref.whole cc0_scratch0).slice (Rect.unit (s := S2048x256) off size inb) hst') X fd
    (A := xP c (tl a w b h) X) (B := xP (par e c) (tl a w b h) fd) (Fd := Fd) hN
    (Entails.of_eq (by unfold xP; exact congrArg (fun S => (((c : Thread nD τ).loc cc0_scratch0) ↦[S]{fullShare} X : sProp 𝕄)) hset.symm))
    (Entails.of_eq (by unfold xP; exact congrArg (fun S => (((par e c : Thread nD τ).loc cc0_scratch0) ↦[S]{fullShare} fd : sProp 𝕄)) hset.symm))
    ((Entails.of_eq (by unfold xP; exact congrArg (fun S => (((c : Thread nD τ).loc cc0_scratch0) ↦[S]{fullShare} X : sProp 𝕄)) hset)).trans hp₁)
    ((sep_mono_left (Entails.of_eq ((pointsTo_congr (g := X) (fun x hx => by
        obtain ⟨y, rfl⟩ := view_mem _ hx
        exact View.write_emb_of_mem (v := ((Memref.whole cc0_scratch0).slice (Rect.unit (s := S2048x256) off size inb) hst').view) fd _ (Finset.mem_univ y))).trans
      (by unfold xP; exact congrArg (fun S => (((par e c : Thread nD τ).loc cc0_scratch0) ↦[S]{fullShare} X : sProp 𝕄)) hset)))).trans hp₂))
  isplitl [HP]; · iexact HP
  isplitl [HX]; · iexact HX
  isplitl [HE]; · iexact HE
  iexact HF

/-- A copy of a part of the input, before the layers. -/
theorem pre_send {Q : α → sProp 𝕄} (j : Fin 3) (k : Fin 39) (hk : dec k = .pre j) {n₀ n₁ m : ℕ} (h₀ : k.val = n₀) (h₁ : k.val + 1 = n₁)
    {off size : Fin 2 → ℕ} {inb : ∀ a, off a + size a ≤ S2048x256.size a} {hst hst' : ∀ a, (Rect.unit (s := S2048x256) off size inb).stride a = 1}
    (a w b h : ℕ) (ho : off = ![256 * a, 128 * b]) (hs : size = ![256 * w, 128 * h]) (hT : tl a w b h = preT j c)
    {n : Dev nD} (hn : n = prt j c) {sS sR : DmaSem sig} (hS : sS = sendS k) (hR : sR = recvS k)
    {hsc hsrc hdst hsem} {kt : PUnit → Prog (TpuEff nD τ sig (Elt F) Λ₀ .tc) α}
    (hN : cc0_scratch0.dmaCredit (⟨2, size⟩ : Shape) .bf16 = amt (.pre j)) :
    iprop(Pool I K c n₀ m ∗ xP c (preT j c) (X0 I) ∗ xE (prt j c) (preT j c))
      ⊢ iprop(((Pool I K c n₁ m ∗ Fl c k) -∗ WP c (kt ⟨⟩) Q)
          -∗ WP c (.op (.enqueueDma ((Memref.whole cc0_scratch0).slice (Rect.unit (s := S2048x256) off size inb) hst)
              (.remote (Dev.tc n : Thread nD τ) ((Memref.whole cc0_scratch0).slice (Rect.unit (s := S2048x256) off size inb) hst') (.dma sS) hsc) (.dma sR) hsrc hdst hsem) kt) Q) := by
  iintro ⟨HP, HX, HE⟩
  iapply (x_send I K c k hk h₀ h₁ a w b h ho hs hT hn hS hR (X0 I) (Fd := iprop(emp)) hN (Entails.rfl)
    (by show _ ⊢ xP (prt j c) (preT j (prt j (prt j c))) (X0 I)
        rw [prt_prt]
        iintro ⟨H, -⟩; iexact H))
  isplitl [HP]; · iexact HP
  isplitl [HX]; · iexact HX
  isplitl [HE]; · iexact HE
  iempintro

/-- A gathering copy. -/
theorem ag_send {Q : α → sProp 𝕄} (l st : Fin 3) (i : Fin 2) (k : Fin 39) (hk : dec k = .ag l st i) {n₀ n₁ m : ℕ} (h₀ : k.val = n₀) (h₁ : k.val + 1 = n₁)
    {off size : Fin 2 → ℕ} {inb : ∀ a, off a + size a ≤ S2048x256.size a} {hst hst' : ∀ a, (Rect.unit (s := S2048x256) off size inb).stride a = 1}
    (ho : off = ![256 * (kp i st.succ c).val, 128 * i.val]) (hs : size = ![256 * kn st.succ, 128])
    {n : Dev nD} (hn : n = sp i st c) {sS sR : DmaSem sig} (hS : sS = sendS k) (hR : sR = recvS k)
    {hsc hsrc hdst hsem} {kt : PUnit → Prog (TpuEff nD τ sig (Elt F) Λ₀ .tc) α} :
    iprop(Pool I K c n₀ m ∗ xP c (keepT i st.succ c) (Xs I l.succ) ∗ xE (sp i st c) (keepT i st.succ c) ∗ slotBack l st i c)
      ⊢ iprop(((Pool I K c n₁ m ∗ Fl c k) -∗ WP c (kt ⟨⟩) Q)
          -∗ WP c (.op (.enqueueDma ((Memref.whole cc0_scratch0).slice (Rect.unit (s := S2048x256) off size inb) hst)
              (.remote (Dev.tc n : Thread nD τ) ((Memref.whole cc0_scratch0).slice (Rect.unit (s := S2048x256) off size inb) hst') (.dma sS) hsc) (.dma sR) hsrc hdst hsem) kt) Q) := by
  iintro ⟨HP, HX, HE, HF⟩
  iapply (x_send I K c k hk h₀ h₁ (kp i st.succ c).val (kn st.succ) i.val 1 ho hs (T := keepT i st.succ c) rfl hn hS hR (Xs I l.succ)
    (Fd := slotBack l st i c) (by subst hs; rfl) (Entails.rfl)
    (by show _ ⊢ iprop(xP (sp i st c) (sendT i st (sp i st c)) (Xs I l.succ) ∗ slotBack l st i (sp i st (sp i st c)))
        rw [sp_sp, sendT_sp]
        exact Entails.rfl))
  isplitl [HP]; · iexact HP
  isplitl [HX]; · iexact HX
  isplitl [HE]; · iexact HE
  iexact HF

/-- A reducing copy. -/
theorem rs_send {Q : α → sProp 𝕄} (l st : Fin 3) (i : Fin 2) (k : Fin 39) (hk : dec k = .rs l st i) {n₀ n₁ m : ℕ} (h₀ : k.val = n₀) (h₁ : k.val + 1 = n₁)
    {off : Fin 2 → ℕ} {r : ℕ} {inb : ∀ a, off a + (![r, 128] : Fin 2 → ℕ) a ≤ S2048x256.size a} {hst : ∀ a, (Rect.unit (s := S2048x256) off ![r, 128] inb).stride a = 1}
    {off' : Fin 4 → ℕ} {inb' : ∀ a, off' a + (![1, 1, r, 128] : Fin 4 → ℕ) a ≤ S2x3x1024x128.size a} {hst' : ∀ a, (Rect.unit (s := S2x3x1024x128) off' ![1, 1, r, 128] inb').stride a = 1}
    {hsq : (⟨4, ![1, 1, r, 128]⟩ : Shape).Squeezes ⟨2, ![r, 128]⟩}
    (ho : off = ![256 * (sn i st c).val, 128 * i.val]) (hr : r = 256 * kn st.succ) (ho' : off' = ![i.val, st.val, 0, 0])
    {n : Dev nD} (hn : n = sp i st c) {sS sR : DmaSem sig} (hS : sS = sendS k) (hR : sR = recvS k)
    {hsc hsrc hdst hsem} {kt : PUnit → Prog (TpuEff nD τ sig (Elt F) Λ₀ .tc) α} :
    iprop(Pool I K c n₀ m ∗ bP c (sendT i st c) (fun x => trS (acc I l st.castSucc c x)) ∗ rE (sp i st c) (slot i st) ∗ xE c (sendT i st c))
      ⊢ iprop(((Pool I K c n₁ m ∗ Fl c k) -∗ WP c (kt ⟨⟩) Q)
          -∗ WP c (.op (.enqueueDma ((Memref.whole cc0_scratch2).slice (Rect.unit (s := S2048x256) off ![r, 128] inb) hst)
              (.remote (Dev.tc n : Thread nD τ) (((Memref.whole cc0_scratch3).slice (Rect.unit (s := S2x3x1024x128) off' ![1, 1, r, 128] inb') hst').squeeze ⟨2, ![r, 128]⟩ hsq) (.dma sS) hsc) (.dma sR) hsrc hdst hsem) kt) Q) := by
  subst hn hr
  have hset : (((Memref.whole cc0_scratch2).slice (Rect.unit (s := S2048x256) off ![256 * kn st.succ, 128] inb) hst).view).set = reg (sendT i st c) :=
    (View.set_slice_whole _ _).trans (rect_set (sn i st c).val (kn st.succ) i.val 1 ho rfl)
  have hset' : ((((Memref.whole cc0_scratch3).slice (Rect.unit (s := S2x3x1024x128) off' ![1, 1, 256 * kn st.succ, 128] inb') hst').squeeze ⟨2, ![256 * kn st.succ, 128]⟩ hsq).view).set = slot i st :=
    (View.set_reshape _ _).trans ((View.set_slice_whole _ _).trans (slot_rect_set i st ho' rfl))
  unfold rE
  iintro ⟨HP, HX, ⟨%fd, HE⟩, HF⟩
  iapply (send_core I K c k hk h₀ h₁ (n := sp i st c) rfl hS hR
    (src := (Memref.whole cc0_scratch2).slice (Rect.unit (s := S2048x256) off ![256 * kn st.succ, 128] inb) hst)
    (dst := ((Memref.whole cc0_scratch3).slice (Rect.unit (s := S2x3x1024x128) off' ![1, 1, 256 * kn st.succ, 128] inb') hst').squeeze ⟨2, ![256 * kn st.succ, 128]⟩ hsq)
    (fun x => trS (acc I l st.castSucc c x)) fd
    (A := bP c (sendT i st c) (fun x => trS (acc I l st.castSucc c x))) (B := rP (sp i st c) (slot i st) fd) (Fd := xE c (sendT i st c)) rfl
    (Entails.of_eq (by unfold bP; exact congrArg (fun S => (((c : Thread nD τ).loc cc0_scratch2) ↦[S]{fullShare} (fun x => trS (acc I l st.castSucc c x)) : sProp 𝕄)) hset.symm))
    (Entails.of_eq (by unfold rP; exact congrArg (fun S => (((sp i st c : Thread nD τ).loc cc0_scratch3) ↦[S]{fullShare} fd : sProp 𝕄)) hset'.symm))
    (Entails.of_eq (by show _ = bP c (sendT i st c) _; unfold bP; exact congrArg (fun S => (((c : Thread nD τ).loc cc0_scratch2) ↦[S]{fullShare} (fun x => trS (acc I l st.castSucc c x)) : sProp 𝕄)) hset))
    (by
      show _ ⊢ iprop(rP (sp i st c) (slot i st) (landed I l st i (sp i st (sp i st c))) ∗ xE (sp i st (sp i st c)) (sendT i st (sp i st (sp i st c))))
      rw [sp_sp]
      refine sep_mono_left (Entails.of_eq ((pointsTo_congr (g := landed I l st i c) (fun x hx => ?_)).trans
        (by unfold rP; exact congrArg (fun S => (((sp i st c : Thread nD τ).loc cc0_scratch3) ↦[S]{fullShare} landed I l st i c : sProp 𝕄)) hset')))
      obtain ⟨y, rfl⟩ := view_mem _ hx
      refine (View.write_emb_of_mem (v := (((Memref.whole cc0_scratch3).slice (Rect.unit (s := S2x3x1024x128) off' ![1, 1, 256 * kn st.succ, 128] inb') hst').squeeze ⟨2, ![256 * kn st.succ, 128]⟩ hsq).view) fd _ (Finset.mem_univ y)).trans ?_
      show trS (acc I l st.castSucc c ((Rect.unit (s := S2048x256) off ![256 * kn st.succ, 128] inb).emb y))
        = landed I l st i c ((Rect.unit (s := S2x3x1024x128) off' ![1, 1, 256 * kn st.succ, 128] inb').emb (Shape.reshapeEquiv hsq.numel_eq y))
      unfold landed
      obtain ⟨e0, e1, e2, e3⟩ := squeeze_idx hsq.numel_eq y
      congr 2
      symm
      refine ix2_eq _ ?_ ?_
      · rw [rect_emb_val, slot_emb_val, e2, congrFun ho 0, congrFun ho' 2]; simp
      · rw [rect_emb_val, slot_emb_val, e3, congrFun ho 1, congrFun ho' 3]; simp))
  isplitl [HP]; · iexact HP
  isplitl [HX]; · iexact HX
  isplitl [HE]; · iexact HE
  iexact HF

end Send

/-! ## What a finish stores -/

section Fin
variable (I : Inp F) (l st : Fin 3) (i : Fin 2) (c : Dev nD) {r : ℕ}
variable {off : Fin 2 → ℕ} {inb : ∀ a, off a + (![r, 128] : Fin 2 → ℕ) a ≤ S2048x256.size a}
variable {off' : Fin 4 → ℕ} {inb' : ∀ a, off' a + (![1, 1, r, 128] : Fin 4 → ℕ) a ≤ S2x3x1024x128.size a}

theorem emb_keep (ho : off = ![256 * (kp i st.succ c).val, 128 * i.val]) (hr : r = 256 * kn st.succ) (y : (⟨2, ![r, 128]⟩ : Shape).Idx) :
    (Rect.unit (s := S2048x256) off ![r, 128] inb).emb y ∈ reg (keepT i st.succ c) := by
  have h : (Rect.unit (s := S2048x256) off ![r, 128] inb).set = reg (keepT i st.succ c) := rect_set (kp i st.succ c).val (kn st.succ) i.val 1 ho (by rw [hr])
  rw [← h, ← View.set_slice_whole cc0_scratch0]
  exact View.emb_mem_set (((Memref.whole cc0_scratch0).view).slice (Rect.unit (s := S2048x256) off ![r, 128] inb)) y

/-- A finish of a stage adds what landed to the kept sums. -/
theorem fin_val (ho : off = ![256 * (kp i st.succ c).val, 128 * i.val]) (hr : r = 256 * kn st.succ) (ho' : off' = ![i.val, st.val, 0, 0])
    (h : (⟨2, ![r, 128]⟩ : Shape).numel = (⟨4, ![1, 1, r, 128]⟩ : Shape).numel) (y : (⟨2, ![r, 128]⟩ : Shape).Idx) :
    FloatOps.addf (acc I l st.castSucc c ((Rect.unit (s := S2048x256) off ![r, 128] inb).emb y))
        (exS (landed I l st i (sp i st c) ((Rect.unit (s := S2x3x1024x128) off' ![1, 1, r, 128] inb').emb (Shape.reshapeEquiv h y))))
      = acc I l st.succ c ((Rect.unit (s := S2048x256) off ![r, 128] inb).emb y) := by
  have hm := mem_reg.mp (emb_keep (inb := inb) st i c ho hr y)
  have hi : (tileOf ((Rect.unit (s := S2048x256) off ![r, 128] inb).emb y)).2 = i := by
    have := (Finset.mem_filter.mp hm).2.2
    exact Fin.ext (by omega)
  rw [acc_succ, hi]
  unfold landed
  obtain ⟨e0, e1, e2, e3⟩ := squeeze_idx h y
  refine congrArg (fun x => FloatOps.addf _ (exS (trS (acc I l st.castSucc (sp i st c) x)))) (ix2_eq _ ?_ ?_)
  · rw [rect_emb_val, slot_emb_val, e2, congrFun ho 0, congrFun ho' 2]
    unfold sn; rw [sp_sp]; simp
  · rw [rect_emb_val, slot_emb_val, e3, congrFun ho 1, congrFun ho' 3]; simp

/-- A finish of the last stage: the layer's result. -/
theorem fin_val_last (ho : off = ![256 * (kp i 3 c).val, 128 * i.val]) (hr : r = 256) (ho' : off' = ![i.val, 2, 0, 0])
    (h : (⟨2, ![r, 128]⟩ : Shape).numel = (⟨4, ![1, 1, r, 128]⟩ : Shape).numel) (y : (⟨2, ![r, 128]⟩ : Shape).Idx) :
    trS (FloatOps.addf (acc I l 2 c ((Rect.unit (s := S2048x256) off ![r, 128] inb).emb y))
        (exS (landed I l 2 i (sp i 2 c) ((Rect.unit (s := S2x3x1024x128) off' ![1, 1, r, 128] inb').emb (Shape.reshapeEquiv h y)))))
      = Xs I l.succ ((Rect.unit (s := S2048x256) off ![r, 128] inb).emb y) := by
  rw [Xs_keep I l i c _ (emb_keep (inb := inb) 2 i c ho hr y)]
  exact congrArg trS (fin_val I l 2 i c ho hr ho' h y)

end Fin

end Cert.K
-- ==== Proof.Chain.lean ====
/-
# One operation at a time: the two chains' steps

The loads, stores, copies and waits of a stage of a chain, each on the region the stage works on; and how the regions of
the scratch buffers are cut and put together.
-/
module

public import proofs.«01_k».proof.Proof.Ops

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cutting and joining -/

section Cut
variable (I : Inp F) (c : Dev nD)

theorem chain_zero (i : Fin 2) : keepT i 0 c = chainT i := keepT_zero i c
theorem chains_union : keepT 0 0 c ∪ keepT 1 0 c = Finset.univ := by rw [chain_zero, chain_zero]; exact chainT_union
theorem chains_disj : Disjoint (keepT 0 0 c) (keepT 1 0 c) := by rw [chain_zero, chain_zero]; exact chainT_disj
theorem keep_union (i : Fin 2) (st : Fin 3) : keepT i st.succ c ∪ sendT i st c = keepT i st.castSucc c := (keepT_split i st c).symm

/-- A stage's region cut into what it keeps and what it sends. -/
theorem p_cut (i : Fin 2) (st : Fin 3) (f : Vec F S2048x256 .f32) :
    (pP c (keepT i st.castSucc c) f : sProp 𝕄) ⊢ iprop(pP c (keepT i st.succ c) f ∗ pP c (sendT i st c) f) :=
  (pP_union c (keepT_disj i st c) (keep_union c i st) f).1
theorem x_cut (i : Fin 2) (st : Fin 3) : (xE c (keepT i st.castSucc c) : sProp 𝕄) ⊢ iprop(xE c (keepT i st.succ c) ∗ xE c (sendT i st c)) :=
  xE_split c (keepT_disj i st c) (keep_union c i st)
theorem b_cut (i : Fin 2) (st : Fin 3) : (bE c (keepT i st.castSucc c) : sProp 𝕄) ⊢ iprop(bE c (keepT i st.succ c) ∗ bE c (sendT i st c)) :=
  bE_split c (keepT_disj i st c) (keep_union c i st)
theorem b_join (i : Fin 2) (st : Fin 3) : iprop(bE c (keepT i st.succ c) ∗ bE c (sendT i st c)) ⊢ (bE c (keepT i st.castSucc c) : sProp 𝕄) :=
  bE_join c (keepT_disj i st c) (keep_union c i st)
theorem x_join (i : Fin 2) (st : Fin 3) (f : Vec F S2048x256 .bf16) :
    iprop(xP c (keepT i st.succ c) f ∗ xP c (sendT i st c) f) ⊢ (xP c (keepT i st.castSucc c) f : sProp 𝕄) :=
  (xP_union c (keepT_disj i st c) (keep_union c i st) f).2

/-- The sums of both chains cut for the first stage. -/
theorem p_start (f : Vec F S2048x256 .f32) : (pP c Finset.univ f : sProp 𝕄)
    ⊢ iprop(pP c (keepT 0 1 c) f ∗ pP c (sendT 0 0 c) f ∗ pP c (keepT 1 1 c) f ∗ pP c (sendT 1 0 c) f) := by
  iintro H
  ihave ⟨HA, HB⟩ := (pP_union c (chains_disj c) (chains_union c) f).1 $$ H
  ihave ⟨H1, H2⟩ := (p_cut c 0 0 f) $$ [HA]
  · iexact HA
  ihave ⟨H3, H4⟩ := (p_cut c 1 0 f) $$ [HB]
  · iexact HB
  isplitl [H1]; · iexact H1
  isplitl [H2]; · iexact H2
  isplitl [H3]; · iexact H3
  iexact H4

/-- The activations of both chains cut for all the stages, and given up for what will be gathered. -/
theorem x_start (f : Vec F S2048x256 .bf16) : (xP c Finset.univ f : sProp 𝕄)
    ⊢ iprop(xE c (keepT 0 3 c) ∗ xE c (sendT 0 2 c) ∗ xE c (sendT 0 1 c) ∗ xE c (sendT 0 0 c)
      ∗ xE c (keepT 1 3 c) ∗ xE c (sendT 1 2 c) ∗ xE c (sendT 1 1 c) ∗ xE c (sendT 1 0 c)) := by
  iintro H
  ihave ⟨HA, HB⟩ := ((xP_xE c f).trans (xE_split c (chains_disj c) (chains_union c))) $$ H
  ihave ⟨HA, A0⟩ := (x_cut c 0 0) $$ [HA]
  · iexact HA
  ihave ⟨HA, A1⟩ := (x_cut c 0 1) $$ [HA]
  · iexact HA
  ihave ⟨HA, A2⟩ := (x_cut c 0 2) $$ [HA]
  · iexact HA
  ihave ⟨HB, B0⟩ := (x_cut c 1 0) $$ [HB]
  · iexact HB
  ihave ⟨HB, B1⟩ := (x_cut c 1 1) $$ [HB]
  · iexact HB
  ihave ⟨HB, B2⟩ := (x_cut c 1 2) $$ [HB]
  · iexact HB
  isplitl [HA]; · iexact HA
  isplitl [A2]; · iexact A2
  isplitl [A1]; · iexact A1
  isplitl [A0]; · iexact A0
  isplitl [HB]; · iexact HB
  isplitl [B2]; · iexact B2
  isplitl [B1]; · iexact B1
  iexact B0

theorem b_start : (bE c Finset.univ : sProp 𝕄)
    ⊢ iprop(bE c (keepT 0 3 c) ∗ bE c (sendT 0 2 c) ∗ bE c (sendT 0 1 c) ∗ bE c (sendT 0 0 c)
      ∗ bE c (keepT 1 3 c) ∗ bE c (sendT 1 2 c) ∗ bE c (sendT 1 1 c) ∗ bE c (sendT 1 0 c)) := by
  iintro H
  ihave ⟨HA, HB⟩ := (bE_split c (chains_disj c) (chains_union c)) $$ H
  ihave ⟨HA, A0⟩ := (b_cut c 0 0) $$ [HA]
  · iexact HA
  ihave ⟨HA, A1⟩ := (b_cut c 0 1) $$ [HA]
  · iexact HA
  ihave ⟨HA, A2⟩ := (b_cut c 0 2) $$ [HA]
  · iexact HA
  ihave ⟨HB, B0⟩ := (b_cut c 1 0) $$ [HB]
  · iexact HB
  ihave ⟨HB, B1⟩ := (b_cut c 1 1) $$ [HB]
  · iexact HB
  ihave ⟨HB, B2⟩ := (b_cut c 1 2) $$ [HB]
  · iexact HB
  isplitl [HA]; · iexact HA
  isplitl [A2]; · iexact A2
  isplitl [A1]; · iexact A1
  isplitl [A0]; · iexact A0
  isplitl [HB]; · iexact HB
  isplitl [B2]; · iexact B2
  isplitl [B1]; · iexact B1
  iexact B0

theorem b_end : iprop(bE c (keepT 0 3 c) ∗ bE c (sendT 0 2 c) ∗ bE c (sendT 0 1 c) ∗ bE c (sendT 0 0 c)
      ∗ bE c (keepT 1 3 c) ∗ bE c (sendT 1 2 c) ∗ bE c (sendT 1 1 c) ∗ bE c (sendT 1 0 c)) ⊢ (bE c Finset.univ : sProp 𝕄) := by
  iintro ⟨HA, A2, A1, A0, HB, B2, B1, B0⟩
  ihave HA := (b_join c 0 2) $$ [HA A2]
  · isplitl [HA]; · iexact HA
    iexact A2
  ihave HA := (b_join c 0 1) $$ [HA A1]
  · isplitl [HA]; · iexact HA
    iexact A1
  ihave HA := (b_join c 0 0) $$ [HA A0]
  · isplitl [HA]; · iexact HA
    iexact A0
  ihave HB := (b_join c 1 2) $$ [HB B2]
  · isplitl [HB]; · iexact HB
    iexact B2
  ihave HB := (b_join c 1 1) $$ [HB B1]
  · isplitl [HB]; · iexact HB
    iexact B1
  ihave HB := (b_join c 1 0) $$ [HB B0]
  · isplitl [HB]; · iexact HB
    iexact B0
  iapply (bE_join c (chains_disj c) (chains_union c))
  isplitl [HA]; · iexact HA
  iexact HB

theorem pE_join {T U V : Finset Tile} (h : Disjoint T U) (hV : T ∪ U = V) : iprop(pE c T ∗ pE c U) ⊢ (pE c V : sProp 𝕄) := by
  subst hV
  unfold pE pP
  iintro ⟨⟨%f, H1⟩, ⟨%g, H2⟩⟩
  iexists (reg U).piecewise g f
  rw [reg_union]
  iapply (pointsTo_join (reg_disj h))
  isplitl [H1]; · iexact H1
  iexact H2
theorem p_rejoin (i : Fin 2) (st : Fin 3) : iprop(pE c (keepT i st.succ c) ∗ pE c (sendT i st c)) ⊢ (pE c (keepT i st.castSucc c) : sProp 𝕄) :=
  pE_join c (keepT_disj i st c) (keep_union c i st)

/-- The sums' buffer put together after a layer. -/
theorem p_end (f0 f1 f2 f3 g0 g1 g2 g3 : Vec F S2048x256 .f32) :
    iprop(pP c (keepT 0 3 c) f0 ∗ pP c (sendT 0 2 c) f1 ∗ pP c (sendT 0 1 c) f2 ∗ pP c (sendT 0 0 c) f3
      ∗ pP c (keepT 1 3 c) g0 ∗ pP c (sendT 1 2 c) g1 ∗ pP c (sendT 1 1 c) g2 ∗ pP c (sendT 1 0 c) g3) ⊢ (pE c Finset.univ : sProp 𝕄) := by
  iintro ⟨HA, A2, A1, A0, HB, B2, B1, B0⟩
  ihave HA := (pP_pE c _) $$ HA
  ihave A2 := (pP_pE c _) $$ A2
  ihave A1 := (pP_pE c _) $$ A1
  ihave A0 := (pP_pE c _) $$ A0
  ihave HB := (pP_pE c _) $$ HB
  ihave B2 := (pP_pE c _) $$ B2
  ihave B1 := (pP_pE c _) $$ B1
  ihave B0 := (pP_pE c _) $$ B0
  ihave HA := (p_rejoin c 0 2) $$ [HA A2]
  · isplitl [HA]; · iexact HA
    iexact A2
  ihave HA := (p_rejoin c 0 1) $$ [HA A1]
  · isplitl [HA]; · iexact HA
    iexact A1
  ihave HA := (p_rejoin c 0 0) $$ [HA A0]
  · isplitl [HA]; · iexact HA
    iexact A0
  ihave HB := (p_rejoin c 1 2) $$ [HB B2]
  · isplitl [HB]; · iexact HB
    iexact B2
  ihave HB := (p_rejoin c 1 1) $$ [HB B1]
  · isplitl [HB]; · iexact HB
    iexact B1
  ihave HB := (p_rejoin c 1 0) $$ [HB B0]
  · isplitl [HB]; · iexact HB
    iexact B0
  iapply (pE_join c (chains_disj c) (chains_union c))
  isplitl [HA]; · iexact HA
  iexact HB

/-- The two chains' activations put together after a layer. -/
theorem x_end (f : Vec F S2048x256 .bf16) : iprop(xP c (keepT 0 0 c) f ∗ xP c (keepT 1 0 c) f) ⊢ (xP c Finset.univ f : sProp 𝕄) :=
  (xP_union c (chains_disj c) (chains_union c) f).2

/-- The parts of the input put together, partner by partner. -/
theorem x_pre0 (f : Vec F S2048x256 .bf16) : iprop(xP c (preT 0 c) f ∗ xP c (preT 0 (prt 0 c)) f) ⊢ (xP c (preT 1 c) f : sProp 𝕄) :=
  (xP_union c (pre_disj 0 c) (pre_split0 c).symm f).2
theorem x_pre1 (f : Vec F S2048x256 .bf16) : iprop(xP c (preT 1 c) f ∗ xP c (preT 1 (prt 1 c)) f) ⊢ (xP c (preT 2 c) f : sProp 𝕄) :=
  (xP_union c (pre_disj 1 c) (pre_split1 c).symm f).2
theorem x_pre2 (f : Vec F S2048x256 .bf16) : iprop(xP c (preT 2 c) f ∗ xP c (preT 2 (prt 2 c)) f) ⊢ (xP c Finset.univ f : sProp 𝕄) :=
  (xP_union c (pre_disj 2 c) (pre_split2 c).symm f).2

end Cut

/-! ## Whole buffers -/

section Whole
variable (c : Dev nD) {α : Type} {inb : ∀ a, (![0, 0] : Fin 2 → ℕ) a + S2048x256.size a ≤ S2048x256.size a}

theorem whole_emb (y : S2048x256.Idx) : (Rect.unit (s := S2048x256) ![0, 0] S2048x256.size inb).emb y = y := by
  funext a
  refine Fin.ext ?_
  rw [rect_emb_val]
  match a with
  | ⟨0, _⟩ => exact Nat.zero_add _
  | ⟨1, _⟩ => exact Nat.zero_add _

theorem tl_univ : tl 0 8 0 2 = Finset.univ := by decide

theorem x_load_whole {Q : α → sProp 𝕄}
    {hl : (Memref.whole cc0_scratch0).view.LoadsAt (Rect.unit (s := S2048x256) ![0, 0] S2048x256.size inb).toLoadRect}
    {kt : (S2048x256.Idx → Elt F .bf16) → Prog (TpuEff nD τ sig (Elt F) Λ₀ .tc) α} (f : Vec F S2048x256 .bf16) :
    (xP c Finset.univ f : sProp 𝕄) ⊢ iprop((xP c Finset.univ f -∗ WP c (kt f) Q)
      -∗ WP c (.op (.load (Memref.whole cc0_scratch0) (Rect.unit (s := S2048x256) ![0, 0] S2048x256.size inb).toLoadRect hl) kt) Q) := by
  have h := x_load c (Q := Q) 0 8 0 2 (off := ![0, 0]) (size := S2048x256.size) (inb := inb) rfl rfl (T := Finset.univ) (Finset.subset_univ _) (hl := hl) (kt := kt) f
  rw [show (fun y => f ((Rect.unit (s := S2048x256) ![0, 0] S2048x256.size inb).emb y)) = f from funext fun y => by rw [whole_emb]] at h
  exact h

theorem p_skip_whole {Q : α → sProp 𝕄}
    {hl : (Memref.whole cc0_scratch1).view.LoadsAt (Rect.unit (s := S2048x256) ![0, 0] S2048x256.size inb).toLoadRect}
    {p : Prog (TpuEff nD τ sig (Elt F) Λ₀ .tc) α} :
    (pE c Finset.univ : sProp 𝕄) ⊢ iprop((pE c Finset.univ -∗ WP c p Q)
      -∗ WP c (.op (.load (Memref.whole cc0_scratch1) (Rect.unit (s := S2048x256) ![0, 0] S2048x256.size inb).toLoadRect hl) (fun _ => p)) Q) :=
  p_skip c 0 8 0 2 rfl rfl (Finset.subset_univ _)

theorem p_store_whole {Q : α → sProp 𝕄} {w : S2048x256.Idx → Elt F .f32}
    {hx : ((Memref.whole cc0_scratch1).access (Rect.unit (s := S2048x256) ![0, 0] S2048x256.size inb)).Stores Finset.univ}
    {hm : (Finset.univ : Finset (Rect.unit (s := S2048x256) ![0, 0] S2048x256.size inb).shape.Idx) = Finset.univ ∨ ∀ a, (Rect.unit (s := S2048x256) ![0, 0] S2048x256.size inb).stride a = 1}
    {kt : PUnit → Prog (TpuEff nD τ sig (Elt F) Λ₀ .tc) α} (g : Vec F S2048x256 .f32) (hw : w = g) :
    (pE c Finset.univ : sProp 𝕄) ⊢ iprop((pP c Finset.univ g -∗ WP c (kt ⟨⟩) Q)
      -∗ WP c (.op (.store (Memref.whole cc0_scratch1) (Rect.unit (s := S2048x256) ![0, 0] S2048x256.size inb) w Finset.univ hx hm) kt) Q) :=
  p_store c 0 8 0 2 rfl rfl tl_univ g (fun y => by rw [hw, whole_emb])

end Whole

/-! ## A stage's loads and stores -/

section Stage
variable (I : Inp F) (c : Dev nD) {α : Type} {off size : Fin 2 → ℕ} {inb : ∀ a, off a + size a ≤ S2048x256.size a}

theorem p_loadS {Q : α → sProp 𝕄} (i : Fin 2) (st : Fin 3) (ho : off = ![256 * (sn i st c).val, 128 * i.val]) (hs : size = ![256 * kn st.succ, 128])
    {hl : (Memref.whole cc0_scratch1).view.LoadsAt (Rect.unit (s := S2048x256) off size inb).toLoadRect}
    {kt : ((Rect.unit (s := S2048x256) off size inb).shape.Idx → Elt F .f32) → Prog (TpuEff nD τ sig (Elt F) Λ₀ .tc) α} (f : Vec F S2048x256 .f32) :
    (pP c (sendT i st c) f : sProp 𝕄) ⊢ iprop((pP c (sendT i st c) f -∗ WP c (kt (fun y => f ((Rect.unit (s := S2048x256) off size inb).emb y))) Q)
      -∗ WP c (.op (.load (Memref.whole cc0_scratch1) (Rect.unit (s := S2048x256) off size inb).toLoadRect hl) kt) Q) :=
  p_load c (sn i st c).val (kn st.succ) i.val 1 ho hs (Finset.Subset.refl _) f

theorem p_loadK {Q : α → sProp 𝕄} (i : Fin 2) (s : Fin 4) (ho : off = ![256 * (kp i s c).val, 128 * i.val]) (hs : size = ![256 * kn s, 128])
    {hl : (Memref.whole cc0_scratch1).view.LoadsAt (Rect.unit (s := S2048x256) off size inb).toLoadRect}
    {kt : ((Rect.unit (s := S2048x256) off size inb).shape.Idx → Elt F .f32) → Prog (TpuEff nD τ sig (Elt F) Λ₀ .tc) α} (f : Vec F S2048x256 .f32) :
    (pP c (keepT i s c) f : sProp 𝕄) ⊢ iprop((pP c (keepT i s c) f -∗ WP c (kt (fun y => f ((Rect.unit (s := S2048x256) off size inb).emb y))) Q)
      -∗ WP c (.op (.load (Memref.whole cc0_scratch1) (Rect.unit (s := S2048x256) off size inb).toLoadRect hl) kt) Q) :=
  p_load c (kp i s c).val (kn s) i.val 1 ho hs (Finset.Subset.refl _) f

theorem b_skipS {Q : α → sProp 𝕄} (i : Fin 2) (st : Fin 3) (ho : off = ![256 * (sn i st c).val, 128 * i.val]) (hs : size = ![256 * kn st.succ, 128])
    {hl : (Memref.whole cc0_scratch2).view.LoadsAt (Rect.unit (s := S2048x256) off size inb).toLoadRect}
    {p : Prog (TpuEff nD τ sig (Elt F) Λ₀ .tc) α} :
    (bE c (sendT i st c) : sProp 𝕄) ⊢ iprop((bE c (sendT i st c) -∗ WP c p Q)
      -∗ WP c (.op (.load (Memref.whole cc0_scratch2) (Rect.unit (s := S2048x256) off size inb).toLoadRect hl) (fun _ => p)) Q) :=
  b_skip c (sn i st c).val (kn st.succ) i.val 1 ho hs (Finset.Subset.refl _)

theorem x_skipK {Q : α → sProp 𝕄} (i : Fin 2) (s : Fin 4) (ho : off = ![256 * (kp i s c).val, 128 * i.val]) (hs : size = ![256 * kn s, 128])
    {hl : (Memref.whole cc0_scratch0).view.LoadsAt (Rect.unit (s := S2048x256) off size inb).toLoadRect}
    {p : Prog (TpuEff nD τ sig (Elt F) Λ₀ .tc) α} :
    (xE c (keepT i s c) : sProp 𝕄) ⊢ iprop((xE c (keepT i s c) -∗ WP c p Q)
      -∗ WP c (.op (.load (Memref.whole cc0_scratch0) (Rect.unit (s := S2048x256) off size inb).toLoadRect hl) (fun _ => p)) Q) :=
  x_skip c (kp i s c).val (kn s) i.val 1 ho hs (Finset.Subset.refl _)

/-- The store of the rounded sums to send. -/
theorem b_storeS {Q : α → sProp 𝕄} (l st : Fin 3) (i : Fin 2) (ho : off = ![256 * (sn i st c).val, 128 * i.val]) (hs : size = ![256 * kn st.succ, 128])
    {w : (Rect.unit (s := S2048x256) off size inb).shape.Idx → Elt F .bf16}
    {hx : ((Memref.whole cc0_scratch2).access (Rect.unit (s := S2048x256) off size inb)).Stores Finset.univ}
    {hm : (Finset.univ : Finset (Rect.unit (s := S2048x256) off size inb).shape.Idx) = Finset.univ ∨ ∀ a, (Rect.unit (s := S2048x256) off size inb).stride a = 1}
    {kt : PUnit → Prog (TpuEff nD τ sig (Elt F) Λ₀ .tc) α}
    (hw : ∀ y, w y = trS (acc I l st.castSucc c ((Rect.unit (s := S2048x256) off size inb).emb y))) :
    (bE c (sendT i st c) : sProp 𝕄) ⊢ iprop((bP c (sendT i st c) (fun x => trS (acc I l st.castSucc c x)) -∗ WP c (kt ⟨⟩) Q)
      -∗ WP c (.op (.store (Memref.whole cc0_scratch2) (Rect.unit (s := S2048x256) off size inb) w Finset.univ hx hm) kt) Q) :=
  b_store c (sn i st c).val (kn st.succ) i.val 1 ho hs rfl _ hw

/-- A finish's store of the new sums. -/
theorem p_storeK {Q : α → sProp 𝕄} (l : Fin 3) (s s' : Fin 4) (i : Fin 2) (ho : off = ![256 * (kp i s c).val, 128 * i.val]) (hs : size = ![256 * kn s, 128])
    {w : (Rect.unit (s := S2048x256) off size inb).shape.Idx → Elt F .f32}
    {hx : ((Memref.whole cc0_scratch1).access (Rect.unit (s := S2048x256) off size inb)).Stores Finset.univ}
    {hm : (Finset.univ : Finset (Rect.unit (s := S2048x256) off size inb).shape.Idx) = Finset.univ ∨ ∀ a, (Rect.unit (s := S2048x256) off size inb).stride a = 1}
    {kt : PUnit → Prog (TpuEff nD τ sig (Elt F) Λ₀ .tc) α}
    (hw : ∀ y, w y = acc I l s c ((Rect.unit (s := S2048x256) off size inb).emb y)) :
    (pP c (keepT i s c) (acc I l s' c) : sProp 𝕄) ⊢ iprop((pP c (keepT i s c) (acc I l s c) -∗ WP c (kt ⟨⟩) Q)
      -∗ WP c (.op (.store (Memref.whole cc0_scratch1) (Rect.unit (s := S2048x256) off size inb) w Finset.univ hx hm) kt) Q) :=
  (pP_pE c _).trans (p_store c (kp i s c).val (kn s) i.val 1 ho hs rfl _ hw)

/-- The last finish's store of the layer's result. -/
theorem x_storeK {Q : α → sProp 𝕄} (l : Fin 3) (i : Fin 2) (ho : off = ![256 * (kp i 3 c).val, 128 * i.val]) (hs : size = ![256, 128])
    {w : (Rect.unit (s := S2048x256) off size inb).shape.Idx → Elt F .bf16}
    {hx : ((Memref.whole cc0_scratch0).access (Rect.unit (s := S2048x256) off size inb)).Stores Finset.univ}
    {hm : (Finset.univ : Finset (Rect.unit (s := S2048x256) off size inb).shape.Idx) = Finset.univ ∨ ∀ a, (Rect.unit (s := S2048x256) off size inb).stride a = 1}
    {kt : PUnit → Prog (TpuEff nD τ sig (Elt F) Λ₀ .tc) α}
    (hw : ∀ y, w y = Xs I l.succ ((Rect.unit (s := S2048x256) off size inb).emb y)) :
    (xE c (keepT i 3 c) : sProp 𝕄) ⊢ iprop((xP c (keepT i 3 c) (Xs I l.succ) -∗ WP c (kt ⟨⟩) Q)
      -∗ WP c (.op (.store (Memref.whole cc0_scratch0) (Rect.unit (s := S2048x256) off size inb) w Finset.univ hx hm) kt) Q) :=
  x_store c (kp i 3 c).val 1 i.val 1 ho hs rfl _ hw

end Stage

/-! ## A stage's waits -/

section Wait
variable (I : Inp F) (K : Dev nD × CI → ℕ) (c : Dev nD) {α : Type} {n m m₀ m₁ : ℕ}
variable {s s' : Shape} {el el' : EltTy} {κ' : Kind} {src : Memref sig .tc .vmem s' el'} {dst : Memref sig κ' .vmem s el}
variable {sm : DmaSem sig} {hsrc : src.view.WordExact} {hdst : dst.view.WordExact}
variable {kt : PUnit → Prog (TpuEff nD τ sig (Elt F) Λ₀ .tc) α}

theorem swait_pre {Q : α → sProp 𝕄} (k : Fin 39) (j : Fin 3) (hk : dec k = .pre j) (hS : sm = sendS k) (hN : dst.view.dmaCredit = amt (.pre j)) :
    iprop(Pool I K c n m ∗ Fl c k)
      ⊢ iprop(((Pool I K c n m ∗ W1 c k ∗ xP c (preT j c) (X0 I)) -∗ WP c (kt ⟨⟩) Q) -∗ WP c (.op (.waitDma2 sm src dst hsrc hdst) kt) Q) :=
  swait I K c k hk hS hN
theorem rwait_pre {Q : α → sProp 𝕄} (k : Fin 39) (j : Fin 3) (hk : dec k = .pre j) (h₀ : k.val = m₀) (h₁ : k.val + 1 = m₁) (hlt : k.val < n)
    (hS : sm = recvS k) (hN : dst.view.dmaCredit = amt (.pre j)) :
    iprop(Pool I K c n m₀ ∗ W1 c k)
      ⊢ iprop(((Pool I K c n m₁ ∗ xP c (preT j (prt j c)) (X0 I)) -∗ WP c (kt ⟨⟩) Q) -∗ WP c (.op (.waitDma2 sm src dst hsrc hdst) kt) Q) :=
  rwait I K c k hk h₀ h₁ hlt hS hN

theorem credit_eq (st : Fin 3) : cc0_scratch2.dmaCredit (shp st) .bf16 = cc0_scratch3.dmaCredit (shp st) .bf16 := by
  revert st; decide

theorem swait_rs {Q : α → sProp 𝕄} (k : Fin 39) (l st : Fin 3) (i : Fin 2) (hk : dec k = .rs l st i) (hS : sm = sendS k)
    (hN : dst.view.dmaCredit = cc0_scratch2.dmaCredit (shp st) .bf16) :
    iprop(Pool I K c n m ∗ Fl c k)
      ⊢ iprop(((Pool I K c n m ∗ W1 c k ∗ bE c (sendT i st c)) -∗ WP c (kt ⟨⟩) Q) -∗ WP c (.op (.waitDma2 sm src dst hsrc hdst) kt) Q) := by
  refine (swait I K c k hk hS (hN.trans (credit_eq st))).trans (wand_mono_left (wand_mono_left ?_))
  exact sep_mono_right (sep_mono_right (bP_bE c _))
theorem rwait_rs {Q : α → sProp 𝕄} (k : Fin 39) (l st : Fin 3) (i : Fin 2) (hk : dec k = .rs l st i) (h₀ : k.val = m₀) (h₁ : k.val + 1 = m₁) (hlt : k.val < n)
    (hS : sm = recvS k) (hN : dst.view.dmaCredit = cc0_scratch3.dmaCredit (shp st) .bf16) :
    iprop(Pool I K c n m₀ ∗ W1 c k)
      ⊢ iprop(((Pool I K c n m₁ ∗ rP c (slot i st) (landed I l st i (sp i st c)) ∗ xE (sp i st c) (keepT i st.succ c)) -∗ WP c (kt ⟨⟩) Q)
        -∗ WP c (.op (.waitDma2 sm src dst hsrc hdst) kt) Q) := by
  rw [← sendT_sp]
  exact rwait I K c k hk h₀ h₁ hlt hS hN

theorem swait_ag {Q : α → sProp 𝕄} (k : Fin 39) (l st : Fin 3) (i : Fin 2) (hk : dec k = .ag l st i) (hS : sm = sendS k)
    (hN : dst.view.dmaCredit = cc0_scratch0.dmaCredit (shp st) .bf16) :
    iprop(Pool I K c n m ∗ Fl c k)
      ⊢ iprop(((Pool I K c n m ∗ W1 c k ∗ xP c (keepT i st.succ c) (Xs I l.succ)) -∗ WP c (kt ⟨⟩) Q) -∗ WP c (.op (.waitDma2 sm src dst hsrc hdst) kt) Q) :=
  swait I K c k hk hS hN
theorem rwait_ag {Q : α → sProp 𝕄} (k : Fin 39) (l st : Fin 3) (i : Fin 2) (hk : dec k = .ag l st i) (h₀ : k.val = m₀) (h₁ : k.val + 1 = m₁) (hlt : k.val < n)
    (hS : sm = recvS k) (hN : dst.view.dmaCredit = cc0_scratch0.dmaCredit (shp st) .bf16) :
    iprop(Pool I K c n m₀ ∗ W1 c k)
      ⊢ iprop(((Pool I K c n m₁ ∗ xP c (sendT i st c) (Xs I l.succ) ∗ slotBack l st i (sp i st c)) -∗ WP c (kt ⟨⟩) Q)
        -∗ WP c (.op (.waitDma2 sm src dst hsrc hdst) kt) Q) :=
  rwait I K c k hk h₀ h₁ hlt hS hN

theorem slot_give (l st : Fin 3) (i : Fin 2) (p : Dev nD) (f : Vec F S2x3x1024x128 .bf16) (hl : l ≠ 2) : (rP p (slot i st) f : sProp 𝕄) ⊢ slotBack l st i p := by
  unfold slotBack; rw [if_neg hl]; exact rP_rE p f
theorem slot_none (st : Fin 3) (i : Fin 2) (p : Dev nD) : (iprop(emp) : sProp 𝕄) ⊢ slotBack 2 st i p := by
  unfold slotBack; rw [if_pos rfl]
theorem slot_take (l st : Fin 3) (i : Fin 2) (p : Dev nD) (hl : l ≠ 2) : (slotBack l st i p : sProp 𝕄) ⊢ rE p (slot i st) := by
  unfold slotBack; rw [if_neg hl]

end Wait

end Cert.K
-- ==== Proof.Stg.lean ====
/-
# The staging buffers: whole loads and the store of the result
-/
module

public import proofs.«01_k».proof.Proof.Chain

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A program that is done. -/
theorem WP_ret (c : Dev nD) {α : Type} {a : α} {Q : α → sProp 𝕄} : Q a ⊢ WP (F := F) c (.ret a) Q := by
  unfold WP
  rw [wp_ret]
  iintro H
  imodintro
  iexact H

section Stg
variable (c : Dev nD) {α : Type}

/-- Device `c`'s staging buffer of operand 0 holds `f`. -/
def g0 (f : Vec F S256x256 .f32) : sProp 𝕄 := ((c : Thread nD τ).loc cc0_stg0_0) ↦{fullShare} f

theorem g0_load {Q : α → sProp 𝕄} {inb : ∀ a, (![0, 0] : Fin 2 → ℕ) a + S256x256.size a ≤ S256x256.size a}
    {hl : (Memref.whole cc0_stg0_0).view.LoadsAt (Rect.unit (s := S256x256) ![0, 0] S256x256.size inb).toLoadRect}
    {kt : (S256x256.Idx → Elt F .f32) → Prog (TpuEff nD τ sig (Elt F) Λ₀ .tc) α} (f : Vec F S256x256 .f32) :
    (g0 c f : sProp 𝕄) ⊢ iprop((g0 c f -∗ WP c (kt f) Q)
      -∗ WP c (.op (.load (Memref.whole cc0_stg0_0) (Rect.unit (s := S256x256) ![0, 0] S256x256.size inb).toLoadRect hl) kt) Q) := by
  have h : (Memref.whole cc0_stg0_0).view.readAt (Elt F) (Rect.unit (s := S256x256) ![0, 0] S256x256.size inb).toLoadRect f = f :=
    Memref.readAt_unit_zero (Elt F) cc0_stg0_0 (funext fun a => by fin_cases a <;> rfl) inb f
  unfold g0
  iintro H Hk
  iapply (wp_load 𝒱₀ (c : Thread nD τ) none Set.univ (m := Memref.whole cc0_stg0_0) (Finset.subset_univ _)) $$ H
  iintro H
  rw [h]
  iapply Hk
  iexact H

/-- Device `c`'s staging buffer of operand 1 holds `f`. -/
def g1 (f : Vec F S256x512 .f32) : sProp 𝕄 := ((c : Thread nD τ).loc cc0_stg1_0) ↦{fullShare} f

theorem g1_load {Q : α → sProp 𝕄} {inb : ∀ a, (![0, 0] : Fin 2 → ℕ) a + S256x512.size a ≤ S256x512.size a}
    {hl : (Memref.whole cc0_stg1_0).view.LoadsAt (Rect.unit (s := S256x512) ![0, 0] S256x512.size inb).toLoadRect}
    {kt : (S256x512.Idx → Elt F .f32) → Prog (TpuEff nD τ sig (Elt F) Λ₀ .tc) α} (f : Vec F S256x512 .f32) :
    (g1 c f : sProp 𝕄) ⊢ iprop((g1 c f -∗ WP c (kt f) Q)
      -∗ WP c (.op (.load (Memref.whole cc0_stg1_0) (Rect.unit (s := S256x512) ![0, 0] S256x512.size inb).toLoadRect hl) kt) Q) := by
  have h : (Memref.whole cc0_stg1_0).view.readAt (Elt F) (Rect.unit (s := S256x512) ![0, 0] S256x512.size inb).toLoadRect f = f :=
    Memref.readAt_unit_zero (Elt F) cc0_stg1_0 (funext fun a => by fin_cases a <;> rfl) inb f
  unfold g1
  iintro H Hk
  iapply (wp_load 𝒱₀ (c : Thread nD τ) none Set.univ (m := Memref.whole cc0_stg1_0) (Finset.subset_univ _)) $$ H
  iintro H
  rw [h]
  iapply Hk
  iexact H

/-- Device `c`'s staging buffer of operand 2 holds `f`. -/
def g2 (f : Vec F S512x256 .f32) : sProp 𝕄 := ((c : Thread nD τ).loc cc0_stg2_0) ↦{fullShare} f

theorem g2_load {Q : α → sProp 𝕄} {inb : ∀ a, (![0, 0] : Fin 2 → ℕ) a + S512x256.size a ≤ S512x256.size a}
    {hl : (Memref.whole cc0_stg2_0).view.LoadsAt (Rect.unit (s := S512x256) ![0, 0] S512x256.size inb).toLoadRect}
    {kt : (S512x256.Idx → Elt F .f32) → Prog (TpuEff nD τ sig (Elt F) Λ₀ .tc) α} (f : Vec F S512x256 .f32) :
    (g2 c f : sProp 𝕄) ⊢ iprop((g2 c f -∗ WP c (kt f) Q)
      -∗ WP c (.op (.load (Memref.whole cc0_stg2_0) (Rect.unit (s := S512x256) ![0, 0] S512x256.size inb).toLoadRect hl) kt) Q) := by
  have h : (Memref.whole cc0_stg2_0).view.readAt (Elt F) (Rect.unit (s := S512x256) ![0, 0] S512x256.size inb).toLoadRect f = f :=
    Memref.readAt_unit_zero (Elt F) cc0_stg2_0 (funext fun a => by fin_cases a <;> rfl) inb f
  unfold g2
  iintro H Hk
  iapply (wp_load 𝒱₀ (c : Thread nD τ) none Set.univ (m := Memref.whole cc0_stg2_0) (Finset.subset_univ _)) $$ H
  iintro H
  rw [h]
  iapply Hk
  iexact H

/-- Device `c`'s staging buffer of operand 3 holds `f`. -/
def g3 (f : Vec F S256x512 .f32) : sProp 𝕄 := ((c : Thread nD τ).loc cc0_stg3_0) ↦{fullShare} f

theorem g3_load {Q : α → sProp 𝕄} {inb : ∀ a, (![0, 0] : Fin 2 → ℕ) a + S256x512.size a ≤ S256x512.size a}
    {hl : (Memref.whole cc0_stg3_0).view.LoadsAt (Rect.unit (s := S256x512) ![0, 0] S256x512.size inb).toLoadRect}
    {kt : (S256x512.Idx → Elt F .f32) → Prog (TpuEff nD τ sig (Elt F) Λ₀ .tc) α} (f : Vec F S256x512 .f32) :
    (g3 c f : sProp 𝕄) ⊢ iprop((g3 c f -∗ WP c (kt f) Q)
      -∗ WP c (.op (.load (Memref.whole cc0_stg3_0) (Rect.unit (s := S256x512) ![0, 0] S256x512.size inb).toLoadRect hl) kt) Q) := by
  have h : (Memref.whole cc0_stg3_0).view.readAt (Elt F) (Rect.unit (s := S256x512) ![0, 0] S256x512.size inb).toLoadRect f = f :=
    Memref.readAt_unit_zero (Elt F) cc0_stg3_0 (funext fun a => by fin_cases a <;> rfl) inb f
  unfold g3
  iintro H Hk
  iapply (wp_load 𝒱₀ (c : Thread nD τ) none Set.univ (m := Memref.whole cc0_stg3_0) (Finset.subset_univ _)) $$ H
  iintro H
  rw [h]
  iapply Hk
  iexact H

/-- Device `c`'s staging buffer of operand 4 holds `f`. -/
def g4 (f : Vec F S512x256 .f32) : sProp 𝕄 := ((c : Thread nD τ).loc cc0_stg4_0) ↦{fullShare} f

theorem g4_load {Q : α → sProp 𝕄} {inb : ∀ a, (![0, 0] : Fin 2 → ℕ) a + S512x256.size a ≤ S512x256.size a}
    {hl : (Memref.whole cc0_stg4_0).view.LoadsAt (Rect.unit (s := S512x256) ![0, 0] S512x256.size inb).toLoadRect}
    {kt : (S512x256.Idx → Elt F .f32) → Prog (TpuEff nD τ sig (Elt F) Λ₀ .tc) α} (f : Vec F S512x256 .f32) :
    (g4 c f : sProp 𝕄) ⊢ iprop((g4 c f -∗ WP c (kt f) Q)
      -∗ WP c (.op (.load (Memref.whole cc0_stg4_0) (Rect.unit (s := S512x256) ![0, 0] S512x256.size inb).toLoadRect hl) kt) Q) := by
  have h : (Memref.whole cc0_stg4_0).view.readAt (Elt F) (Rect.unit (s := S512x256) ![0, 0] S512x256.size inb).toLoadRect f = f :=
    Memref.readAt_unit_zero (Elt F) cc0_stg4_0 (funext fun a => by fin_cases a <;> rfl) inb f
  unfold g4
  iintro H Hk
  iapply (wp_load 𝒱₀ (c : Thread nD τ) none Set.univ (m := Memref.whole cc0_stg4_0) (Finset.subset_univ _)) $$ H
  iintro H
  rw [h]
  iapply Hk
  iexact H

/-- Device `c`'s staging buffer of operand 5 holds `f`. -/
def g5 (f : Vec F S256x512 .f32) : sProp 𝕄 := ((c : Thread nD τ).loc cc0_stg5_0) ↦{fullShare} f

theorem g5_load {Q : α → sProp 𝕄} {inb : ∀ a, (![0, 0] : Fin 2 → ℕ) a + S256x512.size a ≤ S256x512.size a}
    {hl : (Memref.whole cc0_stg5_0).view.LoadsAt (Rect.unit (s := S256x512) ![0, 0] S256x512.size inb).toLoadRect}
    {kt : (S256x512.Idx → Elt F .f32) → Prog (TpuEff nD τ sig (Elt F) Λ₀ .tc) α} (f : Vec F S256x512 .f32) :
    (g5 c f : sProp 𝕄) ⊢ iprop((g5 c f -∗ WP c (kt f) Q)
      -∗ WP c (.op (.load (Memref.whole cc0_stg5_0) (Rect.unit (s := S256x512) ![0, 0] S256x512.size inb).toLoadRect hl) kt) Q) := by
  have h : (Memref.whole cc0_stg5_0).view.readAt (Elt F) (Rect.unit (s := S256x512) ![0, 0] S256x512.size inb).toLoadRect f = f :=
    Memref.readAt_unit_zero (Elt F) cc0_stg5_0 (funext fun a => by fin_cases a <;> rfl) inb f
  unfold g5
  iintro H Hk
  iapply (wp_load 𝒱₀ (c : Thread nD τ) none Set.univ (m := Memref.whole cc0_stg5_0) (Finset.subset_univ _)) $$ H
  iintro H
  rw [h]
  iapply Hk
  iexact H

/-- Device `c`'s staging buffer of operand 6 holds `f`. -/
def g6 (f : Vec F S512x256 .f32) : sProp 𝕄 := ((c : Thread nD τ).loc cc0_stg6_0) ↦{fullShare} f

theorem g6_load {Q : α → sProp 𝕄} {inb : ∀ a, (![0, 0] : Fin 2 → ℕ) a + S512x256.size a ≤ S512x256.size a}
    {hl : (Memref.whole cc0_stg6_0).view.LoadsAt (Rect.unit (s := S512x256) ![0, 0] S512x256.size inb).toLoadRect}
    {kt : (S512x256.Idx → Elt F .f32) → Prog (TpuEff nD τ sig (Elt F) Λ₀ .tc) α} (f : Vec F S512x256 .f32) :
    (g6 c f : sProp 𝕄) ⊢ iprop((g6 c f -∗ WP c (kt f) Q)
      -∗ WP c (.op (.load (Memref.whole cc0_stg6_0) (Rect.unit (s := S512x256) ![0, 0] S512x256.size inb).toLoadRect hl) kt) Q) := by
  have h : (Memref.whole cc0_stg6_0).view.readAt (Elt F) (Rect.unit (s := S512x256) ![0, 0] S512x256.size inb).toLoadRect f = f :=
    Memref.readAt_unit_zero (Elt F) cc0_stg6_0 (funext fun a => by fin_cases a <;> rfl) inb f
  unfold g6
  iintro H Hk
  iapply (wp_load 𝒱₀ (c : Thread nD τ) none Set.univ (m := Memref.whole cc0_stg6_0) (Finset.subset_univ _)) $$ H
  iintro H
  rw [h]
  iapply Hk
  iexact H

/-- Device `c`'s staging buffer of operand 7 holds `f`. -/
def g7 (f : Vec F S2048x256 .f32) : sProp 𝕄 := ((c : Thread nD τ).loc cc0_stg7_0) ↦{fullShare} f

theorem g7_load {Q : α → sProp 𝕄} {inb : ∀ a, (![0, 0] : Fin 2 → ℕ) a + S2048x256.size a ≤ S2048x256.size a}
    {hl : (Memref.whole cc0_stg7_0).view.LoadsAt (Rect.unit (s := S2048x256) ![0, 0] S2048x256.size inb).toLoadRect}
    {kt : (S2048x256.Idx → Elt F .f32) → Prog (TpuEff nD τ sig (Elt F) Λ₀ .tc) α} (f : Vec F S2048x256 .f32) :
    (g7 c f : sProp 𝕄) ⊢ iprop((g7 c f -∗ WP c (kt f) Q)
      -∗ WP c (.op (.load (Memref.whole cc0_stg7_0) (Rect.unit (s := S2048x256) ![0, 0] S2048x256.size inb).toLoadRect hl) kt) Q) := by
  have h : (Memref.whole cc0_stg7_0).view.readAt (Elt F) (Rect.unit (s := S2048x256) ![0, 0] S2048x256.size inb).toLoadRect f = f :=
    Memref.readAt_unit_zero (Elt F) cc0_stg7_0 (funext fun a => by fin_cases a <;> rfl) inb f
  unfold g7
  iintro H Hk
  iapply (wp_load 𝒱₀ (c : Thread nD τ) none Set.univ (m := Memref.whole cc0_stg7_0) (Finset.subset_univ _)) $$ H
  iintro H
  rw [h]
  iapply Hk
  iexact H

theorem g7_store {Q : α → sProp 𝕄} {inb : ∀ a, (![0, 0] : Fin 2 → ℕ) a + S2048x256.size a ≤ S2048x256.size a} {w : S2048x256.Idx → Elt F .f32}
    {hx : ((Memref.whole cc0_stg7_0).access (Rect.unit (s := S2048x256) ![0, 0] S2048x256.size inb)).Stores Finset.univ}
    {hm : (Finset.univ : Finset (Rect.unit (s := S2048x256) ![0, 0] S2048x256.size inb).shape.Idx) = Finset.univ ∨ ∀ a, (Rect.unit (s := S2048x256) ![0, 0] S2048x256.size inb).stride a = 1}
    {kt : PUnit → Prog (TpuEff nD τ sig (Elt F) Λ₀ .tc) α} (f : Vec F S2048x256 .f32) :
    (g7 c f : sProp 𝕄) ⊢ iprop((g7 c w -∗ WP c (kt ⟨⟩) Q)
      -∗ WP c (.op (.store (Memref.whole cc0_stg7_0) (Rect.unit (s := S2048x256) ![0, 0] S2048x256.size inb) w Finset.univ hx hm) kt) Q) := by
  have h : ((Memref.whole cc0_stg7_0).access (Rect.unit (s := S2048x256) ![0, 0] S2048x256.size inb)).write (Elt F) f w Finset.univ = w :=
    Memref.write_access_unit_zero_univ (Elt F) cc0_stg7_0 (funext fun a => by fin_cases a <;> rfl) inb f w
  unfold g7
  iintro H Hk
  iapply (wp_store 𝒱₀ (c : Thread nD τ) none Set.univ (m := Memref.whole cc0_stg7_0) (r := Rect.unit (s := S2048x256) ![0, 0] S2048x256.size inb) (Mk := Finset.univ) (Finset.subset_univ _)) $$ H
  iintro H
  rw [h]
  iapply Hk
  iexact H

end Stg

end Cert.K
-- ==== Proof.Entry.lean ====
/-
# The first part: the barrier, and a device's own rows of the input
-/
module

public import proofs.«01_k».proof.Proof.Stg

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a device starts from, beside its buffers: the records, the levels, what it owes, its barrier duties' tokens, its
    barrier cell's position and credit, and the tokens of its copies. -/
def Start (I : Inp F) (K : Dev nD × CI → ℕ) (c : Dev nD) : sProp 𝕄 :=
  iprop(Recs I K ∗ levAts L lv ∗ (∃ W : Waits sig Unit, owes (c : Thread nD τ) (O₀ c) W)
    ∗ dutyTok ER (barCell (prt 0 c)) 0 (0 : Fin 3) ∗ dutyTok ER (barCell (prt 1 c)) 0 (1 : Fin 3) ∗ dutyTok ER (barCell (prt 2 c)) 0 (2 : Fin 3)
    ∗ atPos ER (barCell c) 0 ∅ 0 ∗ cred (tallyAt (barCell c) () 3)
    ∗ bigSep Finset.univ (fun k : Fin 39 => Tok c k))

/-- The input's own rows, rounded, are the device's block. -/
theorem own_val (I : Inp F) (c : Dev nD) {inb : ∀ a, k0_off1 c a + S256x256.size a ≤ S2048x256.size a} (y : S256x256.Idx) :
    k0_pay2 (I.x c) y = X0 I ((Rect.unit (s := S2048x256) (k0_off1 c) S256x256.size inb).emb y) := by
  rw [pay2_eq]
  have h0 : (y 0).val < 256 := (y 0).isLt
  have e0 := rect_emb_val (inb := inb) y 0
  have e1 := rect_emb_val (inb := inb) y 1
  rw [congrFun (off1_eq c) 0] at e0
  rw [congrFun (off1_eq c) 1] at e1
  simp only [Matrix.cons_val_zero, Matrix.cons_val_one, Matrix.cons_val_fin_one] at e0 e1
  have ht : (tileOf ((Rect.unit (s := S2048x256) (k0_off1 c) S256x256.size inb).emb y)).1 = c := by
    refine Fin.ext ?_
    show ((Rect.unit (s := S2048x256) (k0_off1 c) S256x256.size inb).emb y 0).val / 256 = c.val
    rw [e0]; omega
  have hb : blkIx ((Rect.unit (s := S2048x256) (k0_off1 c) S256x256.size inb).emb y) = y := by
    funext a
    match a with
    | ⟨0, _⟩ =>
      refine Fin.ext ?_
      show ((Rect.unit (s := S2048x256) (k0_off1 c) S256x256.size inb).emb y 0).val % 256 = (y 0).val
      rw [e0]; omega
    | ⟨1, _⟩ =>
      refine Fin.ext ?_
      show ((Rect.unit (s := S2048x256) (k0_off1 c) S256x256.size inb).emb y 1).val = (y 1).val
      rw [e1]; omega
  show trS (I.x c y) = trS (I.x (tileOf ((Rect.unit (s := S2048x256) (k0_off1 c) S256x256.size inb).emb y)).1 (blkIx ((Rect.unit (s := S2048x256) (k0_off1 c) S256x256.size inb).emb y)))
  rw [ht, hb]

/-- A device's activations cut for the exchange of the input. -/
theorem x_entry (c : Dev nD) : (xE c Finset.univ : sProp 𝕄)
    ⊢ iprop(xE c (preT 0 c) ∗ xE c (preT 0 (prt 0 c)) ∗ xE c (preT 1 (prt 1 c)) ∗ xE c (preT 2 (prt 2 c))) := by
  iintro H
  ihave ⟨H, H2⟩ := (xE_split c (pre_disj 2 c) (pre_split2 c).symm) $$ H
  ihave ⟨H, H1⟩ := (xE_split c (pre_disj 1 c) (pre_split1 c).symm) $$ H
  ihave ⟨H, H0⟩ := (xE_split c (pre_disj 0 c) (pre_split0 c).symm) $$ H
  isplitl [H]; · iexact H
  isplitl [H0]; · iexact H0
  isplitl [H1]; · iexact H1
  iexact H2

theorem mayWait_bar (c : Dev nD) : (levAts L lv : sProp 𝕄) ⊢ MayWait (c : Thread nD τ) (.reg barS) () (Ob c 0) :=
  mayWait_of c _ 0 (by rw [lv_bar]; decide)

theorem sig_pay (I : Inp F) (c : Dev nD) (j : Fin 3) :
    iprop(xE c (preT j (prt j c)) ∗ rE c (slot 0 (stA j)) ∗ rE c (slot 1 (stB j))) ⊢ (sch I).payload (barCell (prt j c)) 0 j := by
  rw [payload_bar]; unfold barPay; rw [prt_prt]

/-- Part 1 of the kernel, with what it takes and what it leaves. -/
theorem part1 (I : Inp F) (K : Dev nD × CI → ℕ) (c : Dev nD) {Q : _ → sProp 𝕄} :
    iprop(Start I K c ∗ g0 c (I.x c) ∗ xE c Finset.univ
        ∗ rE c (slot 0 0) ∗ rE c (slot 0 1) ∗ rE c (slot 0 2) ∗ rE c (slot 1 0) ∗ rE c (slot 1 1) ∗ rE c (slot 1 2))
      ⊢ iprop((∀ r, ⌜r.1 = c⌝ -∗ (Pool I K c 0 0 ∗ atPos ER (barCell c) (0 + 1) ∅ 0 ∗ g0 c (I.x c) ∗ xP c (preT 0 c) (X0 I)
          ∗ xE (prt 0 c) (preT 0 c) ∗ xE (prt 1 c) (preT 1 c) ∗ xE (prt 2 c) (preT 2 c)
          ∗ rE (sp 0 0 c) (slot 0 0) ∗ rE (sp 0 1 c) (slot 0 1) ∗ rE (sp 0 2 c) (slot 0 2)
          ∗ rE (sp 1 0 c) (slot 1 0) ∗ rE (sp 1 1 c) (slot 1 1) ∗ rE (sp 1 2 c) (slot 1 2)) -∗ Q r)
        -∗ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  rw [k0_part1_eq_skeleton]
  unfold k0_part1_skel
  simp only [semSignalWord, semWaitWord, Prog.lift, Prog.bind_op, Prog.bind_ret, Prog.pure_eq_ret]
  unfold Start
  iintro ⟨⟨#HR, #HL, ⟨%W, HO⟩, Ht0, Ht1, Ht2, HaB, HcB, Htoks⟩, G0, XU, R00, R01, R02, R10, R11, R12⟩ Hk
  ihave ⟨XO, X0, X1, X2⟩ := (x_entry c) $$ XU
  unfold WP
  rw [wp_deviceId]
  simp only [dev1_eq c, dev2_eq c, dev3_eq c]
  iapply (Rounds.wp_signal 𝒱₀ ER (sch I) (c : Thread nD τ) none (dst := (prt 0 c : Thread nD τ)) (κ := K (prt 0 c, none))
      (d := (0 : Fin 3)) (by rw [duties_bar]; exact Finset.mem_univ _) ((amount_bar I (prt 0 c) 0).trans (by decide)) () (O₁ c) rfl)
    $$ [HO Ht0 X0 R02 R12]
  · isplitr; · iapply (Recs_inv I K (prt 0 c, none)); iexact HR
    isplitl [HO]; · iexact HO
    isplitl [Ht0]; · iexact Ht0
    isplitl [X0 R02 R12]
    · iapply (sig_pay I c 0)
      isplitl [X0]; · iexact X0
      isplitl [R02]; · iexact R02
      iexact R12
    iapply (Recs_reached I K (prt 0 c, none)); iexact HR
  iintro HO
  iapply (Rounds.wp_signal 𝒱₀ ER (sch I) (c : Thread nD τ) none (dst := (prt 1 c : Thread nD τ)) (κ := K (prt 1 c, none))
      (d := (1 : Fin 3)) (by rw [duties_bar]; exact Finset.mem_univ _) ((amount_bar I (prt 1 c) 1).trans (by decide)) () (O₂ c) rfl)
    $$ [HO Ht1 X1 R01 R10]
  · isplitr; · iapply (Recs_inv I K (prt 1 c, none)); iexact HR
    isplitl [HO]; · iexact HO
    isplitl [Ht1]; · iexact Ht1
    isplitl [X1 R01 R10]
    · iapply (sig_pay I c 1)
      isplitl [X1]; · iexact X1
      isplitl [R01]; · iexact R01
      iexact R10
    iapply (Recs_reached I K (prt 1 c, none)); iexact HR
  iintro HO
  iapply (Rounds.wp_signal 𝒱₀ ER (sch I) (c : Thread nD τ) none (dst := (prt 2 c : Thread nD τ)) (κ := K (prt 2 c, none))
      (d := (2 : Fin 3)) (by rw [duties_bar]; exact Finset.mem_univ _) ((amount_bar I (prt 2 c) 2).trans (by decide)) () (Ob c 0) rfl)
    $$ [HO Ht2 X2 R00 R11]
  · isplitr; · iapply (Recs_inv I K (prt 2 c, none)); iexact HR
    isplitl [HO]; · iexact HO
    isplitl [Ht2]; · iexact Ht2
    isplitl [X2 R00 R11]
    · iapply (sig_pay I c 2)
      isplitl [X2]; · iexact X2
      isplitl [R00]; · iexact R00
      iexact R11
    iapply (Recs_reached I K (prt 2 c, none)); iexact HR
  iintro HO
  iapply (Rounds.wp_wait_rest_token 𝒱₀ ER (sch I) (c : Thread nD τ) none (κ := K (c, none))
      (wpE_semWait_eq 𝒱₀ (c : Thread nD τ) none Set.univ) (Set.mem_univ _) () (O := Ob c 0) (W := W) (R := 0) (m := 0) (T := ∅)
      (by rw [expect_bar]; decide)) $$ [HcB HO HaB]
  · isplitr; · iapply (Recs_inv I K (c, none)); iexact HR
    isplitl [HcB]; · iexact HcB
    isplitl [HO]; · iexact HO
    isplitr; · iapply (mayWait_bar c); iexact HL
    iexact HaB
  iintro ⟨HO, HaB, -, Hpay⟩
  ihave Hp := (Entails.of_eq (rest_bar I c)) $$ Hpay
  unfold barPay
  icases Hp with ⟨⟨Y0, Z02, Z12⟩, ⟨Y1, Z01, Z10⟩, ⟨Y2, Z00, Z11⟩⟩
  iapply (g0_load c (I.x c)) $$ G0
  iintro G0
  iapply (x_skip c c.val 1 0 2 (off1_eq c) rfl (T := preT 0 c) (Finset.Subset.refl _)) $$ XO
  iintro XO
  iapply (x_store c c.val 1 0 2 (off1_eq c) rfl (T := preT 0 c) rfl (X0 I) (fun y => own_val I c y)) $$ XO
  iintro XO
  iapply (WP_ret c)
  iapply Hk $$ %_ []
  · ipureintro; rfl
  unfold Pool owesN
  isplitl [HO Htoks]
  · isplitr; · iexact HR
    isplitr; · iexact HL
    isplitl [Htoks]
    · rw [show (Finset.univ.filter fun k : Fin 39 => 0 ≤ k.val) = Finset.univ from Finset.filter_true_of_mem fun k _ => Nat.zero_le _]
      iexact Htoks
    isplitl [HO]; · iexists _; iexact HO
    rw [show (Finset.univ.filter fun k : Fin 39 => k.val < 0) = ∅ from Finset.filter_false_of_mem fun k _ => Nat.not_lt_zero _, bigSep_empty]
    iempintro
  isplitl [HaB]; · iexact HaB
  isplitl [G0]; · iexact G0
  isplitl [XO]; · iexact XO
  isplitl [Y0]; · iexact Y0
  isplitl [Y1]; · iexact Y1
  isplitl [Y2]; · iexact Y2
  isplitl [Z00]; · iexact Z00
  isplitl [Z01]; · iexact Z01
  isplitl [Z02]; · iexact Z02
  isplitl [Z10]; · iexact Z10
  isplitl [Z11]; · iexact Z11
  iexact Z12

end Cert.K
-- ==== Proof.Parts0.lean ====
/-
# The parts of the kernel
-/
module

public import proofs.«01_k».proof.Proof.Stg

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 2 of the kernel, with what it takes and what it leaves. -/
theorem part2 (I : Inp F) (K : Dev nD × CI → ℕ) (c : Dev nD) (v2 v3 v4 v6 : BitVec 32) {Q : _ → sProp 𝕄} :
    iprop(Pool I K c 0 0 ∗ xP c (preT 0 c) (X0 I) ∗ xE (prt 0 c) (preT 0 c) ∗ xE (prt 1 c) (preT 1 c))
      ⊢ iprop(((Pool I K c 2 1 ∗ Fl c 1) -∗ Q ⟨⟩)
        -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v3 v4 v6) Q) := by
  rw [k0_part2_eq_skeleton]
  unfold k0_part2_skel
  simp only [Prog.lift, Prog.bind_op, Prog.bind_ret, Prog.pure_eq_ret]
  iintro ⟨HP, XA, YP0, YP1⟩ Hk
  iapply (pre_send I K c 0 0 rfl (n₀ := 0) (n₁ := 1) (m := 0) rfl rfl c.val 1 0 2 (off2_eq c) rfl rfl (dev4_eq c) rfl rfl rfl) $$ [HP XA YP0]
  · isplitl [HP]; · iexact HP
    isplitl [XA]; · iexact XA
    iexact YP0
  iintro ⟨HP, F0⟩
  iapply (swait_pre I K c 0 0 rfl rfl rfl) $$ [HP F0]
  · isplitl [HP]; · iexact HP
    iexact F0
  iintro ⟨HP, W0, XA⟩
  iapply (rwait_pre I K c (n := 1) (m₀ := 0) (m₁ := 1) 0 0 rfl rfl rfl (by decide) rfl rfl) $$ [HP W0]
  · isplitl [HP]; · iexact HP
    iexact W0
  iintro ⟨HP, XB⟩
  ihave XA := (x_pre0 c (X0 I)) $$ [XA XB]
  · isplitl [XA]; · iexact XA
    iexact XB
  iapply (pre_send I K c 1 1 rfl (n₀ := 1) (n₁ := 2) (m := 1) rfl rfl (![0, 0, 2, 2, 4, 4, 6, 6] c) 2 0 2 (off3_eq c) rfl rfl (dev5_eq c) rfl rfl rfl) $$ [HP XA YP1]
  · isplitl [HP]; · iexact HP
    isplitl [XA]; · iexact XA
    iexact YP1
  iintro ⟨HP, F1⟩
  iapply (WP_ret c)
  iapply Hk
  isplitl [HP]; · iexact HP
  iexact F1

/-- Part 3 of the kernel, with what it takes and what it leaves. -/
theorem part3 (I : Inp F) (K : Dev nD × CI → ℕ) (c : Dev nD) (v2 v4 v5 : BitVec 32) {Q : _ → sProp 𝕄} :
    iprop(Pool I K c 2 1 ∗ Fl c 1 ∗ xE (prt 2 c) (preT 2 c))
      ⊢ iprop(((Pool I K c 3 2 ∗ xP c (preT 2 c) (X0 I) ∗ W1 c 2) -∗ Q ⟨⟩)
        -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v2 v4 v5) Q) := by
  rw [k0_part3_eq_skeleton]
  unfold k0_part3_skel
  simp only [Prog.lift, Prog.bind_op, Prog.bind_ret, Prog.pure_eq_ret]
  iintro ⟨HP, F1, YP2⟩ Hk
  iapply (swait_pre I K c 1 1 rfl rfl rfl) $$ [HP F1]
  · isplitl [HP]; · iexact HP
    iexact F1
  iintro ⟨HP, W1, XA⟩
  iapply (rwait_pre I K c (n := 2) (m₀ := 1) (m₁ := 2) 1 1 rfl rfl rfl (by decide) rfl rfl) $$ [HP W1]
  · isplitl [HP]; · iexact HP
    iexact W1
  iintro ⟨HP, XB⟩
  ihave XA := (x_pre1 c (X0 I)) $$ [XA XB]
  · isplitl [XA]; · iexact XA
    iexact XB
  iapply (pre_send I K c 2 2 rfl (n₀ := 2) (n₁ := 3) (m := 2) rfl rfl (![0, 0, 0, 0, 4, 4, 4, 4] c) 4 0 2 (off4_eq c) rfl rfl (dev6_eq c) rfl rfl rfl) $$ [HP XA YP2]
  · isplitl [HP]; · iexact HP
    isplitl [XA]; · iexact XA
    iexact YP2
  iintro ⟨HP, F2⟩
  iapply (swait_pre I K c 2 2 rfl rfl rfl) $$ [HP F2]
  · isplitl [HP]; · iexact HP
    iexact F2
  iintro ⟨HP, W2, XA⟩
  iapply (WP_ret c)
  iapply Hk
  isplitl [HP]; · iexact HP
  isplitl [XA]; · iexact XA
  iexact W2

/-- Part 4 of the kernel, with what it takes and what it leaves. -/
theorem part4 (I : Inp F) (K : Dev nD × CI → ℕ) (c : Dev nD) (v6 v8 v10 : BitVec 32) {Q : _ → sProp 𝕄} :
    iprop(Pool I K c 3 2 ∗ W1 c 2 ∗ xP c (preT 2 c) (X0 I) ∗ g1 c (I.win 0 c))
      ⊢ iprop((∀ r, ⌜r.2.2.2.2.2.2.2.2.2.2.2.2 = k0_pay3 (Xs I 0) (I.win 0 c)⌝ -∗ (Pool I K c 3 3 ∗ xE c (keepT 0 3 c) ∗ xE c (sendT 0 2 c) ∗ xE c (sendT 0 1 c) ∗ xE c (sendT 0 0 c) ∗ xE c (keepT 1 3 c) ∗ xE c (sendT 1 2 c) ∗ xE c (sendT 1 1 c) ∗ xE c (sendT 1 0 c) ∗ g1 c (I.win 0 c)) -∗ Q r)
        -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v6 v8 v10) Q) := by
  rw [k0_part4_eq_skeleton]
  unfold k0_part4_skel
  simp only [Prog.lift, Prog.bind_op, Prog.bind_ret, Prog.pure_eq_ret]
  iintro ⟨HP, W2, XA, G1⟩ Hk
  iapply (rwait_pre I K c (n := 3) (m₀ := 2) (m₁ := 3) 2 2 rfl rfl rfl (by decide) rfl rfl) $$ [HP W2]
  · isplitl [HP]; · iexact HP
    iexact W2
  iintro ⟨HP, XB⟩
  ihave XU := (x_pre2 c (X0 I)) $$ [XA XB]
  · isplitl [XA]; · iexact XA
    iexact XB
  iapply (x_load_whole c (Xs I 0)) $$ [XU]
  · iexact XU
  iintro XU
  ihave ⟨XK0, X02, X01, X00, XK1, X12, X11, X10⟩ := (x_start c (Xs I 0)) $$ [XU]
  · iexact XU
  iapply (g1_load c (I.win 0 c)) $$ [G1]
  · iexact G1
  iintro G1
  iapply (WP_ret c)
  iapply Hk $$ %_ []
  · ipureintro; rfl
  isplitl [HP]; · iexact HP
  isplitl [XK0]; · iexact XK0
  isplitl [X02]; · iexact X02
  isplitl [X01]; · iexact X01
  isplitl [X00]; · iexact X00
  isplitl [XK1]; · iexact XK1
  isplitl [X12]; · iexact X12
  isplitl [X11]; · iexact X11
  isplitl [X10]; · iexact X10
  iexact G1

/-- Part 5 of the kernel, with what it takes and what it leaves. -/
theorem part5 (I : Inp F) (K : Dev nD × CI → ℕ) (c : Dev nD) (v4 v5 v92 v105 : BitVec 32) {Q : _ → sProp 𝕄} :
    iprop(g2 c (I.wout 0 c) ∗ pE c Finset.univ ∗ bE c (sendT 0 0 c) ∗ bE c (sendT 1 0 c) ∗ Pool I K c 3 3 ∗ rE (sp 0 0 c) (slot 0 0) ∗ xE c (sendT 0 0 c))
      ⊢ iprop(((g2 c (I.wout 0 c) ∗ pP c (keepT 0 1 c) (acc I 0 0 c) ∗ pP c (sendT 0 0 c) (acc I 0 0 c) ∗ pP c (keepT 1 1 c) (acc I 0 0 c) ∗ pP c (sendT 1 0 c) (acc I 0 0 c) ∗ bP c (sendT 1 0 c) (fun x => trS (acc I 0 0 c x)) ∗ Pool I K c 4 3 ∗ Fl c 3) -∗ Q ⟨⟩)
        -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5 v92 v105 (k0_pay3 (Xs I 0) (I.win 0 c))) Q) := by
  rw [k0_part5_eq_skeleton]
  unfold k0_part5_skel
  simp only [Prog.lift, Prog.bind_op, Prog.bind_ret, Prog.pure_eq_ret]
  iintro ⟨G2, PE, B00, B10, HP, Z00, X00⟩ Hk
  iapply (g2_load c (I.wout 0 c)) $$ [G2]
  · iexact G2
  iintro G2
  iapply (p_skip_whole c) $$ [PE]
  · iexact PE
  iintro PE
  iapply (p_store_whole c (acc I 0 0 c) (by rfl)) $$ [PE]
  · iexact PE
  iintro PU
  ihave ⟨PK0, PS00, PK1, PS10⟩ := (p_start c (acc I 0 0 c)) $$ [PU]
  · iexact PU
  iapply (p_loadS c (size := S1024x128.size) 0 0 (off5_eq c) rfl (acc I 0 0 c)) $$ [PS00]
  · iexact PS00
  iintro PS00
  iapply (b_skipS c 0 0 (off5_eq c) rfl) $$ [B00]
  · iexact B00
  iintro B00
  iapply (b_storeS I c 0 0 0 (off5_eq c) rfl (fun y => congrFun (pay5_eq _) y)) $$ [B00]
  · iexact B00
  iintro B00
  iapply (p_loadS c (size := S1024x128.size) 1 0 (off6_eq c) rfl (acc I 0 0 c)) $$ [PS10]
  · iexact PS10
  iintro PS10
  iapply (b_skipS c 1 0 (off6_eq c) rfl) $$ [B10]
  · iexact B10
  iintro B10
  iapply (b_storeS I c 0 0 1 (off6_eq c) rfl (fun y => congrFun (pay5_eq _) y)) $$ [B10]
  · iexact B10
  iintro B10
  iapply (rs_send I K c 0 0 0 3 rfl (n₀ := 3) (n₁ := 4) (m := 3) rfl rfl (r := 1024) (off7_eq c) rfl rfl (dev7_eq c) rfl rfl) $$ [HP B00 Z00 X00]
  · isplitl [HP]; · iexact HP
    isplitl [B00]; · iexact B00
    isplitl [Z00]; · iexact Z00
    iexact X00
  iintro ⟨HP, F3⟩
  iapply (WP_ret c)
  iapply Hk
  isplitl [G2]; · iexact G2
  isplitl [PK0]; · iexact PK0
  isplitl [PS00]; · iexact PS00
  isplitl [PK1]; · iexact PK1
  isplitl [PS10]; · iexact PS10
  isplitl [B10]; · iexact B10
  isplitl [HP]; · iexact HP
  iexact F3

/-- Part 6 of the kernel, with what it takes and what it leaves. -/
theorem part6 (I : Inp F) (K : Dev nD × CI → ℕ) (c : Dev nD) (v5 v86 v95 : BitVec 32) {Q : _ → sProp 𝕄} :
    iprop(Pool I K c 4 3 ∗ bP c (sendT 1 0 c) (fun x => trS (acc I 0 0 c x)) ∗ rE (sp 1 0 c) (slot 1 0) ∗ xE c (sendT 1 0 c) ∗ Fl c 3 ∗ pP c (keepT 0 1 c) (acc I 0 0 c))
      ⊢ iprop(((Pool I K c 5 4 ∗ Fl c 4 ∗ bE c (sendT 0 0 c) ∗ rP c (slot 0 0) (landed I 0 0 0 (sp 0 0 c)) ∗ xE (sp 0 0 c) (keepT 0 1 c) ∗ pP c (keepT 0 2 c) (acc I 0 1 c) ∗ pP c (sendT 0 1 c) (acc I 0 1 c)) -∗ Q ⟨⟩)
        -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v86 v95) Q) := by
  rw [k0_part6_eq_skeleton]
  unfold k0_part6_skel
  simp only [Prog.lift, Prog.bind_op, Prog.bind_ret, Prog.pure_eq_ret]
  iintro ⟨HP, B10, Z10, X10, F3, PK0⟩ Hk
  iapply (rs_send I K c 0 0 1 4 rfl (n₀ := 4) (n₁ := 5) (m := 3) rfl rfl (r := 1024) (off8_eq c) rfl rfl (dev8_eq c) rfl rfl) $$ [HP B10 Z10 X10]
  · isplitl [HP]; · iexact HP
    isplitl [B10]; · iexact B10
    isplitl [Z10]; · iexact Z10
    iexact X10
  iintro ⟨HP, F4⟩
  iapply (swait_rs I K c 3 0 0 0 rfl rfl rfl) $$ [HP F3]
  · isplitl [HP]; · iexact HP
    iexact F3
  iintro ⟨HP, W3, B00⟩
  iapply (rwait_rs I K c (n := 5) (m₀ := 3) (m₁ := 4) 3 0 0 0 rfl rfl rfl (by decide) rfl rfl) $$ [HP W3]
  · isplitl [HP]; · iexact HP
    iexact W3
  iintro ⟨HP, R00, Y00⟩
  iapply (p_loadK c (size := S1024x128.size) 0 1 (off9_eq c) rfl (acc I 0 0 c)) $$ [PK0]
  · iexact PK0
  iintro PK0
  iapply (r_load c (size := S1x1x1024x128.size) (off := ![0, 0, 0, 0]) 0 0 rfl rfl (landed I 0 0 0 (sp 0 0 c))) $$ [R00]
  · iexact R00
  iintro R00
  iapply (p_loadK c (size := S1024x128.size) 0 1 (off9_eq c) rfl (acc I 0 0 c)) $$ [PK0]
  · iexact PK0
  iintro PK0
  iapply (p_storeK I c 0 1 0 0 (off9_eq c) rfl (fun y => (congrFun (pay7_eq _ _) y).trans (fin_val I 0 0 0 c (off9_eq c) rfl rfl _ y))) $$ [PK0]
  · iexact PK0
  iintro PK0
  ihave ⟨PK0, PS01⟩ := (p_cut c 0 1 (acc I 0 1 c)) $$ [PK0]
  · iexact PK0
  iapply (WP_ret c)
  iapply Hk
  isplitl [HP]; · iexact HP
  isplitl [F4]; · iexact F4
  isplitl [B00]; · iexact B00
  isplitl [R00]; · iexact R00
  isplitl [Y00]; · iexact Y00
  isplitl [PK0]; · iexact PK0
  iexact PS01

/-- Part 7 of the kernel, with what it takes and what it leaves. -/
theorem part7 (I : Inp F) (K : Dev nD × CI → ℕ) (c : Dev nD) (v4 v95 v99 : BitVec 32) {Q : _ → sProp 𝕄} :
    iprop(pP c (sendT 0 1 c) (acc I 0 1 c) ∗ bE c (sendT 0 1 c) ∗ Pool I K c 5 4 ∗ rE (sp 0 1 c) (slot 0 1) ∗ xE c (sendT 0 1 c) ∗ Fl c 4)
      ⊢ iprop(((pP c (sendT 0 1 c) (acc I 0 1 c) ∗ Pool I K c 6 5 ∗ Fl c 5 ∗ bE c (sendT 1 0 c) ∗ rP c (slot 1 0) (landed I 0 0 1 (sp 1 0 c)) ∗ xE (sp 1 0 c) (keepT 1 1 c)) -∗ Q ⟨⟩)
        -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v95 v99) Q) := by
  rw [k0_part7_eq_skeleton]
  unfold k0_part7_skel
  simp only [Prog.lift, Prog.bind_op, Prog.bind_ret, Prog.pure_eq_ret]
  iintro ⟨PS01, B01, HP, Z01, X01, F4⟩ Hk
  iapply (p_loadS c (size := S512x128.size) 0 1 (off10_eq c) rfl (acc I 0 1 c)) $$ [PS01]
  · iexact PS01
  iintro PS01
  iapply (b_skipS c 0 1 (off10_eq c) rfl) $$ [B01]
  · iexact B01
  iintro B01
  iapply (b_storeS I c 0 1 0 (off10_eq c) rfl (fun y => congrFun (pay8_eq _) y)) $$ [B01]
  · iexact B01
  iintro B01
  iapply (rs_send I K c 0 1 0 5 rfl (n₀ := 5) (n₁ := 6) (m := 4) rfl rfl (r := 512) (off11_eq c) rfl rfl (dev9_eq c) rfl rfl) $$ [HP B01 Z01 X01]
  · isplitl [HP]; · iexact HP
    isplitl [B01]; · iexact B01
    isplitl [Z01]; · iexact Z01
    iexact X01
  iintro ⟨HP, F5⟩
  iapply (swait_rs I K c 4 0 0 1 rfl rfl rfl) $$ [HP F4]
  · isplitl [HP]; · iexact HP
    iexact F4
  iintro ⟨HP, W4, B10⟩
  iapply (rwait_rs I K c (n := 6) (m₀ := 4) (m₁ := 5) 4 0 0 1 rfl rfl rfl (by decide) rfl rfl) $$ [HP W4]
  · isplitl [HP]; · iexact HP
    iexact W4
  iintro ⟨HP, R10, Y10⟩
  iapply (WP_ret c)
  iapply Hk
  isplitl [PS01]; · iexact PS01
  isplitl [HP]; · iexact HP
  isplitl [F5]; · iexact F5
  isplitl [B10]; · iexact B10
  isplitl [R10]; · iexact R10
  iexact Y10

/-- Part 8 of the kernel, with what it takes and what it leaves. -/
theorem part8 (I : Inp F) (K : Dev nD × CI → ℕ) (c : Dev nD) (v5 v99 v108 : BitVec 32) {Q : _ → sProp 𝕄} :
    iprop(pP c (keepT 1 1 c) (acc I 0 0 c) ∗ rP c (slot 1 0) (landed I 0 0 1 (sp 1 0 c)) ∗ bE c (sendT 1 1 c) ∗ Pool I K c 6 5 ∗ rE (sp 1 1 c) (slot 1 1) ∗ xE c (sendT 1 1 c) ∗ Fl c 5)
      ⊢ iprop(((pP c (keepT 1 2 c) (acc I 0 1 c) ∗ rP c (slot 1 0) (landed I 0 0 1 (sp 1 0 c)) ∗ pP c (sendT 1 1 c) (acc I 0 1 c) ∗ Pool I K c 7 5 ∗ Fl c 6 ∗ W1 c 5 ∗ bE c (sendT 0 1 c)) -∗ Q ⟨⟩)
        -∗ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v99 v108) Q) := by
  rw [k0_part8_eq_skeleton]
  unfold k0_part8_skel
  simp only [Prog.lift, Prog.bind_op, Prog.bind_ret, Prog.pure_eq_ret]
  iintro ⟨PK1, R10, B11, HP, Z11, X11, F5⟩ Hk
  iapply (p_loadK c (size := S1024x128.size) 1 1 (off12_eq c) rfl (acc I 0 0 c)) $$ [PK1]
  · iexact PK1
  iintro PK1
  iapply (r_load c (size := S1x1x1024x128.size) (off := ![1, 0, 0, 0]) 1 0 rfl rfl (landed I 0 0 1 (sp 1 0 c))) $$ [R10]
  · iexact R10
  iintro R10
  iapply (p_loadK c (size := S1024x128.size) 1 1 (off12_eq c) rfl (acc I 0 0 c)) $$ [PK1]
  · iexact PK1
  iintro PK1
  iapply (p_storeK I c 0 1 0 1 (off12_eq c) rfl (fun y => (congrFun (pay7_eq _ _) y).trans (fin_val I 0 0 1 c (off12_eq c) rfl rfl _ y))) $$ [PK1]
  · iexact PK1
  iintro PK1
  ihave ⟨PK1, PS11⟩ := (p_cut c 1 1 (acc I 0 1 c)) $$ [PK1]
  · iexact PK1
  iapply (p_loadS c (size := S512x128.size) 1 1 (off13_eq c) rfl (acc I 0 1 c)) $$ [PS11]
  · iexact PS11
  iintro PS11
  iapply (b_skipS c 1 1 (off13_eq c) rfl) $$ [B11]
  · iexact B11
  iintro B11
  iapply (b_storeS I c 0 1 1 (off13_eq c) rfl (fun y => congrFun (pay8_eq _) y)) $$ [B11]
  · iexact B11
  iintro B11
  iapply (rs_send I K c 0 1 1 6 rfl (n₀ := 6) (n₁ := 7) (m := 5) rfl rfl (r := 512) (off14_eq c) rfl rfl (dev10_eq c) rfl rfl) $$ [HP B11 Z11 X11]
  · isplitl [HP]; · iexact HP
    isplitl [B11]; · iexact B11
    isplitl [Z11]; · iexact Z11
    iexact X11
  iintro ⟨HP, F6⟩
  iapply (swait_rs I K c 5 0 1 0 rfl rfl rfl) $$ [HP F5]
  · isplitl [HP]; · iexact HP
    iexact F5
  iintro ⟨HP, W5, B01⟩
  iapply (WP_ret c)
  iapply Hk
  isplitl [PK1]; · iexact PK1
  isplitl [R10]; · iexact R10
  isplitl [PS11]; · iexact PS11
  isplitl [HP]; · iexact HP
  isplitl [F6]; · iexact F6
  isplitl [W5]; · iexact W5
  iexact B01

end Cert.K
-- ==== Proof.Parts1.lean ====
/-
# The parts of the kernel
-/
module

public import proofs.«01_k».proof.Proof.Stg

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 9 of the kernel, with what it takes and what it leaves. -/
theorem part9 (I : Inp F) (K : Dev nD × CI → ℕ) (c : Dev nD) (v3 v4 v88 v98 : BitVec 32) {Q : _ → sProp 𝕄} :
    iprop(Pool I K c 7 5 ∗ W1 c 5 ∗ pP c (keepT 0 2 c) (acc I 0 1 c) ∗ bE c (sendT 0 2 c))
      ⊢ iprop(((Pool I K c 7 6 ∗ rP c (slot 0 1) (landed I 0 1 0 (sp 0 1 c)) ∗ xE (sp 0 1 c) (keepT 0 2 c) ∗ pP c (keepT 0 3 c) (acc I 0 2 c) ∗ pP c (sendT 0 2 c) (acc I 0 2 c) ∗ bP c (sendT 0 2 c) (fun x => trS (acc I 0 2 c x))) -∗ Q ⟨⟩)
        -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v88 v98) Q) := by
  rw [k0_part9_eq_skeleton]
  unfold k0_part9_skel
  simp only [Prog.lift, Prog.bind_op, Prog.bind_ret, Prog.pure_eq_ret]
  iintro ⟨HP, W5, PK0, B02⟩ Hk
  iapply (rwait_rs I K c (n := 7) (m₀ := 5) (m₁ := 6) 5 0 1 0 rfl rfl rfl (by decide) rfl rfl) $$ [HP W5]
  · isplitl [HP]; · iexact HP
    iexact W5
  iintro ⟨HP, R01, Y01⟩
  iapply (p_loadK c (size := S512x128.size) 0 2 (off15_eq c) rfl (acc I 0 1 c)) $$ [PK0]
  · iexact PK0
  iintro PK0
  iapply (r_load c (size := S1x1x512x128.size) (off := ![0, 1, 0, 0]) 0 1 rfl rfl (landed I 0 1 0 (sp 0 1 c))) $$ [R01]
  · iexact R01
  iintro R01
  iapply (p_loadK c (size := S512x128.size) 0 2 (off15_eq c) rfl (acc I 0 1 c)) $$ [PK0]
  · iexact PK0
  iintro PK0
  iapply (p_storeK I c 0 2 1 0 (off15_eq c) rfl (fun y => (congrFun (pay11_eq _ _) y).trans (fin_val I 0 1 0 c (off15_eq c) rfl rfl _ y))) $$ [PK0]
  · iexact PK0
  iintro PK0
  ihave ⟨PK0, PS02⟩ := (p_cut c 0 2 (acc I 0 2 c)) $$ [PK0]
  · iexact PK0
  iapply (p_loadS c (size := S256x128.size) 0 2 (off16_eq c) rfl (acc I 0 2 c)) $$ [PS02]
  · iexact PS02
  iintro PS02
  iapply (b_skipS c 0 2 (off16_eq c) rfl) $$ [B02]
  · iexact B02
  iintro B02
  iapply (b_storeS I c 0 2 0 (off16_eq c) rfl (fun y => congrFun (pay12_eq _) y)) $$ [B02]
  · iexact B02
  iintro B02
  iapply (WP_ret c)
  iapply Hk
  isplitl [HP]; · iexact HP
  isplitl [R01]; · iexact R01
  isplitl [Y01]; · iexact Y01
  isplitl [PK0]; · iexact PK0
  isplitl [PS02]; · iexact PS02
  iexact B02

/-- Part 10 of the kernel, with what it takes and what it leaves. -/
theorem part10 (I : Inp F) (K : Dev nD × CI → ℕ) (c : Dev nD) (v5 v101 v111 : BitVec 32) {Q : _ → sProp 𝕄} :
    iprop(Pool I K c 7 6 ∗ bP c (sendT 0 2 c) (fun x => trS (acc I 0 2 c x)) ∗ rE (sp 0 2 c) (slot 0 2) ∗ xE c (sendT 0 2 c) ∗ Fl c 6 ∗ pP c (keepT 1 2 c) (acc I 0 1 c) ∗ bE c (sendT 1 2 c))
      ⊢ iprop(((Pool I K c 8 7 ∗ Fl c 7 ∗ bE c (sendT 1 1 c) ∗ rP c (slot 1 1) (landed I 0 1 1 (sp 1 1 c)) ∗ xE (sp 1 1 c) (keepT 1 2 c) ∗ pP c (keepT 1 3 c) (acc I 0 2 c) ∗ pP c (sendT 1 2 c) (acc I 0 2 c) ∗ bP c (sendT 1 2 c) (fun x => trS (acc I 0 2 c x))) -∗ Q ⟨⟩)
        -∗ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v101 v111) Q) := by
  rw [k0_part10_eq_skeleton]
  unfold k0_part10_skel
  simp only [Prog.lift, Prog.bind_op, Prog.bind_ret, Prog.pure_eq_ret]
  iintro ⟨HP, B02, Z02, X02, F6, PK1, B12⟩ Hk
  iapply (rs_send I K c 0 2 0 7 rfl (n₀ := 7) (n₁ := 8) (m := 6) rfl rfl (r := 256) (off17_eq c) rfl rfl (dev11_eq c) rfl rfl) $$ [HP B02 Z02 X02]
  · isplitl [HP]; · iexact HP
    isplitl [B02]; · iexact B02
    isplitl [Z02]; · iexact Z02
    iexact X02
  iintro ⟨HP, F7⟩
  iapply (swait_rs I K c 6 0 1 1 rfl rfl rfl) $$ [HP F6]
  · isplitl [HP]; · iexact HP
    iexact F6
  iintro ⟨HP, W6, B11⟩
  iapply (rwait_rs I K c (n := 8) (m₀ := 6) (m₁ := 7) 6 0 1 1 rfl rfl rfl (by decide) rfl rfl) $$ [HP W6]
  · isplitl [HP]; · iexact HP
    iexact W6
  iintro ⟨HP, R11, Y11⟩
  iapply (p_loadK c (size := S512x128.size) 1 2 (off18_eq c) rfl (acc I 0 1 c)) $$ [PK1]
  · iexact PK1
  iintro PK1
  iapply (r_load c (size := S1x1x512x128.size) (off := ![1, 1, 0, 0]) 1 1 rfl rfl (landed I 0 1 1 (sp 1 1 c))) $$ [R11]
  · iexact R11
  iintro R11
  iapply (p_loadK c (size := S512x128.size) 1 2 (off18_eq c) rfl (acc I 0 1 c)) $$ [PK1]
  · iexact PK1
  iintro PK1
  iapply (p_storeK I c 0 2 1 1 (off18_eq c) rfl (fun y => (congrFun (pay11_eq _ _) y).trans (fin_val I 0 1 1 c (off18_eq c) rfl rfl _ y))) $$ [PK1]
  · iexact PK1
  iintro PK1
  ihave ⟨PK1, PS12⟩ := (p_cut c 1 2 (acc I 0 2 c)) $$ [PK1]
  · iexact PK1
  iapply (p_loadS c (size := S256x128.size) 1 2 (off19_eq c) rfl (acc I 0 2 c)) $$ [PS12]
  · iexact PS12
  iintro PS12
  iapply (b_skipS c 1 2 (off19_eq c) rfl) $$ [B12]
  · iexact B12
  iintro B12
  iapply (b_storeS I c 0 2 1 (off19_eq c) rfl (fun y => congrFun (pay12_eq _) y)) $$ [B12]
  · iexact B12
  iintro B12
  iapply (WP_ret c)
  iapply Hk
  isplitl [HP]; · iexact HP
  isplitl [F7]; · iexact F7
  isplitl [B11]; · iexact B11
  isplitl [R11]; · iexact R11
  isplitl [Y11]; · iexact Y11
  isplitl [PK1]; · iexact PK1
  isplitl [PS12]; · iexact PS12
  iexact B12

/-- Part 11 of the kernel, with what it takes and what it leaves. -/
theorem part11 (I : Inp F) (K : Dev nD × CI → ℕ) (c : Dev nD) (v3 v90 : BitVec 32) {Q : _ → sProp 𝕄} :
    iprop(Pool I K c 8 7 ∗ bP c (sendT 1 2 c) (fun x => trS (acc I 0 2 c x)) ∗ rE (sp 1 2 c) (slot 1 2) ∗ xE c (sendT 1 2 c) ∗ Fl c 7 ∗ pP c (keepT 0 3 c) (acc I 0 2 c))
      ⊢ iprop((∀ r, ⌜r = (k0_pay15 (fun y => (acc I 0 2 c) ((Rect.unit (s := S2048x256) (k0_off21 c) S256x128.size (k0_off21_inb c)).emb y)) (fun y => landed I 0 2 0 (sp 0 2 c) ((Rect.unit (s := S2x3x1024x128) ![0, 2, 0, 0] S1x1x256x128.size inb_S2x3x1024x128_S1x1x256x128_0_2_0_0).emb y)))⌝ -∗ (Pool I K c 9 8 ∗ Fl c 8 ∗ bE c (sendT 0 2 c) ∗ rP c (slot 0 2) (landed I 0 2 0 (sp 0 2 c)) ∗ xE (sp 0 2 c) (keepT 0 3 c) ∗ pP c (keepT 0 3 c) (acc I 0 2 c)) -∗ Q r)
        -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v90) Q) := by
  rw [k0_part11_eq_skeleton]
  unfold k0_part11_skel
  simp only [Prog.lift, Prog.bind_op, Prog.bind_ret, Prog.pure_eq_ret]
  iintro ⟨HP, B12, Z12, X12, F7, PK0⟩ Hk
  iapply (rs_send I K c 0 2 1 8 rfl (n₀ := 8) (n₁ := 9) (m := 7) rfl rfl (r := 256) (off20_eq c) rfl rfl (dev12_eq c) rfl rfl) $$ [HP B12 Z12 X12]
  · isplitl [HP]; · iexact HP
    isplitl [B12]; · iexact B12
    isplitl [Z12]; · iexact Z12
    iexact X12
  iintro ⟨HP, F8⟩
  iapply (swait_rs I K c 7 0 2 0 rfl rfl rfl) $$ [HP F7]
  · isplitl [HP]; · iexact HP
    iexact F7
  iintro ⟨HP, W7, B02⟩
  iapply (rwait_rs I K c (n := 9) (m₀ := 7) (m₁ := 8) 7 0 2 0 rfl rfl rfl (by decide) rfl rfl) $$ [HP W7]
  · isplitl [HP]; · iexact HP
    iexact W7
  iintro ⟨HP, R02, Y02⟩
  iapply (p_loadK c (size := S256x128.size) 0 3 (off21_eq c) rfl (acc I 0 2 c)) $$ [PK0]
  · iexact PK0
  iintro PK0
  iapply (r_load c (size := S1x1x256x128.size) (off := ![0, 2, 0, 0]) 0 2 rfl rfl (landed I 0 2 0 (sp 0 2 c))) $$ [R02]
  · iexact R02
  iintro R02
  iapply (WP_ret c)
  iapply Hk $$ %_ []
  · ipureintro; rfl
  isplitl [HP]; · iexact HP
  isplitl [F8]; · iexact F8
  isplitl [B02]; · iexact B02
  isplitl [R02]; · iexact R02
  isplitl [Y02]; · iexact Y02
  iexact PK0

/-- Part 12 of the kernel, with what it takes and what it leaves. -/
theorem part12 (I : Inp F) (K : Dev nD × CI → ℕ) (c : Dev nD) (v3 v90 v103 : BitVec 32) {Q : _ → sProp 𝕄} :
    iprop(xE c (keepT 0 3 c) ∗ rP c (slot 0 2) (landed I 0 2 0 (sp 0 2 c)) ∗ Pool I K c 9 8 ∗ xE (sp 0 2 c) (keepT 0 3 c) ∗ Fl c 8 ∗ pP c (keepT 1 3 c) (acc I 0 2 c))
      ⊢ iprop((∀ r, ⌜r = (fun y => (acc I 0 2 c) ((Rect.unit (s := S2048x256) (k0_off23 c) S256x128.size (k0_off23_inb c)).emb y))⌝ -∗ (Pool I K c 10 9 ∗ Fl c 9 ∗ bE c (sendT 1 2 c) ∗ rP c (slot 1 2) (landed I 0 2 1 (sp 1 2 c)) ∗ xE (sp 1 2 c) (keepT 1 3 c) ∗ pP c (keepT 1 3 c) (acc I 0 2 c)) -∗ Q r)
        -∗ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v90 v103 ((k0_pay15 (fun y => (acc I 0 2 c) ((Rect.unit (s := S2048x256) (k0_off21 c) S256x128.size (k0_off21_inb c)).emb y)) (fun y => landed I 0 2 0 (sp 0 2 c) ((Rect.unit (s := S2x3x1024x128) ![0, 2, 0, 0] S1x1x256x128.size inb_S2x3x1024x128_S1x1x256x128_0_2_0_0).emb y))))) Q) := by
  rw [k0_part12_eq_skeleton]
  unfold k0_part12_skel
  simp only [Prog.lift, Prog.bind_op, Prog.bind_ret, Prog.pure_eq_ret]
  iintro ⟨XK0, R02, HP, Y02, F8, PK1⟩ Hk
  iapply (x_skipK c 0 3 (off21_eq c) rfl) $$ [XK0]
  · iexact XK0
  iintro XK0
  iapply (x_storeK I c 0 0 (off21_eq c) rfl (fun y => (congrFun ((pay15_16_eq _ _).trans (pay17_eq _ _)) y).trans (fin_val_last I 0 0 c (off21_eq c) rfl rfl _ y))) $$ [XK0]
  · iexact XK0
  iintro XK0
  ihave V := (slot_give 0 2 0 c _ (by decide)) $$ [R02]
  · iexact R02
  iapply (ag_send I K c 0 2 0 9 rfl (n₀ := 9) (n₁ := 10) (m := 8) rfl rfl (off22_eq c) rfl (dev13_eq c) rfl rfl) $$ [HP XK0 Y02 V]
  · isplitl [HP]; · iexact HP
    isplitl [XK0]; · iexact XK0
    isplitl [Y02]; · iexact Y02
    iexact V
  iintro ⟨HP, F9⟩
  iapply (swait_rs I K c 8 0 2 1 rfl rfl rfl) $$ [HP F8]
  · isplitl [HP]; · iexact HP
    iexact F8
  iintro ⟨HP, W8, B12⟩
  iapply (rwait_rs I K c (n := 10) (m₀ := 8) (m₁ := 9) 8 0 2 1 rfl rfl rfl (by decide) rfl rfl) $$ [HP W8]
  · isplitl [HP]; · iexact HP
    iexact W8
  iintro ⟨HP, R12, Y12⟩
  iapply (p_loadK c (size := S256x128.size) 1 3 (off23_eq c) rfl (acc I 0 2 c)) $$ [PK1]
  · iexact PK1
  iintro PK1
  iapply (WP_ret c)
  iapply Hk $$ %_ []
  · ipureintro; rfl
  isplitl [HP]; · iexact HP
  isplitl [F9]; · iexact F9
  isplitl [B12]; · iexact B12
  isplitl [R12]; · iexact R12
  isplitl [Y12]; · iexact Y12
  iexact PK1

/-- Part 13 of the kernel, with what it takes and what it leaves. -/
theorem part13 (I : Inp F) (K : Dev nD × CI → ℕ) (c : Dev nD) (v3 v4 v103 : BitVec 32) {Q : _ → sProp 𝕄} :
    iprop(rP c (slot 1 2) (landed I 0 2 1 (sp 1 2 c)) ∗ xE c (keepT 1 3 c) ∗ Pool I K c 10 9 ∗ xE (sp 1 2 c) (keepT 1 3 c) ∗ Fl c 9)
      ⊢ iprop(((Pool I K c 11 10 ∗ Fl c 10 ∗ xP c (keepT 0 2 c) (Xs I 1) ∗ rE (sp 0 2 c) (slot 0 2)) -∗ Q ⟨⟩)
        -∗ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v103 ((fun y => (acc I 0 2 c) ((Rect.unit (s := S2048x256) (k0_off23 c) S256x128.size (k0_off23_inb c)).emb y)))) Q) := by
  rw [k0_part13_eq_skeleton]
  unfold k0_part13_skel
  simp only [Prog.lift, Prog.bind_op, Prog.bind_ret, Prog.pure_eq_ret]
  iintro ⟨R12, XK1, HP, Y12, F9⟩ Hk
  iapply (r_load c (size := S1x1x256x128.size) (off := ![1, 2, 0, 0]) 1 2 rfl rfl (landed I 0 2 1 (sp 1 2 c))) $$ [R12]
  · iexact R12
  iintro R12
  iapply (x_skipK c 1 3 (off23_eq c) rfl) $$ [XK1]
  · iexact XK1
  iintro XK1
  iapply (x_storeK I c 0 1 (off23_eq c) rfl (fun y => (congrFun (pay17_eq _ _) y).trans (fin_val_last I 0 1 c (off23_eq c) rfl rfl _ y))) $$ [XK1]
  · iexact XK1
  iintro XK1
  ihave V := (slot_give 0 2 1 c _ (by decide)) $$ [R12]
  · iexact R12
  iapply (ag_send I K c 0 2 1 10 rfl (n₀ := 10) (n₁ := 11) (m := 9) rfl rfl (off24_eq c) rfl (dev14_eq c) rfl rfl) $$ [HP XK1 Y12 V]
  · isplitl [HP]; · iexact HP
    isplitl [XK1]; · iexact XK1
    isplitl [Y12]; · iexact Y12
    iexact V
  iintro ⟨HP, F10⟩
  iapply (swait_ag I K c 9 0 2 0 rfl rfl rfl) $$ [HP F9]
  · isplitl [HP]; · iexact HP
    iexact F9
  iintro ⟨HP, W9, XK0⟩
  iapply (rwait_ag I K c (n := 11) (m₀ := 9) (m₁ := 10) 9 0 2 0 rfl rfl rfl (by decide) rfl rfl) $$ [HP W9]
  · isplitl [HP]; · iexact HP
    iexact W9
  iintro ⟨HP, X02, V⟩
  ihave XK0 := (x_join c 0 2 (Xs I 1)) $$ [XK0 X02]
  · isplitl [XK0]; · iexact XK0
    iexact X02
  ihave Z02 := (slot_take 0 2 0 (sp 0 2 c) (by decide)) $$ [V]
  · iexact V
  iapply (WP_ret c)
  iapply Hk
  isplitl [HP]; · iexact HP
  isplitl [F10]; · iexact F10
  isplitl [XK0]; · iexact XK0
  iexact Z02

/-- Part 14 of the kernel, with what it takes and what it leaves. -/
theorem part14 (I : Inp F) (K : Dev nD × CI → ℕ) (c : Dev nD) (v3 v4 v5 : BitVec 32) {Q : _ → sProp 𝕄} :
    iprop(rP c (slot 0 1) (landed I 0 1 0 (sp 0 1 c)) ∗ Pool I K c 11 10 ∗ xP c (keepT 0 2 c) (Xs I 1) ∗ xE (sp 0 1 c) (keepT 0 2 c) ∗ Fl c 10 ∗ rP c (slot 1 1) (landed I 0 1 1 (sp 1 1 c)) ∗ xE (sp 1 1 c) (keepT 1 2 c))
      ⊢ iprop(((Pool I K c 13 11 ∗ xP c (keepT 0 2 c) (Xs I 1) ∗ rE (sp 1 2 c) (slot 1 2) ∗ Fl c 12 ∗ W1 c 11) -∗ Q ⟨⟩)
        -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v5) Q) := by
  rw [k0_part14_eq_skeleton]
  unfold k0_part14_skel
  simp only [Prog.lift, Prog.bind_op, Prog.bind_ret, Prog.pure_eq_ret]
  iintro ⟨R01, HP, XK0, Y01, F10, R11, Y11⟩ Hk
  ihave V := (slot_give 0 1 0 c _ (by decide)) $$ [R01]
  · iexact R01
  iapply (ag_send I K c 0 1 0 11 rfl (n₀ := 11) (n₁ := 12) (m := 10) rfl rfl (off25_eq c) rfl (dev15_eq c) rfl rfl) $$ [HP XK0 Y01 V]
  · isplitl [HP]; · iexact HP
    isplitl [XK0]; · iexact XK0
    isplitl [Y01]; · iexact Y01
    iexact V
  iintro ⟨HP, F11⟩
  iapply (swait_ag I K c 10 0 2 1 rfl rfl rfl) $$ [HP F10]
  · isplitl [HP]; · iexact HP
    iexact F10
  iintro ⟨HP, W10, XK1⟩
  iapply (rwait_ag I K c (n := 12) (m₀ := 10) (m₁ := 11) 10 0 2 1 rfl rfl rfl (by decide) rfl rfl) $$ [HP W10]
  · isplitl [HP]; · iexact HP
    iexact W10
  iintro ⟨HP, X12, V⟩
  ihave XK1 := (x_join c 1 2 (Xs I 1)) $$ [XK1 X12]
  · isplitl [XK1]; · iexact XK1
    iexact X12
  ihave Z12 := (slot_take 0 2 1 (sp 1 2 c) (by decide)) $$ [V]
  · iexact V
  ihave V := (slot_give 0 1 1 c _ (by decide)) $$ [R11]
  · iexact R11
  iapply (ag_send I K c 0 1 1 12 rfl (n₀ := 12) (n₁ := 13) (m := 11) rfl rfl (off26_eq c) rfl (dev16_eq c) rfl rfl) $$ [HP XK1 Y11 V]
  · isplitl [HP]; · iexact HP
    isplitl [XK1]; · iexact XK1
    isplitl [Y11]; · iexact Y11
    iexact V
  iintro ⟨HP, F12⟩
  iapply (swait_ag I K c 11 0 1 0 rfl rfl rfl) $$ [HP F11]
  · isplitl [HP]; · iexact HP
    iexact F11
  iintro ⟨HP, W11, XK0⟩
  iapply (WP_ret c)
  iapply Hk
  isplitl [HP]; · iexact HP
  isplitl [XK0]; · iexact XK0
  isplitl [Z12]; · iexact Z12
  isplitl [F12]; · iexact F12
  iexact W11

/-- Part 15 of the kernel, with what it takes and what it leaves. -/
theorem part15 (I : Inp F) (K : Dev nD × CI → ℕ) (c : Dev nD) (v4 v5 : BitVec 32) {Q : _ → sProp 𝕄} :
    iprop(Pool I K c 13 11 ∗ W1 c 11 ∗ xP c (keepT 0 2 c) (Xs I 1) ∗ rP c (slot 0 0) (landed I 0 0 0 (sp 0 0 c)) ∗ xE (sp 0 0 c) (keepT 0 1 c) ∗ Fl c 12 ∗ rP c (slot 1 0) (landed I 0 0 1 (sp 1 0 c)) ∗ xE (sp 1 0 c) (keepT 1 1 c))
      ⊢ iprop(((Pool I K c 15 13 ∗ rE (sp 0 1 c) (slot 0 1) ∗ Fl c 13 ∗ rE (sp 1 1 c) (slot 1 1) ∗ Fl c 14) -∗ Q ⟨⟩)
        -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5) Q) := by
  rw [k0_part15_eq_skeleton]
  unfold k0_part15_skel
  simp only [Prog.lift, Prog.bind_op, Prog.bind_ret, Prog.pure_eq_ret]
  iintro ⟨HP, W11, XK0, R00, Y00, F12, R10, Y10⟩ Hk
  iapply (rwait_ag I K c (n := 13) (m₀ := 11) (m₁ := 12) 11 0 1 0 rfl rfl rfl (by decide) rfl rfl) $$ [HP W11]
  · isplitl [HP]; · iexact HP
    iexact W11
  iintro ⟨HP, X01, V⟩
  ihave XK0 := (x_join c 0 1 (Xs I 1)) $$ [XK0 X01]
  · isplitl [XK0]; · iexact XK0
    iexact X01
  ihave Z01 := (slot_take 0 1 0 (sp 0 1 c) (by decide)) $$ [V]
  · iexact V
  ihave V := (slot_give 0 0 0 c _ (by decide)) $$ [R00]
  · iexact R00
  iapply (ag_send I K c 0 0 0 13 rfl (n₀ := 13) (n₁ := 14) (m := 12) rfl rfl (off27_eq c) rfl (dev17_eq c) rfl rfl) $$ [HP XK0 Y00 V]
  · isplitl [HP]; · iexact HP
    isplitl [XK0]; · iexact XK0
    isplitl [Y00]; · iexact Y00
    iexact V
  iintro ⟨HP, F13⟩
  iapply (swait_ag I K c 12 0 1 1 rfl rfl rfl) $$ [HP F12]
  · isplitl [HP]; · iexact HP
    iexact F12
  iintro ⟨HP, W12, XK1⟩
  iapply (rwait_ag I K c (n := 14) (m₀ := 12) (m₁ := 13) 12 0 1 1 rfl rfl rfl (by decide) rfl rfl) $$ [HP W12]
  · isplitl [HP]; · iexact HP
    iexact W12
  iintro ⟨HP, X11, V⟩
  ihave XK1 := (x_join c 1 1 (Xs I 1)) $$ [XK1 X11]
  · isplitl [XK1]; · iexact XK1
    iexact X11
  ihave Z11 := (slot_take 0 1 1 (sp 1 1 c) (by decide)) $$ [V]
  · iexact V
  ihave V := (slot_give 0 0 1 c _ (by decide)) $$ [R10]
  · iexact R10
  iapply (ag_send I K c 0 0 1 14 rfl (n₀ := 14) (n₁ := 15) (m := 13) rfl rfl (off28_eq c) rfl (dev18_eq c) rfl rfl) $$ [HP XK1 Y10 V]
  · isplitl [HP]; · iexact HP
    isplitl [XK1]; · iexact XK1
    isplitl [Y10]; · iexact Y10
    iexact V
  iintro ⟨HP, F14⟩
  iapply (WP_ret c)
  iapply Hk
  isplitl [HP]; · iexact HP
  isplitl [Z01]; · iexact Z01
  isplitl [F13]; · iexact F13
  isplitl [Z11]; · iexact Z11
  iexact F14

/-- Part 16 of the kernel, with what it takes and what it leaves. -/
theorem part16 (I : Inp F) (K : Dev nD × CI → ℕ) (c : Dev nD) (v4 v5 : BitVec 32) {Q : _ → sProp 𝕄} :
    iprop(Pool I K c 15 13 ∗ Fl c 13 ∗ Fl c 14 ∗ g3 c (I.win 1 c))
      ⊢ iprop((∀ r, ⌜r = (k0_pay18 (Xs I 1) (I.win 1 c))⌝ -∗ (Pool I K c 15 15 ∗ xE c (keepT 0 3 c) ∗ xE c (sendT 0 0 c) ∗ rE (sp 0 0 c) (slot 0 0) ∗ xE c (keepT 1 3 c) ∗ xE c (sendT 1 0 c) ∗ rE (sp 1 0 c) (slot 1 0) ∗ xE c (sendT 0 2 c) ∗ xE c (sendT 0 1 c) ∗ xE c (sendT 1 2 c) ∗ xE c (sendT 1 1 c) ∗ g3 c (I.win 1 c)) -∗ Q r)
        -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5) Q) := by
  rw [k0_part16_eq_skeleton]
  unfold k0_part16_skel
  simp only [Prog.lift, Prog.bind_op, Prog.bind_ret, Prog.pure_eq_ret]
  iintro ⟨HP, F13, F14, G3⟩ Hk
  iapply (swait_ag I K c 13 0 0 0 rfl rfl rfl) $$ [HP F13]
  · isplitl [HP]; · iexact HP
    iexact F13
  iintro ⟨HP, W13, XK0⟩
  iapply (rwait_ag I K c (n := 15) (m₀ := 13) (m₁ := 14) 13 0 0 0 rfl rfl rfl (by decide) rfl rfl) $$ [HP W13]
  · isplitl [HP]; · iexact HP
    iexact W13
  iintro ⟨HP, X00, V⟩
  ihave XK0 := (x_join c 0 0 (Xs I 1)) $$ [XK0 X00]
  · isplitl [XK0]; · iexact XK0
    iexact X00
  ihave Z00 := (slot_take 0 0 0 (sp 0 0 c) (by decide)) $$ [V]
  · iexact V
  iapply (swait_ag I K c 14 0 0 1 rfl rfl rfl) $$ [HP F14]
  · isplitl [HP]; · iexact HP
    iexact F14
  iintro ⟨HP, W14, XK1⟩
  iapply (rwait_ag I K c (n := 15) (m₀ := 14) (m₁ := 15) 14 0 0 1 rfl rfl rfl (by decide) rfl rfl) $$ [HP W14]
  · isplitl [HP]; · iexact HP
    iexact W14
  iintro ⟨HP, X10, V⟩
  ihave XK1 := (x_join c 1 0 (Xs I 1)) $$ [XK1 X10]
  · isplitl [XK1]; · iexact XK1
    iexact X10
  ihave Z10 := (slot_take 0 0 1 (sp 1 0 c) (by decide)) $$ [V]
  · iexact V
  ihave XU := (x_end c (Xs I 1)) $$ [XK0 XK1]
  · isplitl [XK0]; · iexact XK0
    iexact XK1
  iapply (x_load_whole c (Xs I 1)) $$ [XU]
  · iexact XU
  iintro XU
  ihave ⟨XK0, X02, X01, X00, XK1, X12, X11, X10⟩ := (x_start c (Xs I 1)) $$ [XU]
  · iexact XU
  iapply (g3_load c (I.win 1 c)) $$ [G3]
  · iexact G3
  iintro G3
  iapply (WP_ret c)
  iapply Hk $$ %_ []
  · ipureintro; rfl
  isplitl [HP]; · iexact HP
  isplitl [XK0]; · iexact XK0
  isplitl [X00]; · iexact X00
  isplitl [Z00]; · iexact Z00
  isplitl [XK1]; · iexact XK1
  isplitl [X10]; · iexact X10
  isplitl [Z10]; · iexact Z10
  isplitl [X02]; · iexact X02
  isplitl [X01]; · iexact X01
  isplitl [X12]; · iexact X12
  isplitl [X11]; · iexact X11
  iexact G3

end Cert.K
-- ==== Proof.Parts2.lean ====
/-
# The parts of the kernel
-/
module

public import proofs.«01_k».proof.Proof.Stg

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 17 of the kernel, with what it takes and what it leaves. -/
theorem part17 (I : Inp F) (K : Dev nD × CI → ℕ) (c : Dev nD) (v4 v5 v92 v105 : BitVec 32) {Q : _ → sProp 𝕄} :
    iprop(g4 c (I.wout 1 c) ∗ pP c (keepT 0 3 c) (acc I 0 2 c) ∗ pP c (sendT 0 2 c) (acc I 0 2 c) ∗ pP c (sendT 0 1 c) (acc I 0 1 c) ∗ pP c (sendT 0 0 c) (acc I 0 0 c) ∗ pP c (keepT 1 3 c) (acc I 0 2 c) ∗ pP c (sendT 1 2 c) (acc I 0 2 c) ∗ pP c (sendT 1 1 c) (acc I 0 1 c) ∗ pP c (sendT 1 0 c) (acc I 0 0 c) ∗ bE c (sendT 0 0 c) ∗ bE c (sendT 1 0 c) ∗ Pool I K c 15 15 ∗ rE (sp 0 0 c) (slot 0 0) ∗ xE c (sendT 0 0 c))
      ⊢ iprop(((g4 c (I.wout 1 c) ∗ pP c (keepT 0 1 c) (acc I 1 0 c) ∗ pP c (sendT 0 0 c) (acc I 1 0 c) ∗ pP c (keepT 1 1 c) (acc I 1 0 c) ∗ pP c (sendT 1 0 c) (acc I 1 0 c) ∗ bP c (sendT 1 0 c) (fun x => trS (acc I 1 0 c x)) ∗ Pool I K c 16 15 ∗ Fl c 15) -∗ Q ⟨⟩)
        -∗ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5 v92 v105 ((k0_pay18 (Xs I 1) (I.win 1 c)))) Q) := by
  rw [k0_part17_eq_skeleton]
  unfold k0_part17_skel
  simp only [Prog.lift, Prog.bind_op, Prog.bind_ret, Prog.pure_eq_ret]
  iintro ⟨G4, PK0, PS02, PS01, PS00, PK1, PS12, PS11, PS10, B00, B10, HP, Z00, X00⟩ Hk
  iapply (g4_load c (I.wout 1 c)) $$ [G4]
  · iexact G4
  iintro G4
  ihave PE := (p_end c _ _ _ _ _ _ _ _) $$ [PK0 PS02 PS01 PS00 PK1 PS12 PS11 PS10]
  · isplitl [PK0]; · iexact PK0
    isplitl [PS02]; · iexact PS02
    isplitl [PS01]; · iexact PS01
    isplitl [PS00]; · iexact PS00
    isplitl [PK1]; · iexact PK1
    isplitl [PS12]; · iexact PS12
    isplitl [PS11]; · iexact PS11
    iexact PS10
  iapply (p_skip_whole c) $$ [PE]
  · iexact PE
  iintro PE
  iapply (p_store_whole c (acc I 1 0 c) (by rfl)) $$ [PE]
  · iexact PE
  iintro PU
  ihave ⟨PK0, PS00, PK1, PS10⟩ := (p_start c (acc I 1 0 c)) $$ [PU]
  · iexact PU
  iapply (p_loadS c (size := S1024x128.size) 0 0 (off5_eq c) rfl (acc I 1 0 c)) $$ [PS00]
  · iexact PS00
  iintro PS00
  iapply (b_skipS c 0 0 (off5_eq c) rfl) $$ [B00]
  · iexact B00
  iintro B00
  iapply (b_storeS I c 1 0 0 (off5_eq c) rfl (fun y => congrFun (pay5_eq _) y)) $$ [B00]
  · iexact B00
  iintro B00
  iapply (p_loadS c (size := S1024x128.size) 1 0 (off6_eq c) rfl (acc I 1 0 c)) $$ [PS10]
  · iexact PS10
  iintro PS10
  iapply (b_skipS c 1 0 (off6_eq c) rfl) $$ [B10]
  · iexact B10
  iintro B10
  iapply (b_storeS I c 1 0 1 (off6_eq c) rfl (fun y => congrFun (pay5_eq _) y)) $$ [B10]
  · iexact B10
  iintro B10
  iapply (rs_send I K c 1 0 0 15 rfl (n₀ := 15) (n₁ := 16) (m := 15) rfl rfl (r := 1024) (off7_eq c) rfl rfl (dev19_eq c) rfl rfl) $$ [HP B00 Z00 X00]
  · isplitl [HP]; · iexact HP
    isplitl [B00]; · iexact B00
    isplitl [Z00]; · iexact Z00
    iexact X00
  iintro ⟨HP, F15⟩
  iapply (WP_ret c)
  iapply Hk
  isplitl [G4]; · iexact G4
  isplitl [PK0]; · iexact PK0
  isplitl [PS00]; · iexact PS00
  isplitl [PK1]; · iexact PK1
  isplitl [PS10]; · iexact PS10
  isplitl [B10]; · iexact B10
  isplitl [HP]; · iexact HP
  iexact F15

/-- Part 18 of the kernel, with what it takes and what it leaves. -/
theorem part18 (I : Inp F) (K : Dev nD × CI → ℕ) (c : Dev nD) (v5 v86 v95 : BitVec 32) {Q : _ → sProp 𝕄} :
    iprop(Pool I K c 16 15 ∗ bP c (sendT 1 0 c) (fun x => trS (acc I 1 0 c x)) ∗ rE (sp 1 0 c) (slot 1 0) ∗ xE c (sendT 1 0 c) ∗ Fl c 15 ∗ pP c (keepT 0 1 c) (acc I 1 0 c))
      ⊢ iprop((∀ r, ⌜r = (fun y => (acc I 1 1 c) ((Rect.unit (s := S2048x256) (k0_off10 c) S512x128.size (k0_off10_inb c)).emb y))⌝ -∗ (Pool I K c 17 16 ∗ Fl c 16 ∗ bE c (sendT 0 0 c) ∗ rP c (slot 0 0) (landed I 1 0 0 (sp 0 0 c)) ∗ xE (sp 0 0 c) (keepT 0 1 c) ∗ pP c (keepT 0 2 c) (acc I 1 1 c) ∗ pP c (sendT 0 1 c) (acc I 1 1 c)) -∗ Q r)
        -∗ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v86 v95) Q) := by
  rw [k0_part18_eq_skeleton]
  unfold k0_part18_skel
  simp only [Prog.lift, Prog.bind_op, Prog.bind_ret, Prog.pure_eq_ret]
  iintro ⟨HP, B10, Z10, X10, F15, PK0⟩ Hk
  iapply (rs_send I K c 1 0 1 16 rfl (n₀ := 16) (n₁ := 17) (m := 15) rfl rfl (r := 1024) (off8_eq c) rfl rfl (dev20_eq c) rfl rfl) $$ [HP B10 Z10 X10]
  · isplitl [HP]; · iexact HP
    isplitl [B10]; · iexact B10
    isplitl [Z10]; · iexact Z10
    iexact X10
  iintro ⟨HP, F16⟩
  iapply (swait_rs I K c 15 1 0 0 rfl rfl rfl) $$ [HP F15]
  · isplitl [HP]; · iexact HP
    iexact F15
  iintro ⟨HP, W15, B00⟩
  iapply (rwait_rs I K c (n := 17) (m₀ := 15) (m₁ := 16) 15 1 0 0 rfl rfl rfl (by decide) rfl rfl) $$ [HP W15]
  · isplitl [HP]; · iexact HP
    iexact W15
  iintro ⟨HP, R00, Y00⟩
  iapply (p_loadK c (size := S1024x128.size) 0 1 (off9_eq c) rfl (acc I 1 0 c)) $$ [PK0]
  · iexact PK0
  iintro PK0
  iapply (r_load c (size := S1x1x1024x128.size) (off := ![0, 0, 0, 0]) 0 0 rfl rfl (landed I 1 0 0 (sp 0 0 c))) $$ [R00]
  · iexact R00
  iintro R00
  iapply (p_loadK c (size := S1024x128.size) 0 1 (off9_eq c) rfl (acc I 1 0 c)) $$ [PK0]
  · iexact PK0
  iintro PK0
  iapply (p_storeK I c 1 1 0 0 (off9_eq c) rfl (fun y => (congrFun (pay7_eq _ _) y).trans (fin_val I 1 0 0 c (off9_eq c) rfl rfl _ y))) $$ [PK0]
  · iexact PK0
  iintro PK0
  ihave ⟨PK0, PS01⟩ := (p_cut c 0 1 (acc I 1 1 c)) $$ [PK0]
  · iexact PK0
  iapply (p_loadS c (size := S512x128.size) 0 1 (off10_eq c) rfl (acc I 1 1 c)) $$ [PS01]
  · iexact PS01
  iintro PS01
  iapply (WP_ret c)
  iapply Hk $$ %_ []
  · ipureintro; rfl
  isplitl [HP]; · iexact HP
  isplitl [F16]; · iexact F16
  isplitl [B00]; · iexact B00
  isplitl [R00]; · iexact R00
  isplitl [Y00]; · iexact Y00
  isplitl [PK0]; · iexact PK0
  iexact PS01

/-- Part 19 of the kernel, with what it takes and what it leaves. -/
theorem part19 (I : Inp F) (K : Dev nD × CI → ℕ) (c : Dev nD) (v4 v95 v99 : BitVec 32) {Q : _ → sProp 𝕄} :
    iprop(bE c (sendT 0 1 c) ∗ Pool I K c 17 16 ∗ rE (sp 0 1 c) (slot 0 1) ∗ xE c (sendT 0 1 c) ∗ Fl c 16 ∗ pP c (keepT 1 1 c) (acc I 1 0 c))
      ⊢ iprop((∀ r, ⌜r = (fun y => (acc I 1 0 c) ((Rect.unit (s := S2048x256) (k0_off12 c) S1024x128.size (k0_off12_inb c)).emb y))⌝ -∗ (Pool I K c 18 17 ∗ Fl c 17 ∗ bE c (sendT 1 0 c) ∗ rP c (slot 1 0) (landed I 1 0 1 (sp 1 0 c)) ∗ xE (sp 1 0 c) (keepT 1 1 c) ∗ pP c (keepT 1 1 c) (acc I 1 0 c)) -∗ Q r)
        -∗ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v95 v99 ((fun y => (acc I 1 1 c) ((Rect.unit (s := S2048x256) (k0_off10 c) S512x128.size (k0_off10_inb c)).emb y)))) Q) := by
  rw [k0_part19_eq_skeleton]
  unfold k0_part19_skel
  simp only [Prog.lift, Prog.bind_op, Prog.bind_ret, Prog.pure_eq_ret]
  iintro ⟨B01, HP, Z01, X01, F16, PK1⟩ Hk
  iapply (b_skipS c 0 1 (off10_eq c) rfl) $$ [B01]
  · iexact B01
  iintro B01
  iapply (b_storeS I c 1 1 0 (off10_eq c) rfl (fun y => congrFun (pay8_eq _) y)) $$ [B01]
  · iexact B01
  iintro B01
  iapply (rs_send I K c 1 1 0 17 rfl (n₀ := 17) (n₁ := 18) (m := 16) rfl rfl (r := 512) (off11_eq c) rfl rfl (dev21_eq c) rfl rfl) $$ [HP B01 Z01 X01]
  · isplitl [HP]; · iexact HP
    isplitl [B01]; · iexact B01
    isplitl [Z01]; · iexact Z01
    iexact X01
  iintro ⟨HP, F17⟩
  iapply (swait_rs I K c 16 1 0 1 rfl rfl rfl) $$ [HP F16]
  · isplitl [HP]; · iexact HP
    iexact F16
  iintro ⟨HP, W16, B10⟩
  iapply (rwait_rs I K c (n := 18) (m₀ := 16) (m₁ := 17) 16 1 0 1 rfl rfl rfl (by decide) rfl rfl) $$ [HP W16]
  · isplitl [HP]; · iexact HP
    iexact W16
  iintro ⟨HP, R10, Y10⟩
  iapply (p_loadK c (size := S1024x128.size) 1 1 (off12_eq c) rfl (acc I 1 0 c)) $$ [PK1]
  · iexact PK1
  iintro PK1
  iapply (WP_ret c)
  iapply Hk $$ %_ []
  · ipureintro; rfl
  isplitl [HP]; · iexact HP
  isplitl [F17]; · iexact F17
  isplitl [B10]; · iexact B10
  isplitl [R10]; · iexact R10
  isplitl [Y10]; · iexact Y10
  iexact PK1

/-- Part 20 of the kernel, with what it takes and what it leaves. -/
theorem part20 (I : Inp F) (K : Dev nD × CI → ℕ) (c : Dev nD) (v5 v99 v108 : BitVec 32) {Q : _ → sProp 𝕄} :
    iprop(rP c (slot 1 0) (landed I 1 0 1 (sp 1 0 c)) ∗ pP c (keepT 1 1 c) (acc I 1 0 c) ∗ bE c (sendT 1 1 c) ∗ Pool I K c 18 17 ∗ rE (sp 1 1 c) (slot 1 1) ∗ xE c (sendT 1 1 c) ∗ Fl c 17)
      ⊢ iprop(((rP c (slot 1 0) (landed I 1 0 1 (sp 1 0 c)) ∗ pP c (keepT 1 2 c) (acc I 1 1 c) ∗ pP c (sendT 1 1 c) (acc I 1 1 c) ∗ Pool I K c 19 17 ∗ Fl c 18 ∗ W1 c 17 ∗ bE c (sendT 0 1 c)) -∗ Q ⟨⟩)
        -∗ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v99 v108 ((fun y => (acc I 1 0 c) ((Rect.unit (s := S2048x256) (k0_off12 c) S1024x128.size (k0_off12_inb c)).emb y)))) Q) := by
  rw [k0_part20_eq_skeleton]
  unfold k0_part20_skel
  simp only [Prog.lift, Prog.bind_op, Prog.bind_ret, Prog.pure_eq_ret]
  iintro ⟨R10, PK1, B11, HP, Z11, X11, F17⟩ Hk
  iapply (r_load c (size := S1x1x1024x128.size) (off := ![1, 0, 0, 0]) 1 0 rfl rfl (landed I 1 0 1 (sp 1 0 c))) $$ [R10]
  · iexact R10
  iintro R10
  iapply (p_loadK c (size := S1024x128.size) 1 1 (off12_eq c) rfl (acc I 1 0 c)) $$ [PK1]
  · iexact PK1
  iintro PK1
  iapply (p_storeK I c 1 1 0 1 (off12_eq c) rfl (fun y => (congrFun (pay7_eq _ _) y).trans (fin_val I 1 0 1 c (off12_eq c) rfl rfl _ y))) $$ [PK1]
  · iexact PK1
  iintro PK1
  ihave ⟨PK1, PS11⟩ := (p_cut c 1 1 (acc I 1 1 c)) $$ [PK1]
  · iexact PK1
  iapply (p_loadS c (size := S512x128.size) 1 1 (off13_eq c) rfl (acc I 1 1 c)) $$ [PS11]
  · iexact PS11
  iintro PS11
  iapply (b_skipS c 1 1 (off13_eq c) rfl) $$ [B11]
  · iexact B11
  iintro B11
  iapply (b_storeS I c 1 1 1 (off13_eq c) rfl (fun y => congrFun (pay8_eq _) y)) $$ [B11]
  · iexact B11
  iintro B11
  iapply (rs_send I K c 1 1 1 18 rfl (n₀ := 18) (n₁ := 19) (m := 17) rfl rfl (r := 512) (off14_eq c) rfl rfl (dev22_eq c) rfl rfl) $$ [HP B11 Z11 X11]
  · isplitl [HP]; · iexact HP
    isplitl [B11]; · iexact B11
    isplitl [Z11]; · iexact Z11
    iexact X11
  iintro ⟨HP, F18⟩
  iapply (swait_rs I K c 17 1 1 0 rfl rfl rfl) $$ [HP F17]
  · isplitl [HP]; · iexact HP
    iexact F17
  iintro ⟨HP, W17, B01⟩
  iapply (WP_ret c)
  iapply Hk
  isplitl [R10]; · iexact R10
  isplitl [PK1]; · iexact PK1
  isplitl [PS11]; · iexact PS11
  isplitl [HP]; · iexact HP
  isplitl [F18]; · iexact F18
  isplitl [W17]; · iexact W17
  iexact B01

/-- Part 21 of the kernel, with what it takes and what it leaves. -/
theorem part21 (I : Inp F) (K : Dev nD × CI → ℕ) (c : Dev nD) (v3 v4 v88 v98 : BitVec 32) {Q : _ → sProp 𝕄} :
    iprop(Pool I K c 19 17 ∗ W1 c 17 ∗ pP c (keepT 0 2 c) (acc I 1 1 c) ∗ bE c (sendT 0 2 c) ∗ rE (sp 0 2 c) (slot 0 2) ∗ xE c (sendT 0 2 c))
      ⊢ iprop(((Pool I K c 20 18 ∗ rP c (slot 0 1) (landed I 1 1 0 (sp 0 1 c)) ∗ xE (sp 0 1 c) (keepT 0 2 c) ∗ pP c (keepT 0 3 c) (acc I 1 2 c) ∗ pP c (sendT 0 2 c) (acc I 1 2 c) ∗ Fl c 19) -∗ Q ⟨⟩)
        -∗ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v88 v98) Q) := by
  rw [k0_part21_eq_skeleton]
  unfold k0_part21_skel
  simp only [Prog.lift, Prog.bind_op, Prog.bind_ret, Prog.pure_eq_ret]
  iintro ⟨HP, W17, PK0, B02, Z02, X02⟩ Hk
  iapply (rwait_rs I K c (n := 19) (m₀ := 17) (m₁ := 18) 17 1 1 0 rfl rfl rfl (by decide) rfl rfl) $$ [HP W17]
  · isplitl [HP]; · iexact HP
    iexact W17
  iintro ⟨HP, R01, Y01⟩
  iapply (p_loadK c (size := S512x128.size) 0 2 (off15_eq c) rfl (acc I 1 1 c)) $$ [PK0]
  · iexact PK0
  iintro PK0
  iapply (r_load c (size := S1x1x512x128.size) (off := ![0, 1, 0, 0]) 0 1 rfl rfl (landed I 1 1 0 (sp 0 1 c))) $$ [R01]
  · iexact R01
  iintro R01
  iapply (p_loadK c (size := S512x128.size) 0 2 (off15_eq c) rfl (acc I 1 1 c)) $$ [PK0]
  · iexact PK0
  iintro PK0
  iapply (p_storeK I c 1 2 1 0 (off15_eq c) rfl (fun y => (congrFun (pay11_eq _ _) y).trans (fin_val I 1 1 0 c (off15_eq c) rfl rfl _ y))) $$ [PK0]
  · iexact PK0
  iintro PK0
  ihave ⟨PK0, PS02⟩ := (p_cut c 0 2 (acc I 1 2 c)) $$ [PK0]
  · iexact PK0
  iapply (p_loadS c (size := S256x128.size) 0 2 (off16_eq c) rfl (acc I 1 2 c)) $$ [PS02]
  · iexact PS02
  iintro PS02
  iapply (b_skipS c 0 2 (off16_eq c) rfl) $$ [B02]
  · iexact B02
  iintro B02
  iapply (b_storeS I c 1 2 0 (off16_eq c) rfl (fun y => congrFun (pay12_eq _) y)) $$ [B02]
  · iexact B02
  iintro B02
  iapply (rs_send I K c 1 2 0 19 rfl (n₀ := 19) (n₁ := 20) (m := 18) rfl rfl (r := 256) (off17_eq c) rfl rfl (dev23_eq c) rfl rfl) $$ [HP B02 Z02 X02]
  · isplitl [HP]; · iexact HP
    isplitl [B02]; · iexact B02
    isplitl [Z02]; · iexact Z02
    iexact X02
  iintro ⟨HP, F19⟩
  iapply (WP_ret c)
  iapply Hk
  isplitl [HP]; · iexact HP
  isplitl [R01]; · iexact R01
  isplitl [Y01]; · iexact Y01
  isplitl [PK0]; · iexact PK0
  isplitl [PS02]; · iexact PS02
  iexact F19

/-- Part 22 of the kernel, with what it takes and what it leaves. -/
theorem part22 (I : Inp F) (K : Dev nD × CI → ℕ) (c : Dev nD) (v5 v101 v111 : BitVec 32) {Q : _ → sProp 𝕄} :
    iprop(Pool I K c 20 18 ∗ Fl c 18 ∗ pP c (keepT 1 2 c) (acc I 1 1 c) ∗ bE c (sendT 1 2 c))
      ⊢ iprop(((Pool I K c 20 19 ∗ bE c (sendT 1 1 c) ∗ rP c (slot 1 1) (landed I 1 1 1 (sp 1 1 c)) ∗ xE (sp 1 1 c) (keepT 1 2 c) ∗ pP c (keepT 1 3 c) (acc I 1 2 c) ∗ pP c (sendT 1 2 c) (acc I 1 2 c) ∗ bP c (sendT 1 2 c) (fun x => trS (acc I 1 2 c x))) -∗ Q ⟨⟩)
        -∗ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v101 v111) Q) := by
  rw [k0_part22_eq_skeleton]
  unfold k0_part22_skel
  simp only [Prog.lift, Prog.bind_op, Prog.bind_ret, Prog.pure_eq_ret]
  iintro ⟨HP, F18, PK1, B12⟩ Hk
  iapply (swait_rs I K c 18 1 1 1 rfl rfl rfl) $$ [HP F18]
  · isplitl [HP]; · iexact HP
    iexact F18
  iintro ⟨HP, W18, B11⟩
  iapply (rwait_rs I K c (n := 20) (m₀ := 18) (m₁ := 19) 18 1 1 1 rfl rfl rfl (by decide) rfl rfl) $$ [HP W18]
  · isplitl [HP]; · iexact HP
    iexact W18
  iintro ⟨HP, R11, Y11⟩
  iapply (p_loadK c (size := S512x128.size) 1 2 (off18_eq c) rfl (acc I 1 1 c)) $$ [PK1]
  · iexact PK1
  iintro PK1
  iapply (r_load c (size := S1x1x512x128.size) (off := ![1, 1, 0, 0]) 1 1 rfl rfl (landed I 1 1 1 (sp 1 1 c))) $$ [R11]
  · iexact R11
  iintro R11
  iapply (p_loadK c (size := S512x128.size) 1 2 (off18_eq c) rfl (acc I 1 1 c)) $$ [PK1]
  · iexact PK1
  iintro PK1
  iapply (p_storeK I c 1 2 1 1 (off18_eq c) rfl (fun y => (congrFun (pay11_eq _ _) y).trans (fin_val I 1 1 1 c (off18_eq c) rfl rfl _ y))) $$ [PK1]
  · iexact PK1
  iintro PK1
  ihave ⟨PK1, PS12⟩ := (p_cut c 1 2 (acc I 1 2 c)) $$ [PK1]
  · iexact PK1
  iapply (p_loadS c (size := S256x128.size) 1 2 (off19_eq c) rfl (acc I 1 2 c)) $$ [PS12]
  · iexact PS12
  iintro PS12
  iapply (b_skipS c 1 2 (off19_eq c) rfl) $$ [B12]
  · iexact B12
  iintro B12
  iapply (b_storeS I c 1 2 1 (off19_eq c) rfl (fun y => congrFun (pay12_eq _) y)) $$ [B12]
  · iexact B12
  iintro B12
  iapply (WP_ret c)
  iapply Hk
  isplitl [HP]; · iexact HP
  isplitl [B11]; · iexact B11
  isplitl [R11]; · iexact R11
  isplitl [Y11]; · iexact Y11
  isplitl [PK1]; · iexact PK1
  isplitl [PS12]; · iexact PS12
  iexact B12

/-- Part 23 of the kernel, with what it takes and what it leaves. -/
theorem part23 (I : Inp F) (K : Dev nD × CI → ℕ) (c : Dev nD) (v3 v90 : BitVec 32) {Q : _ → sProp 𝕄} :
    iprop(Pool I K c 20 19 ∗ bP c (sendT 1 2 c) (fun x => trS (acc I 1 2 c x)) ∗ rE (sp 1 2 c) (slot 1 2) ∗ xE c (sendT 1 2 c) ∗ Fl c 19 ∗ pP c (keepT 0 3 c) (acc I 1 2 c))
      ⊢ iprop((∀ r, ⌜r = (k0_pay30 (fun y => (acc I 1 2 c) ((Rect.unit (s := S2048x256) (k0_off21 c) S256x128.size (k0_off21_inb c)).emb y)) (fun y => landed I 1 2 0 (sp 0 2 c) ((Rect.unit (s := S2x3x1024x128) ![0, 2, 0, 0] S1x1x256x128.size inb_S2x3x1024x128_S1x1x256x128_0_2_0_0).emb y)))⌝ -∗ (Pool I K c 21 20 ∗ Fl c 20 ∗ bE c (sendT 0 2 c) ∗ rP c (slot 0 2) (landed I 1 2 0 (sp 0 2 c)) ∗ xE (sp 0 2 c) (keepT 0 3 c) ∗ pP c (keepT 0 3 c) (acc I 1 2 c)) -∗ Q r)
        -∗ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v90) Q) := by
  rw [k0_part23_eq_skeleton]
  unfold k0_part23_skel
  simp only [Prog.lift, Prog.bind_op, Prog.bind_ret, Prog.pure_eq_ret]
  iintro ⟨HP, B12, Z12, X12, F19, PK0⟩ Hk
  iapply (rs_send I K c 1 2 1 20 rfl (n₀ := 20) (n₁ := 21) (m := 19) rfl rfl (r := 256) (off20_eq c) rfl rfl (dev24_eq c) rfl rfl) $$ [HP B12 Z12 X12]
  · isplitl [HP]; · iexact HP
    isplitl [B12]; · iexact B12
    isplitl [Z12]; · iexact Z12
    iexact X12
  iintro ⟨HP, F20⟩
  iapply (swait_rs I K c 19 1 2 0 rfl rfl rfl) $$ [HP F19]
  · isplitl [HP]; · iexact HP
    iexact F19
  iintro ⟨HP, W19, B02⟩
  iapply (rwait_rs I K c (n := 21) (m₀ := 19) (m₁ := 20) 19 1 2 0 rfl rfl rfl (by decide) rfl rfl) $$ [HP W19]
  · isplitl [HP]; · iexact HP
    iexact W19
  iintro ⟨HP, R02, Y02⟩
  iapply (p_loadK c (size := S256x128.size) 0 3 (off21_eq c) rfl (acc I 1 2 c)) $$ [PK0]
  · iexact PK0
  iintro PK0
  iapply (r_load c (size := S1x1x256x128.size) (off := ![0, 2, 0, 0]) 0 2 rfl rfl (landed I 1 2 0 (sp 0 2 c))) $$ [R02]
  · iexact R02
  iintro R02
  iapply (WP_ret c)
  iapply Hk $$ %_ []
  · ipureintro; rfl
  isplitl [HP]; · iexact HP
  isplitl [F20]; · iexact F20
  isplitl [B02]; · iexact B02
  isplitl [R02]; · iexact R02
  isplitl [Y02]; · iexact Y02
  iexact PK0

/-- Part 24 of the kernel, with what it takes and what it leaves. -/
theorem part24 (I : Inp F) (K : Dev nD × CI → ℕ) (c : Dev nD) (v3 v90 v103 : BitVec 32) {Q : _ → sProp 𝕄} :
    iprop(xE c (keepT 0 3 c) ∗ rP c (slot 0 2) (landed I 1 2 0 (sp 0 2 c)) ∗ Pool I K c 21 20 ∗ xE (sp 0 2 c) (keepT 0 3 c) ∗ Fl c 20 ∗ pP c (keepT 1 3 c) (acc I 1 2 c))
      ⊢ iprop((∀ r, ⌜r = ⟨(fun y => (acc I 1 2 c) ((Rect.unit (s := S2048x256) (k0_off23 c) S256x128.size (k0_off23_inb c)).emb y)), (fun y => landed I 1 2 1 (sp 1 2 c) ((Rect.unit (s := S2x3x1024x128) ![1, 2, 0, 0] S1x1x256x128.size inb_S2x3x1024x128_S1x1x256x128_1_2_0_0).emb y))⟩⌝ -∗ (Pool I K c 22 21 ∗ Fl c 21 ∗ bE c (sendT 1 2 c) ∗ rP c (slot 1 2) (landed I 1 2 1 (sp 1 2 c)) ∗ xE (sp 1 2 c) (keepT 1 3 c) ∗ pP c (keepT 1 3 c) (acc I 1 2 c)) -∗ Q r)
        -∗ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v90 v103 ((k0_pay30 (fun y => (acc I 1 2 c) ((Rect.unit (s := S2048x256) (k0_off21 c) S256x128.size (k0_off21_inb c)).emb y)) (fun y => landed I 1 2 0 (sp 0 2 c) ((Rect.unit (s := S2x3x1024x128) ![0, 2, 0, 0] S1x1x256x128.size inb_S2x3x1024x128_S1x1x256x128_0_2_0_0).emb y))))) Q) := by
  rw [k0_part24_eq_skeleton]
  unfold k0_part24_skel
  simp only [Prog.lift, Prog.bind_op, Prog.bind_ret, Prog.pure_eq_ret]
  iintro ⟨XK0, R02, HP, Y02, F20, PK1⟩ Hk
  iapply (x_skipK c 0 3 (off21_eq c) rfl) $$ [XK0]
  · iexact XK0
  iintro XK0
  iapply (x_storeK I c 1 0 (off21_eq c) rfl (fun y => (congrFun ((pay30_31_eq _ _).trans (pay17_eq _ _)) y).trans (fin_val_last I 1 0 c (off21_eq c) rfl rfl _ y))) $$ [XK0]
  · iexact XK0
  iintro XK0
  ihave V := (slot_give 1 2 0 c _ (by decide)) $$ [R02]
  · iexact R02
  iapply (ag_send I K c 1 2 0 21 rfl (n₀ := 21) (n₁ := 22) (m := 20) rfl rfl (off22_eq c) rfl (dev25_eq c) rfl rfl) $$ [HP XK0 Y02 V]
  · isplitl [HP]; · iexact HP
    isplitl [XK0]; · iexact XK0
    isplitl [Y02]; · iexact Y02
    iexact V
  iintro ⟨HP, F21⟩
  iapply (swait_rs I K c 20 1 2 1 rfl rfl rfl) $$ [HP F20]
  · isplitl [HP]; · iexact HP
    iexact F20
  iintro ⟨HP, W20, B12⟩
  iapply (rwait_rs I K c (n := 22) (m₀ := 20) (m₁ := 21) 20 1 2 1 rfl rfl rfl (by decide) rfl rfl) $$ [HP W20]
  · isplitl [HP]; · iexact HP
    iexact W20
  iintro ⟨HP, R12, Y12⟩
  iapply (p_loadK c (size := S256x128.size) 1 3 (off23_eq c) rfl (acc I 1 2 c)) $$ [PK1]
  · iexact PK1
  iintro PK1
  iapply (r_load c (size := S1x1x256x128.size) (off := ![1, 2, 0, 0]) 1 2 rfl rfl (landed I 1 2 1 (sp 1 2 c))) $$ [R12]
  · iexact R12
  iintro R12
  iapply (WP_ret c)
  iapply Hk $$ %_ []
  · ipureintro; rfl
  isplitl [HP]; · iexact HP
  isplitl [F21]; · iexact F21
  isplitl [B12]; · iexact B12
  isplitl [R12]; · iexact R12
  isplitl [Y12]; · iexact Y12
  iexact PK1

end Cert.K
-- ==== Proof.Parts3.lean ====
/-
# The parts of the kernel
-/
module

public import proofs.«01_k».proof.Proof.Stg

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 25 of the kernel, with what it takes and what it leaves. -/
theorem part25 (I : Inp F) (K : Dev nD × CI → ℕ) (c : Dev nD) (v3 v4 v103 : BitVec 32) {Q : _ → sProp 𝕄} :
    iprop(xE c (keepT 1 3 c) ∗ rP c (slot 1 2) (landed I 1 2 1 (sp 1 2 c)) ∗ Pool I K c 22 21 ∗ xE (sp 1 2 c) (keepT 1 3 c) ∗ Fl c 21)
      ⊢ iprop(((Pool I K c 23 22 ∗ Fl c 22 ∗ xP c (keepT 0 2 c) (Xs I 2) ∗ rE (sp 0 2 c) (slot 0 2)) -∗ Q ⟨⟩)
        -∗ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v103 ((fun y => (acc I 1 2 c) ((Rect.unit (s := S2048x256) (k0_off23 c) S256x128.size (k0_off23_inb c)).emb y))) ((fun y => landed I 1 2 1 (sp 1 2 c) ((Rect.unit (s := S2x3x1024x128) ![1, 2, 0, 0] S1x1x256x128.size inb_S2x3x1024x128_S1x1x256x128_1_2_0_0).emb y)))) Q) := by
  rw [k0_part25_eq_skeleton]
  unfold k0_part25_skel
  simp only [Prog.lift, Prog.bind_op, Prog.bind_ret, Prog.pure_eq_ret]
  iintro ⟨XK1, R12, HP, Y12, F21⟩ Hk
  iapply (x_skipK c 1 3 (off23_eq c) rfl) $$ [XK1]
  · iexact XK1
  iintro XK1
  iapply (x_storeK I c 1 1 (off23_eq c) rfl (fun y => (congrFun ((pay32_eq _ _).trans (pay17_eq _ _)) y).trans (fin_val_last I 1 1 c (off23_eq c) rfl rfl _ y))) $$ [XK1]
  · iexact XK1
  iintro XK1
  ihave V := (slot_give 1 2 1 c _ (by decide)) $$ [R12]
  · iexact R12
  iapply (ag_send I K c 1 2 1 22 rfl (n₀ := 22) (n₁ := 23) (m := 21) rfl rfl (off24_eq c) rfl (dev26_eq c) rfl rfl) $$ [HP XK1 Y12 V]
  · isplitl [HP]; · iexact HP
    isplitl [XK1]; · iexact XK1
    isplitl [Y12]; · iexact Y12
    iexact V
  iintro ⟨HP, F22⟩
  iapply (swait_ag I K c 21 1 2 0 rfl rfl rfl) $$ [HP F21]
  · isplitl [HP]; · iexact HP
    iexact F21
  iintro ⟨HP, W21, XK0⟩
  iapply (rwait_ag I K c (n := 23) (m₀ := 21) (m₁ := 22) 21 1 2 0 rfl rfl rfl (by decide) rfl rfl) $$ [HP W21]
  · isplitl [HP]; · iexact HP
    iexact W21
  iintro ⟨HP, X02, V⟩
  ihave XK0 := (x_join c 0 2 (Xs I 2)) $$ [XK0 X02]
  · isplitl [XK0]; · iexact XK0
    iexact X02
  ihave Z02 := (slot_take 1 2 0 (sp 0 2 c) (by decide)) $$ [V]
  · iexact V
  iapply (WP_ret c)
  iapply Hk
  isplitl [HP]; · iexact HP
  isplitl [F22]; · iexact F22
  isplitl [XK0]; · iexact XK0
  iexact Z02

/-- Part 26 of the kernel, with what it takes and what it leaves. -/
theorem part26 (I : Inp F) (K : Dev nD × CI → ℕ) (c : Dev nD) (v3 v4 v5 : BitVec 32) {Q : _ → sProp 𝕄} :
    iprop(rP c (slot 0 1) (landed I 1 1 0 (sp 0 1 c)) ∗ Pool I K c 23 22 ∗ xP c (keepT 0 2 c) (Xs I 2) ∗ xE (sp 0 1 c) (keepT 0 2 c) ∗ Fl c 22 ∗ rP c (slot 1 1) (landed I 1 1 1 (sp 1 1 c)) ∗ xE (sp 1 1 c) (keepT 1 2 c))
      ⊢ iprop(((Pool I K c 25 23 ∗ xP c (keepT 0 2 c) (Xs I 2) ∗ rE (sp 1 2 c) (slot 1 2) ∗ Fl c 24 ∗ W1 c 23) -∗ Q ⟨⟩)
        -∗ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v5) Q) := by
  rw [k0_part26_eq_skeleton]
  unfold k0_part26_skel
  simp only [Prog.lift, Prog.bind_op, Prog.bind_ret, Prog.pure_eq_ret]
  iintro ⟨R01, HP, XK0, Y01, F22, R11, Y11⟩ Hk
  ihave V := (slot_give 1 1 0 c _ (by decide)) $$ [R01]
  · iexact R01
  iapply (ag_send I K c 1 1 0 23 rfl (n₀ := 23) (n₁ := 24) (m := 22) rfl rfl (off25_eq c) rfl (dev27_eq c) rfl rfl) $$ [HP XK0 Y01 V]
  · isplitl [HP]; · iexact HP
    isplitl [XK0]; · iexact XK0
    isplitl [Y01]; · iexact Y01
    iexact V
  iintro ⟨HP, F23⟩
  iapply (swait_ag I K c 22 1 2 1 rfl rfl rfl) $$ [HP F22]
  · isplitl [HP]; · iexact HP
    iexact F22
  iintro ⟨HP, W22, XK1⟩
  iapply (rwait_ag I K c (n := 24) (m₀ := 22) (m₁ := 23) 22 1 2 1 rfl rfl rfl (by decide) rfl rfl) $$ [HP W22]
  · isplitl [HP]; · iexact HP
    iexact W22
  iintro ⟨HP, X12, V⟩
  ihave XK1 := (x_join c 1 2 (Xs I 2)) $$ [XK1 X12]
  · isplitl [XK1]; · iexact XK1
    iexact X12
  ihave Z12 := (slot_take 1 2 1 (sp 1 2 c) (by decide)) $$ [V]
  · iexact V
  ihave V := (slot_give 1 1 1 c _ (by decide)) $$ [R11]
  · iexact R11
  iapply (ag_send I K c 1 1 1 24 rfl (n₀ := 24) (n₁ := 25) (m := 23) rfl rfl (off26_eq c) rfl (dev28_eq c) rfl rfl) $$ [HP XK1 Y11 V]
  · isplitl [HP]; · iexact HP
    isplitl [XK1]; · iexact XK1
    isplitl [Y11]; · iexact Y11
    iexact V
  iintro ⟨HP, F24⟩
  iapply (swait_ag I K c 23 1 1 0 rfl rfl rfl) $$ [HP F23]
  · isplitl [HP]; · iexact HP
    iexact F23
  iintro ⟨HP, W23, XK0⟩
  iapply (WP_ret c)
  iapply Hk
  isplitl [HP]; · iexact HP
  isplitl [XK0]; · iexact XK0
  isplitl [Z12]; · iexact Z12
  isplitl [F24]; · iexact F24
  iexact W23

/-- Part 27 of the kernel, with what it takes and what it leaves. -/
theorem part27 (I : Inp F) (K : Dev nD × CI → ℕ) (c : Dev nD) (v4 v5 : BitVec 32) {Q : _ → sProp 𝕄} :
    iprop(Pool I K c 25 23 ∗ W1 c 23 ∗ xP c (keepT 0 2 c) (Xs I 2) ∗ rP c (slot 0 0) (landed I 1 0 0 (sp 0 0 c)) ∗ xE (sp 0 0 c) (keepT 0 1 c) ∗ Fl c 24 ∗ rP c (slot 1 0) (landed I 1 0 1 (sp 1 0 c)) ∗ xE (sp 1 0 c) (keepT 1 1 c))
      ⊢ iprop(((Pool I K c 27 25 ∗ rE (sp 0 1 c) (slot 0 1) ∗ Fl c 25 ∗ rE (sp 1 1 c) (slot 1 1) ∗ Fl c 26) -∗ Q ⟨⟩)
        -∗ WP c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5) Q) := by
  rw [k0_part27_eq_skeleton]
  unfold k0_part27_skel
  simp only [Prog.lift, Prog.bind_op, Prog.bind_ret, Prog.pure_eq_ret]
  iintro ⟨HP, W23, XK0, R00, Y00, F24, R10, Y10⟩ Hk
  iapply (rwait_ag I K c (n := 25) (m₀ := 23) (m₁ := 24) 23 1 1 0 rfl rfl rfl (by decide) rfl rfl) $$ [HP W23]
  · isplitl [HP]; · iexact HP
    iexact W23
  iintro ⟨HP, X01, V⟩
  ihave XK0 := (x_join c 0 1 (Xs I 2)) $$ [XK0 X01]
  · isplitl [XK0]; · iexact XK0
    iexact X01
  ihave Z01 := (slot_take 1 1 0 (sp 0 1 c) (by decide)) $$ [V]
  · iexact V
  ihave V := (slot_give 1 0 0 c _ (by decide)) $$ [R00]
  · iexact R00
  iapply (ag_send I K c 1 0 0 25 rfl (n₀ := 25) (n₁ := 26) (m := 24) rfl rfl (off27_eq c) rfl (dev29_eq c) rfl rfl) $$ [HP XK0 Y00 V]
  · isplitl [HP]; · iexact HP
    isplitl [XK0]; · iexact XK0
    isplitl [Y00]; · iexact Y00
    iexact V
  iintro ⟨HP, F25⟩
  iapply (swait_ag I K c 24 1 1 1 rfl rfl rfl) $$ [HP F24]
  · isplitl [HP]; · iexact HP
    iexact F24
  iintro ⟨HP, W24, XK1⟩
  iapply (rwait_ag I K c (n := 26) (m₀ := 24) (m₁ := 25) 24 1 1 1 rfl rfl rfl (by decide) rfl rfl) $$ [HP W24]
  · isplitl [HP]; · iexact HP
    iexact W24
  iintro ⟨HP, X11, V⟩
  ihave XK1 := (x_join c 1 1 (Xs I 2)) $$ [XK1 X11]
  · isplitl [XK1]; · iexact XK1
    iexact X11
  ihave Z11 := (slot_take 1 1 1 (sp 1 1 c) (by decide)) $$ [V]
  · iexact V
  ihave V := (slot_give 1 0 1 c _ (by decide)) $$ [R10]
  · iexact R10
  iapply (ag_send I K c 1 0 1 26 rfl (n₀ := 26) (n₁ := 27) (m := 25) rfl rfl (off28_eq c) rfl (dev30_eq c) rfl rfl) $$ [HP XK1 Y10 V]
  · isplitl [HP]; · iexact HP
    isplitl [XK1]; · iexact XK1
    isplitl [Y10]; · iexact Y10
    iexact V
  iintro ⟨HP, F26⟩
  iapply (WP_ret c)
  iapply Hk
  isplitl [HP]; · iexact HP
  isplitl [Z01]; · iexact Z01
  isplitl [F25]; · iexact F25
  isplitl [Z11]; · iexact Z11
  iexact F26

/-- Part 28 of the kernel, with what it takes and what it leaves. -/
theorem part28 (I : Inp F) (K : Dev nD × CI → ℕ) (c : Dev nD) (v4 v5 : BitVec 32) {Q : _ → sProp 𝕄} :
    iprop(Pool I K c 27 25 ∗ Fl c 25 ∗ Fl c 26 ∗ g5 c (I.win 2 c) ∗ g6 c (I.wout 2 c))
      ⊢ iprop((∀ r, ⌜r = ⟨k0_pay33 (Xs I 2) (I.win 2 c), (I.wout 2 c)⟩⌝ -∗ (Pool I K c 27 27 ∗ xE c (keepT 0 3 c) ∗ xE c (sendT 0 0 c) ∗ rE (sp 0 0 c) (slot 0 0) ∗ xE c (keepT 1 3 c) ∗ xE c (sendT 1 0 c) ∗ rE (sp 1 0 c) (slot 1 0) ∗ xE c (sendT 0 2 c) ∗ xE c (sendT 0 1 c) ∗ xE c (sendT 1 2 c) ∗ xE c (sendT 1 1 c) ∗ g5 c (I.win 2 c) ∗ g6 c (I.wout 2 c)) -∗ Q r)
        -∗ WP c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5) Q) := by
  rw [k0_part28_eq_skeleton]
  unfold k0_part28_skel
  simp only [Prog.lift, Prog.bind_op, Prog.bind_ret, Prog.pure_eq_ret]
  iintro ⟨HP, F25, F26, G5, G6⟩ Hk
  iapply (swait_ag I K c 25 1 0 0 rfl rfl rfl) $$ [HP F25]
  · isplitl [HP]; · iexact HP
    iexact F25
  iintro ⟨HP, W25, XK0⟩
  iapply (rwait_ag I K c (n := 27) (m₀ := 25) (m₁ := 26) 25 1 0 0 rfl rfl rfl (by decide) rfl rfl) $$ [HP W25]
  · isplitl [HP]; · iexact HP
    iexact W25
  iintro ⟨HP, X00, V⟩
  ihave XK0 := (x_join c 0 0 (Xs I 2)) $$ [XK0 X00]
  · isplitl [XK0]; · iexact XK0
    iexact X00
  ihave Z00 := (slot_take 1 0 0 (sp 0 0 c) (by decide)) $$ [V]
  · iexact V
  iapply (swait_ag I K c 26 1 0 1 rfl rfl rfl) $$ [HP F26]
  · isplitl [HP]; · iexact HP
    iexact F26
  iintro ⟨HP, W26, XK1⟩
  iapply (rwait_ag I K c (n := 27) (m₀ := 26) (m₁ := 27) 26 1 0 1 rfl rfl rfl (by decide) rfl rfl) $$ [HP W26]
  · isplitl [HP]; · iexact HP
    iexact W26
  iintro ⟨HP, X10, V⟩
  ihave XK1 := (x_join c 1 0 (Xs I 2)) $$ [XK1 X10]
  · isplitl [XK1]; · iexact XK1
    iexact X10
  ihave Z10 := (slot_take 1 0 1 (sp 1 0 c) (by decide)) $$ [V]
  · iexact V
  ihave XU := (x_end c (Xs I 2)) $$ [XK0 XK1]
  · isplitl [XK0]; · iexact XK0
    iexact XK1
  iapply (x_load_whole c (Xs I 2)) $$ [XU]
  · iexact XU
  iintro XU
  ihave ⟨XK0, X02, X01, X00, XK1, X12, X11, X10⟩ := (x_start c (Xs I 2)) $$ [XU]
  · iexact XU
  iapply (g5_load c (I.win 2 c)) $$ [G5]
  · iexact G5
  iintro G5
  iapply (g6_load c (I.wout 2 c)) $$ [G6]
  · iexact G6
  iintro G6
  iapply (WP_ret c)
  iapply Hk $$ %_ []
  · ipureintro; rfl
  isplitl [HP]; · iexact HP
  isplitl [XK0]; · iexact XK0
  isplitl [X00]; · iexact X00
  isplitl [Z00]; · iexact Z00
  isplitl [XK1]; · iexact XK1
  isplitl [X10]; · iexact X10
  isplitl [Z10]; · iexact Z10
  isplitl [X02]; · iexact X02
  isplitl [X01]; · iexact X01
  isplitl [X12]; · iexact X12
  isplitl [X11]; · iexact X11
  isplitl [G5]; · iexact G5
  iexact G6

/-- Part 29 of the kernel, with what it takes and what it leaves. -/
theorem part29 (I : Inp F) (K : Dev nD × CI → ℕ) (c : Dev nD) (v4 v5 v92 v105 : BitVec 32) {Q : _ → sProp 𝕄} :
    iprop(pP c (keepT 0 3 c) (acc I 1 2 c) ∗ pP c (sendT 0 2 c) (acc I 1 2 c) ∗ pP c (sendT 0 1 c) (acc I 1 1 c) ∗ pP c (sendT 0 0 c) (acc I 1 0 c) ∗ pP c (keepT 1 3 c) (acc I 1 2 c) ∗ pP c (sendT 1 2 c) (acc I 1 2 c) ∗ pP c (sendT 1 1 c) (acc I 1 1 c) ∗ pP c (sendT 1 0 c) (acc I 1 0 c) ∗ bE c (sendT 0 0 c) ∗ bE c (sendT 1 0 c) ∗ Pool I K c 27 27 ∗ rE (sp 0 0 c) (slot 0 0) ∗ xE c (sendT 0 0 c))
      ⊢ iprop(((pP c (keepT 0 1 c) (acc I 2 0 c) ∗ pP c (sendT 0 0 c) (acc I 2 0 c) ∗ pP c (keepT 1 1 c) (acc I 2 0 c) ∗ pP c (sendT 1 0 c) (acc I 2 0 c) ∗ bP c (sendT 1 0 c) (fun x => trS (acc I 2 0 c x)) ∗ Pool I K c 28 27 ∗ Fl c 27) -∗ Q ⟨⟩)
        -∗ WP c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5 v92 v105 (k0_pay33 (Xs I 2) (I.win 2 c)) ((I.wout 2 c))) Q) := by
  rw [k0_part29_eq_skeleton]
  unfold k0_part29_skel
  simp only [Prog.lift, Prog.bind_op, Prog.bind_ret, Prog.pure_eq_ret]
  iintro ⟨PK0, PS02, PS01, PS00, PK1, PS12, PS11, PS10, B00, B10, HP, Z00, X00⟩ Hk
  ihave PE := (p_end c _ _ _ _ _ _ _ _) $$ [PK0 PS02 PS01 PS00 PK1 PS12 PS11 PS10]
  · isplitl [PK0]; · iexact PK0
    isplitl [PS02]; · iexact PS02
    isplitl [PS01]; · iexact PS01
    isplitl [PS00]; · iexact PS00
    isplitl [PK1]; · iexact PK1
    isplitl [PS12]; · iexact PS12
    isplitl [PS11]; · iexact PS11
    iexact PS10
  iapply (p_skip_whole c) $$ [PE]
  · iexact PE
  iintro PE
  iapply (p_store_whole c (acc I 2 0 c) (by rfl)) $$ [PE]
  · iexact PE
  iintro PU
  ihave ⟨PK0, PS00, PK1, PS10⟩ := (p_start c (acc I 2 0 c)) $$ [PU]
  · iexact PU
  iapply (p_loadS c (size := S1024x128.size) 0 0 (off5_eq c) rfl (acc I 2 0 c)) $$ [PS00]
  · iexact PS00
  iintro PS00
  iapply (b_skipS c 0 0 (off5_eq c) rfl) $$ [B00]
  · iexact B00
  iintro B00
  iapply (b_storeS I c 2 0 0 (off5_eq c) rfl (fun y => congrFun (pay5_eq _) y)) $$ [B00]
  · iexact B00
  iintro B00
  iapply (p_loadS c (size := S1024x128.size) 1 0 (off6_eq c) rfl (acc I 2 0 c)) $$ [PS10]
  · iexact PS10
  iintro PS10
  iapply (b_skipS c 1 0 (off6_eq c) rfl) $$ [B10]
  · iexact B10
  iintro B10
  iapply (b_storeS I c 2 0 1 (off6_eq c) rfl (fun y => congrFun (pay5_eq _) y)) $$ [B10]
  · iexact B10
  iintro B10
  iapply (rs_send I K c 2 0 0 27 rfl (n₀ := 27) (n₁ := 28) (m := 27) rfl rfl (r := 1024) (off7_eq c) rfl rfl (dev31_eq c) rfl rfl) $$ [HP B00 Z00 X00]
  · isplitl [HP]; · iexact HP
    isplitl [B00]; · iexact B00
    isplitl [Z00]; · iexact Z00
    iexact X00
  iintro ⟨HP, F27⟩
  iapply (WP_ret c)
  iapply Hk
  isplitl [PK0]; · iexact PK0
  isplitl [PS00]; · iexact PS00
  isplitl [PK1]; · iexact PK1
  isplitl [PS10]; · iexact PS10
  isplitl [B10]; · iexact B10
  isplitl [HP]; · iexact HP
  iexact F27

/-- Part 30 of the kernel, with what it takes and what it leaves. -/
theorem part30 (I : Inp F) (K : Dev nD × CI → ℕ) (c : Dev nD) (v5 v86 v95 : BitVec 32) {Q : _ → sProp 𝕄} :
    iprop(Pool I K c 28 27 ∗ bP c (sendT 1 0 c) (fun x => trS (acc I 2 0 c x)) ∗ rE (sp 1 0 c) (slot 1 0) ∗ xE c (sendT 1 0 c) ∗ Fl c 27 ∗ pP c (keepT 0 1 c) (acc I 2 0 c))
      ⊢ iprop((∀ r, ⌜r = (k0_pay38 (fun y => (acc I 2 1 c) ((Rect.unit (s := S2048x256) (k0_off10 c) S512x128.size (k0_off10_inb c)).emb y)))⌝ -∗ (Pool I K c 29 28 ∗ Fl c 28 ∗ bE c (sendT 0 0 c) ∗ rP c (slot 0 0) (landed I 2 0 0 (sp 0 0 c)) ∗ xE (sp 0 0 c) (keepT 0 1 c) ∗ pP c (keepT 0 2 c) (acc I 2 1 c) ∗ pP c (sendT 0 1 c) (acc I 2 1 c)) -∗ Q r)
        -∗ WP c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v86 v95) Q) := by
  rw [k0_part30_eq_skeleton]
  unfold k0_part30_skel
  simp only [Prog.lift, Prog.bind_op, Prog.bind_ret, Prog.pure_eq_ret]
  iintro ⟨HP, B10, Z10, X10, F27, PK0⟩ Hk
  iapply (rs_send I K c 2 0 1 28 rfl (n₀ := 28) (n₁ := 29) (m := 27) rfl rfl (r := 1024) (off8_eq c) rfl rfl (dev32_eq c) rfl rfl) $$ [HP B10 Z10 X10]
  · isplitl [HP]; · iexact HP
    isplitl [B10]; · iexact B10
    isplitl [Z10]; · iexact Z10
    iexact X10
  iintro ⟨HP, F28⟩
  iapply (swait_rs I K c 27 2 0 0 rfl rfl rfl) $$ [HP F27]
  · isplitl [HP]; · iexact HP
    iexact F27
  iintro ⟨HP, W27, B00⟩
  iapply (rwait_rs I K c (n := 29) (m₀ := 27) (m₁ := 28) 27 2 0 0 rfl rfl rfl (by decide) rfl rfl) $$ [HP W27]
  · isplitl [HP]; · iexact HP
    iexact W27
  iintro ⟨HP, R00, Y00⟩
  iapply (p_loadK c (size := S1024x128.size) 0 1 (off9_eq c) rfl (acc I 2 0 c)) $$ [PK0]
  · iexact PK0
  iintro PK0
  iapply (r_load c (size := S1x1x1024x128.size) (off := ![0, 0, 0, 0]) 0 0 rfl rfl (landed I 2 0 0 (sp 0 0 c))) $$ [R00]
  · iexact R00
  iintro R00
  iapply (p_loadK c (size := S1024x128.size) 0 1 (off9_eq c) rfl (acc I 2 0 c)) $$ [PK0]
  · iexact PK0
  iintro PK0
  iapply (p_storeK I c 2 1 0 0 (off9_eq c) rfl (fun y => (congrFun (pay7_eq _ _) y).trans (fin_val I 2 0 0 c (off9_eq c) rfl rfl _ y))) $$ [PK0]
  · iexact PK0
  iintro PK0
  ihave ⟨PK0, PS01⟩ := (p_cut c 0 1 (acc I 2 1 c)) $$ [PK0]
  · iexact PK0
  iapply (p_loadS c (size := S512x128.size) 0 1 (off10_eq c) rfl (acc I 2 1 c)) $$ [PS01]
  · iexact PS01
  iintro PS01
  iapply (WP_ret c)
  iapply Hk $$ %_ []
  · ipureintro; rfl
  isplitl [HP]; · iexact HP
  isplitl [F28]; · iexact F28
  isplitl [B00]; · iexact B00
  isplitl [R00]; · iexact R00
  isplitl [Y00]; · iexact Y00
  isplitl [PK0]; · iexact PK0
  iexact PS01

/-- Part 31 of the kernel, with what it takes and what it leaves. -/
theorem part31 (I : Inp F) (K : Dev nD × CI → ℕ) (c : Dev nD) (v4 v95 v99 : BitVec 32) {Q : _ → sProp 𝕄} :
    iprop(bE c (sendT 0 1 c) ∗ Pool I K c 29 28 ∗ rE (sp 0 1 c) (slot 0 1) ∗ xE c (sendT 0 1 c) ∗ Fl c 28 ∗ pP c (keepT 1 1 c) (acc I 2 0 c))
      ⊢ iprop((∀ r, ⌜r = (fun y => (acc I 2 0 c) ((Rect.unit (s := S2048x256) (k0_off12 c) S1024x128.size (k0_off12_inb c)).emb y))⌝ -∗ (Pool I K c 30 29 ∗ Fl c 29 ∗ bE c (sendT 1 0 c) ∗ rP c (slot 1 0) (landed I 2 0 1 (sp 1 0 c)) ∗ xE (sp 1 0 c) (keepT 1 1 c) ∗ pP c (keepT 1 1 c) (acc I 2 0 c)) -∗ Q r)
        -∗ WP c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v95 v99 ((k0_pay38 (fun y => (acc I 2 1 c) ((Rect.unit (s := S2048x256) (k0_off10 c) S512x128.size (k0_off10_inb c)).emb y))))) Q) := by
  rw [k0_part31_eq_skeleton]
  unfold k0_part31_skel
  simp only [Prog.lift, Prog.bind_op, Prog.bind_ret, Prog.pure_eq_ret]
  iintro ⟨B01, HP, Z01, X01, F28, PK1⟩ Hk
  iapply (b_skipS c 0 1 (off10_eq c) rfl) $$ [B01]
  · iexact B01
  iintro B01
  iapply (b_storeS I c 2 1 0 (off10_eq c) rfl (fun y => congrFun ((pay38_39_eq _).trans (pay8_eq _)) y)) $$ [B01]
  · iexact B01
  iintro B01
  iapply (rs_send I K c 2 1 0 29 rfl (n₀ := 29) (n₁ := 30) (m := 28) rfl rfl (r := 512) (off11_eq c) rfl rfl (dev33_eq c) rfl rfl) $$ [HP B01 Z01 X01]
  · isplitl [HP]; · iexact HP
    isplitl [B01]; · iexact B01
    isplitl [Z01]; · iexact Z01
    iexact X01
  iintro ⟨HP, F29⟩
  iapply (swait_rs I K c 28 2 0 1 rfl rfl rfl) $$ [HP F28]
  · isplitl [HP]; · iexact HP
    iexact F28
  iintro ⟨HP, W28, B10⟩
  iapply (rwait_rs I K c (n := 30) (m₀ := 28) (m₁ := 29) 28 2 0 1 rfl rfl rfl (by decide) rfl rfl) $$ [HP W28]
  · isplitl [HP]; · iexact HP
    iexact W28
  iintro ⟨HP, R10, Y10⟩
  iapply (p_loadK c (size := S1024x128.size) 1 1 (off12_eq c) rfl (acc I 2 0 c)) $$ [PK1]
  · iexact PK1
  iintro PK1
  iapply (WP_ret c)
  iapply Hk $$ %_ []
  · ipureintro; rfl
  isplitl [HP]; · iexact HP
  isplitl [F29]; · iexact F29
  isplitl [B10]; · iexact B10
  isplitl [R10]; · iexact R10
  isplitl [Y10]; · iexact Y10
  iexact PK1

/-- Part 32 of the kernel, with what it takes and what it leaves. -/
theorem part32 (I : Inp F) (K : Dev nD × CI → ℕ) (c : Dev nD) (v5 v99 v108 : BitVec 32) {Q : _ → sProp 𝕄} :
    iprop(rP c (slot 1 0) (landed I 2 0 1 (sp 1 0 c)) ∗ pP c (keepT 1 1 c) (acc I 2 0 c) ∗ bE c (sendT 1 1 c) ∗ Pool I K c 30 29 ∗ rE (sp 1 1 c) (slot 1 1) ∗ xE c (sendT 1 1 c) ∗ Fl c 29)
      ⊢ iprop(((rP c (slot 1 0) (landed I 2 0 1 (sp 1 0 c)) ∗ pP c (keepT 1 2 c) (acc I 2 1 c) ∗ pP c (sendT 1 1 c) (acc I 2 1 c) ∗ Pool I K c 31 29 ∗ Fl c 30 ∗ W1 c 29 ∗ bE c (sendT 0 1 c)) -∗ Q ⟨⟩)
        -∗ WP c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v99 v108 ((fun y => (acc I 2 0 c) ((Rect.unit (s := S2048x256) (k0_off12 c) S1024x128.size (k0_off12_inb c)).emb y)))) Q) := by
  rw [k0_part32_eq_skeleton]
  unfold k0_part32_skel
  simp only [Prog.lift, Prog.bind_op, Prog.bind_ret, Prog.pure_eq_ret]
  iintro ⟨R10, PK1, B11, HP, Z11, X11, F29⟩ Hk
  iapply (r_load c (size := S1x1x1024x128.size) (off := ![1, 0, 0, 0]) 1 0 rfl rfl (landed I 2 0 1 (sp 1 0 c))) $$ [R10]
  · iexact R10
  iintro R10
  iapply (p_loadK c (size := S1024x128.size) 1 1 (off12_eq c) rfl (acc I 2 0 c)) $$ [PK1]
  · iexact PK1
  iintro PK1
  iapply (p_storeK I c 2 1 0 1 (off12_eq c) rfl (fun y => (congrFun (pay7_eq _ _) y).trans (fin_val I 2 0 1 c (off12_eq c) rfl rfl _ y))) $$ [PK1]
  · iexact PK1
  iintro PK1
  ihave ⟨PK1, PS11⟩ := (p_cut c 1 1 (acc I 2 1 c)) $$ [PK1]
  · iexact PK1
  iapply (p_loadS c (size := S512x128.size) 1 1 (off13_eq c) rfl (acc I 2 1 c)) $$ [PS11]
  · iexact PS11
  iintro PS11
  iapply (b_skipS c 1 1 (off13_eq c) rfl) $$ [B11]
  · iexact B11
  iintro B11
  iapply (b_storeS I c 2 1 1 (off13_eq c) rfl (fun y => congrFun (pay8_eq _) y)) $$ [B11]
  · iexact B11
  iintro B11
  iapply (rs_send I K c 2 1 1 30 rfl (n₀ := 30) (n₁ := 31) (m := 29) rfl rfl (r := 512) (off14_eq c) rfl rfl (dev34_eq c) rfl rfl) $$ [HP B11 Z11 X11]
  · isplitl [HP]; · iexact HP
    isplitl [B11]; · iexact B11
    isplitl [Z11]; · iexact Z11
    iexact X11
  iintro ⟨HP, F30⟩
  iapply (swait_rs I K c 29 2 1 0 rfl rfl rfl) $$ [HP F29]
  · isplitl [HP]; · iexact HP
    iexact F29
  iintro ⟨HP, W29, B01⟩
  iapply (WP_ret c)
  iapply Hk
  isplitl [R10]; · iexact R10
  isplitl [PK1]; · iexact PK1
  isplitl [PS11]; · iexact PS11
  isplitl [HP]; · iexact HP
  isplitl [F30]; · iexact F30
  isplitl [W29]; · iexact W29
  iexact B01

end Cert.K
-- ==== Proof.Parts4.lean ====
/-
# The parts of the kernel
-/
module

public import proofs.«01_k».proof.Proof.Stg

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Part 33 of the kernel, with what it takes and what it leaves. -/
theorem part33 (I : Inp F) (K : Dev nD × CI → ℕ) (c : Dev nD) (v3 v4 v88 v98 : BitVec 32) {Q : _ → sProp 𝕄} :
    iprop(Pool I K c 31 29 ∗ W1 c 29 ∗ pP c (keepT 0 2 c) (acc I 2 1 c) ∗ bE c (sendT 0 2 c) ∗ rE (sp 0 2 c) (slot 0 2) ∗ xE c (sendT 0 2 c))
      ⊢ iprop(((Pool I K c 32 30 ∗ rP c (slot 0 1) (landed I 2 1 0 (sp 0 1 c)) ∗ xE (sp 0 1 c) (keepT 0 2 c) ∗ pP c (keepT 0 3 c) (acc I 2 2 c) ∗ pP c (sendT 0 2 c) (acc I 2 2 c) ∗ Fl c 31) -∗ Q ⟨⟩)
        -∗ WP c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v88 v98) Q) := by
  rw [k0_part33_eq_skeleton]
  unfold k0_part33_skel
  simp only [Prog.lift, Prog.bind_op, Prog.bind_ret, Prog.pure_eq_ret]
  iintro ⟨HP, W29, PK0, B02, Z02, X02⟩ Hk
  iapply (rwait_rs I K c (n := 31) (m₀ := 29) (m₁ := 30) 29 2 1 0 rfl rfl rfl (by decide) rfl rfl) $$ [HP W29]
  · isplitl [HP]; · iexact HP
    iexact W29
  iintro ⟨HP, R01, Y01⟩
  iapply (p_loadK c (size := S512x128.size) 0 2 (off15_eq c) rfl (acc I 2 1 c)) $$ [PK0]
  · iexact PK0
  iintro PK0
  iapply (r_load c (size := S1x1x512x128.size) (off := ![0, 1, 0, 0]) 0 1 rfl rfl (landed I 2 1 0 (sp 0 1 c))) $$ [R01]
  · iexact R01
  iintro R01
  iapply (p_loadK c (size := S512x128.size) 0 2 (off15_eq c) rfl (acc I 2 1 c)) $$ [PK0]
  · iexact PK0
  iintro PK0
  iapply (p_storeK I c 2 2 1 0 (off15_eq c) rfl (fun y => (congrFun (pay11_eq _ _) y).trans (fin_val I 2 1 0 c (off15_eq c) rfl rfl _ y))) $$ [PK0]
  · iexact PK0
  iintro PK0
  ihave ⟨PK0, PS02⟩ := (p_cut c 0 2 (acc I 2 2 c)) $$ [PK0]
  · iexact PK0
  iapply (p_loadS c (size := S256x128.size) 0 2 (off16_eq c) rfl (acc I 2 2 c)) $$ [PS02]
  · iexact PS02
  iintro PS02
  iapply (b_skipS c 0 2 (off16_eq c) rfl) $$ [B02]
  · iexact B02
  iintro B02
  iapply (b_storeS I c 2 2 0 (off16_eq c) rfl (fun y => congrFun (pay12_eq _) y)) $$ [B02]
  · iexact B02
  iintro B02
  iapply (rs_send I K c 2 2 0 31 rfl (n₀ := 31) (n₁ := 32) (m := 30) rfl rfl (r := 256) (off17_eq c) rfl rfl (dev35_eq c) rfl rfl) $$ [HP B02 Z02 X02]
  · isplitl [HP]; · iexact HP
    isplitl [B02]; · iexact B02
    isplitl [Z02]; · iexact Z02
    iexact X02
  iintro ⟨HP, F31⟩
  iapply (WP_ret c)
  iapply Hk
  isplitl [HP]; · iexact HP
  isplitl [R01]; · iexact R01
  isplitl [Y01]; · iexact Y01
  isplitl [PK0]; · iexact PK0
  isplitl [PS02]; · iexact PS02
  iexact F31

/-- Part 34 of the kernel, with what it takes and what it leaves. -/
theorem part34 (I : Inp F) (K : Dev nD × CI → ℕ) (c : Dev nD) (v5 v101 v111 : BitVec 32) {Q : _ → sProp 𝕄} :
    iprop(Pool I K c 32 30 ∗ Fl c 30 ∗ pP c (keepT 1 2 c) (acc I 2 1 c) ∗ bE c (sendT 1 2 c))
      ⊢ iprop(((Pool I K c 32 31 ∗ bE c (sendT 1 1 c) ∗ rP c (slot 1 1) (landed I 2 1 1 (sp 1 1 c)) ∗ xE (sp 1 1 c) (keepT 1 2 c) ∗ pP c (keepT 1 3 c) (acc I 2 2 c) ∗ pP c (sendT 1 2 c) (acc I 2 2 c) ∗ bP c (sendT 1 2 c) (fun x => trS (acc I 2 2 c x))) -∗ Q ⟨⟩)
        -∗ WP c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v5 v101 v111) Q) := by
  rw [k0_part34_eq_skeleton]
  unfold k0_part34_skel
  simp only [Prog.lift, Prog.bind_op, Prog.bind_ret, Prog.pure_eq_ret]
  iintro ⟨HP, F30, PK1, B12⟩ Hk
  iapply (swait_rs I K c 30 2 1 1 rfl rfl rfl) $$ [HP F30]
  · isplitl [HP]; · iexact HP
    iexact F30
  iintro ⟨HP, W30, B11⟩
  iapply (rwait_rs I K c (n := 32) (m₀ := 30) (m₁ := 31) 30 2 1 1 rfl rfl rfl (by decide) rfl rfl) $$ [HP W30]
  · isplitl [HP]; · iexact HP
    iexact W30
  iintro ⟨HP, R11, Y11⟩
  iapply (p_loadK c (size := S512x128.size) 1 2 (off18_eq c) rfl (acc I 2 1 c)) $$ [PK1]
  · iexact PK1
  iintro PK1
  iapply (r_load c (size := S1x1x512x128.size) (off := ![1, 1, 0, 0]) 1 1 rfl rfl (landed I 2 1 1 (sp 1 1 c))) $$ [R11]
  · iexact R11
  iintro R11
  iapply (p_loadK c (size := S512x128.size) 1 2 (off18_eq c) rfl (acc I 2 1 c)) $$ [PK1]
  · iexact PK1
  iintro PK1
  iapply (p_storeK I c 2 2 1 1 (off18_eq c) rfl (fun y => (congrFun (pay11_eq _ _) y).trans (fin_val I 2 1 1 c (off18_eq c) rfl rfl _ y))) $$ [PK1]
  · iexact PK1
  iintro PK1
  ihave ⟨PK1, PS12⟩ := (p_cut c 1 2 (acc I 2 2 c)) $$ [PK1]
  · iexact PK1
  iapply (p_loadS c (size := S256x128.size) 1 2 (off19_eq c) rfl (acc I 2 2 c)) $$ [PS12]
  · iexact PS12
  iintro PS12
  iapply (b_skipS c 1 2 (off19_eq c) rfl) $$ [B12]
  · iexact B12
  iintro B12
  iapply (b_storeS I c 2 2 1 (off19_eq c) rfl (fun y => congrFun (pay12_eq _) y)) $$ [B12]
  · iexact B12
  iintro B12
  iapply (WP_ret c)
  iapply Hk
  isplitl [HP]; · iexact HP
  isplitl [B11]; · iexact B11
  isplitl [R11]; · iexact R11
  isplitl [Y11]; · iexact Y11
  isplitl [PK1]; · iexact PK1
  isplitl [PS12]; · iexact PS12
  iexact B12

/-- Part 35 of the kernel, with what it takes and what it leaves. -/
theorem part35 (I : Inp F) (K : Dev nD × CI → ℕ) (c : Dev nD) (v3 v90 : BitVec 32) {Q : _ → sProp 𝕄} :
    iprop(Pool I K c 32 31 ∗ bP c (sendT 1 2 c) (fun x => trS (acc I 2 2 c x)) ∗ rE (sp 1 2 c) (slot 1 2) ∗ xE c (sendT 1 2 c) ∗ Fl c 31 ∗ pP c (keepT 0 3 c) (acc I 2 2 c))
      ⊢ iprop((∀ r, ⌜r = (k0_pay46 (fun y => (acc I 2 2 c) ((Rect.unit (s := S2048x256) (k0_off21 c) S256x128.size (k0_off21_inb c)).emb y)) (fun y => landed I 2 2 0 (sp 0 2 c) ((Rect.unit (s := S2x3x1024x128) ![0, 2, 0, 0] S1x1x256x128.size inb_S2x3x1024x128_S1x1x256x128_0_2_0_0).emb y)))⌝ -∗ (Pool I K c 33 32 ∗ Fl c 32 ∗ bE c (sendT 0 2 c) ∗ rP c (slot 0 2) (landed I 2 2 0 (sp 0 2 c)) ∗ xE (sp 0 2 c) (keepT 0 3 c) ∗ pP c (keepT 0 3 c) (acc I 2 2 c)) -∗ Q r)
        -∗ WP c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v90) Q) := by
  rw [k0_part35_eq_skeleton]
  unfold k0_part35_skel
  simp only [Prog.lift, Prog.bind_op, Prog.bind_ret, Prog.pure_eq_ret]
  iintro ⟨HP, B12, Z12, X12, F31, PK0⟩ Hk
  iapply (rs_send I K c 2 2 1 32 rfl (n₀ := 32) (n₁ := 33) (m := 31) rfl rfl (r := 256) (off20_eq c) rfl rfl (dev36_eq c) rfl rfl) $$ [HP B12 Z12 X12]
  · isplitl [HP]; · iexact HP
    isplitl [B12]; · iexact B12
    isplitl [Z12]; · iexact Z12
    iexact X12
  iintro ⟨HP, F32⟩
  iapply (swait_rs I K c 31 2 2 0 rfl rfl rfl) $$ [HP F31]
  · isplitl [HP]; · iexact HP
    iexact F31
  iintro ⟨HP, W31, B02⟩
  iapply (rwait_rs I K c (n := 33) (m₀ := 31) (m₁ := 32) 31 2 2 0 rfl rfl rfl (by decide) rfl rfl) $$ [HP W31]
  · isplitl [HP]; · iexact HP
    iexact W31
  iintro ⟨HP, R02, Y02⟩
  iapply (p_loadK c (size := S256x128.size) 0 3 (off21_eq c) rfl (acc I 2 2 c)) $$ [PK0]
  · iexact PK0
  iintro PK0
  iapply (r_load c (size := S1x1x256x128.size) (off := ![0, 2, 0, 0]) 0 2 rfl rfl (landed I 2 2 0 (sp 0 2 c))) $$ [R02]
  · iexact R02
  iintro R02
  iapply (WP_ret c)
  iapply Hk $$ %_ []
  · ipureintro; rfl
  isplitl [HP]; · iexact HP
  isplitl [F32]; · iexact F32
  isplitl [B02]; · iexact B02
  isplitl [R02]; · iexact R02
  isplitl [Y02]; · iexact Y02
  iexact PK0

/-- Part 36 of the kernel, with what it takes and what it leaves. -/
theorem part36 (I : Inp F) (K : Dev nD × CI → ℕ) (c : Dev nD) (v3 v103 : BitVec 32) {Q : _ → sProp 𝕄} :
    iprop(xE c (keepT 0 3 c) ∗ Pool I K c 33 32 ∗ xE (sp 0 2 c) (keepT 0 3 c) ∗ Fl c 32 ∗ pP c (keepT 1 3 c) (acc I 2 2 c))
      ⊢ iprop((∀ r, ⌜r = ⟨(fun y => (acc I 2 2 c) ((Rect.unit (s := S2048x256) (k0_off23 c) S256x128.size (k0_off23_inb c)).emb y)), k0_pay48 (fun y => landed I 2 2 1 (sp 1 2 c) ((Rect.unit (s := S2x3x1024x128) ![1, 2, 0, 0] S1x1x256x128.size inb_S2x3x1024x128_S1x1x256x128_1_2_0_0).emb y))⟩⌝ -∗ (Pool I K c 34 33 ∗ Fl c 33 ∗ bE c (sendT 1 2 c) ∗ rP c (slot 1 2) (landed I 2 2 1 (sp 1 2 c)) ∗ xE (sp 1 2 c) (keepT 1 3 c) ∗ pP c (keepT 1 3 c) (acc I 2 2 c)) -∗ Q r)
        -∗ WP c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v103 ((k0_pay46 (fun y => (acc I 2 2 c) ((Rect.unit (s := S2048x256) (k0_off21 c) S256x128.size (k0_off21_inb c)).emb y)) (fun y => landed I 2 2 0 (sp 0 2 c) ((Rect.unit (s := S2x3x1024x128) ![0, 2, 0, 0] S1x1x256x128.size inb_S2x3x1024x128_S1x1x256x128_0_2_0_0).emb y))))) Q) := by
  rw [k0_part36_eq_skeleton]
  unfold k0_part36_skel
  simp only [Prog.lift, Prog.bind_op, Prog.bind_ret, Prog.pure_eq_ret]
  iintro ⟨XK0, HP, Y02, F32, PK1⟩ Hk
  iapply (x_skipK c 0 3 (off21_eq c) rfl) $$ [XK0]
  · iexact XK0
  iintro XK0
  iapply (x_storeK I c 2 0 (off21_eq c) rfl (fun y => (congrFun ((pay46_47_eq _ _).trans (pay17_eq _ _)) y).trans (fin_val_last I 2 0 c (off21_eq c) rfl rfl _ y))) $$ [XK0]
  · iexact XK0
  iintro XK0
  ihave V := (slot_none 2 0 c) $$ []
  · iempintro
  iapply (ag_send I K c 2 2 0 33 rfl (n₀ := 33) (n₁ := 34) (m := 32) rfl rfl (off22_eq c) rfl (dev37_eq c) rfl rfl) $$ [HP XK0 Y02 V]
  · isplitl [HP]; · iexact HP
    isplitl [XK0]; · iexact XK0
    isplitl [Y02]; · iexact Y02
    iexact V
  iintro ⟨HP, F33⟩
  iapply (swait_rs I K c 32 2 2 1 rfl rfl rfl) $$ [HP F32]
  · isplitl [HP]; · iexact HP
    iexact F32
  iintro ⟨HP, W32, B12⟩
  iapply (rwait_rs I K c (n := 34) (m₀ := 32) (m₁ := 33) 32 2 2 1 rfl rfl rfl (by decide) rfl rfl) $$ [HP W32]
  · isplitl [HP]; · iexact HP
    iexact W32
  iintro ⟨HP, R12, Y12⟩
  iapply (p_loadK c (size := S256x128.size) 1 3 (off23_eq c) rfl (acc I 2 2 c)) $$ [PK1]
  · iexact PK1
  iintro PK1
  iapply (r_load c (size := S1x1x256x128.size) (off := ![1, 2, 0, 0]) 1 2 rfl rfl (landed I 2 2 1 (sp 1 2 c))) $$ [R12]
  · iexact R12
  iintro R12
  iapply (WP_ret c)
  iapply Hk $$ %_ []
  · ipureintro; rfl
  isplitl [HP]; · iexact HP
  isplitl [F33]; · iexact F33
  isplitl [B12]; · iexact B12
  isplitl [R12]; · iexact R12
  isplitl [Y12]; · iexact Y12
  iexact PK1

/-- Part 37 of the kernel, with what it takes and what it leaves. -/
theorem part37 (I : Inp F) (K : Dev nD × CI → ℕ) (c : Dev nD) (v3 v4 v103 : BitVec 32) {Q : _ → sProp 𝕄} :
    iprop(xE c (keepT 1 3 c) ∗ Pool I K c 34 33 ∗ xE (sp 1 2 c) (keepT 1 3 c) ∗ Fl c 33)
      ⊢ iprop(((Pool I K c 35 34 ∗ Fl c 34 ∗ xP c (keepT 0 2 c) (Xs I 3)) -∗ Q ⟨⟩)
        -∗ WP c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v103 ((fun y => (acc I 2 2 c) ((Rect.unit (s := S2048x256) (k0_off23 c) S256x128.size (k0_off23_inb c)).emb y))) (k0_pay48 (fun y => landed I 2 2 1 (sp 1 2 c) ((Rect.unit (s := S2x3x1024x128) ![1, 2, 0, 0] S1x1x256x128.size inb_S2x3x1024x128_S1x1x256x128_1_2_0_0).emb y)))) Q) := by
  rw [k0_part37_eq_skeleton]
  unfold k0_part37_skel
  simp only [Prog.lift, Prog.bind_op, Prog.bind_ret, Prog.pure_eq_ret]
  iintro ⟨XK1, HP, Y12, F33⟩ Hk
  iapply (x_skipK c 1 3 (off23_eq c) rfl) $$ [XK1]
  · iexact XK1
  iintro XK1
  iapply (x_storeK I c 2 1 (off23_eq c) rfl (fun y => (congrFun ((pay48_49_eq _ _).trans (pay17_eq _ _)) y).trans (fin_val_last I 2 1 c (off23_eq c) rfl rfl _ y))) $$ [XK1]
  · iexact XK1
  iintro XK1
  ihave V := (slot_none 2 1 c) $$ []
  · iempintro
  iapply (ag_send I K c 2 2 1 34 rfl (n₀ := 34) (n₁ := 35) (m := 33) rfl rfl (off24_eq c) rfl (dev38_eq c) rfl rfl) $$ [HP XK1 Y12 V]
  · isplitl [HP]; · iexact HP
    isplitl [XK1]; · iexact XK1
    isplitl [Y12]; · iexact Y12
    iexact V
  iintro ⟨HP, F34⟩
  iapply (swait_ag I K c 33 2 2 0 rfl rfl rfl) $$ [HP F33]
  · isplitl [HP]; · iexact HP
    iexact F33
  iintro ⟨HP, W33, XK0⟩
  iapply (rwait_ag I K c (n := 35) (m₀ := 33) (m₁ := 34) 33 2 2 0 rfl rfl rfl (by decide) rfl rfl) $$ [HP W33]
  · isplitl [HP]; · iexact HP
    iexact W33
  iintro ⟨HP, X02, V⟩
  ihave XK0 := (x_join c 0 2 (Xs I 3)) $$ [XK0 X02]
  · isplitl [XK0]; · iexact XK0
    iexact X02
  iapply (WP_ret c)
  iapply Hk
  isplitl [HP]; · iexact HP
  isplitl [F34]; · iexact F34
  iexact XK0

/-- Part 38 of the kernel, with what it takes and what it leaves. -/
theorem part38 (I : Inp F) (K : Dev nD × CI → ℕ) (c : Dev nD) (v3 v4 v5 : BitVec 32) {Q : _ → sProp 𝕄} :
    iprop(Pool I K c 35 34 ∗ xP c (keepT 0 2 c) (Xs I 3) ∗ xE (sp 0 1 c) (keepT 0 2 c) ∗ Fl c 34 ∗ xE (sp 1 1 c) (keepT 1 2 c))
      ⊢ iprop(((Pool I K c 37 35 ∗ xP c (keepT 0 2 c) (Xs I 3) ∗ Fl c 36 ∗ W1 c 35) -∗ Q ⟨⟩)
        -∗ WP c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v3 v4 v5) Q) := by
  rw [k0_part38_eq_skeleton]
  unfold k0_part38_skel
  simp only [Prog.lift, Prog.bind_op, Prog.bind_ret, Prog.pure_eq_ret]
  iintro ⟨HP, XK0, Y01, F34, Y11⟩ Hk
  ihave V := (slot_none 1 0 c) $$ []
  · iempintro
  iapply (ag_send I K c 2 1 0 35 rfl (n₀ := 35) (n₁ := 36) (m := 34) rfl rfl (off25_eq c) rfl (dev39_eq c) rfl rfl) $$ [HP XK0 Y01 V]
  · isplitl [HP]; · iexact HP
    isplitl [XK0]; · iexact XK0
    isplitl [Y01]; · iexact Y01
    iexact V
  iintro ⟨HP, F35⟩
  iapply (swait_ag I K c 34 2 2 1 rfl rfl rfl) $$ [HP F34]
  · isplitl [HP]; · iexact HP
    iexact F34
  iintro ⟨HP, W34, XK1⟩
  iapply (rwait_ag I K c (n := 36) (m₀ := 34) (m₁ := 35) 34 2 2 1 rfl rfl rfl (by decide) rfl rfl) $$ [HP W34]
  · isplitl [HP]; · iexact HP
    iexact W34
  iintro ⟨HP, X12, V⟩
  ihave XK1 := (x_join c 1 2 (Xs I 3)) $$ [XK1 X12]
  · isplitl [XK1]; · iexact XK1
    iexact X12
  ihave V := (slot_none 1 1 c) $$ []
  · iempintro
  iapply (ag_send I K c 2 1 1 36 rfl (n₀ := 36) (n₁ := 37) (m := 35) rfl rfl (off26_eq c) rfl (dev40_eq c) rfl rfl) $$ [HP XK1 Y11 V]
  · isplitl [HP]; · iexact HP
    isplitl [XK1]; · iexact XK1
    isplitl [Y11]; · iexact Y11
    iexact V
  iintro ⟨HP, F36⟩
  iapply (swait_ag I K c 35 2 1 0 rfl rfl rfl) $$ [HP F35]
  · isplitl [HP]; · iexact HP
    iexact F35
  iintro ⟨HP, W35, XK0⟩
  iapply (WP_ret c)
  iapply Hk
  isplitl [HP]; · iexact HP
  isplitl [XK0]; · iexact XK0
  isplitl [F36]; · iexact F36
  iexact W35

/-- Part 39 of the kernel, with what it takes and what it leaves. -/
theorem part39 (I : Inp F) (K : Dev nD × CI → ℕ) (c : Dev nD) (v4 v5 : BitVec 32) {Q : _ → sProp 𝕄} :
    iprop(Pool I K c 37 35 ∗ W1 c 35 ∗ xP c (keepT 0 2 c) (Xs I 3) ∗ xE (sp 0 0 c) (keepT 0 1 c) ∗ Fl c 36 ∗ xE (sp 1 0 c) (keepT 1 1 c))
      ⊢ iprop(((Pool I K c 39 37 ∗ Fl c 37 ∗ Fl c 38) -∗ Q ⟨⟩)
        -∗ WP c (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 c v4 v5) Q) := by
  rw [k0_part39_eq_skeleton]
  unfold k0_part39_skel
  simp only [Prog.lift, Prog.bind_op, Prog.bind_ret, Prog.pure_eq_ret]
  iintro ⟨HP, W35, XK0, Y00, F36, Y10⟩ Hk
  iapply (rwait_ag I K c (n := 37) (m₀ := 35) (m₁ := 36) 35 2 1 0 rfl rfl rfl (by decide) rfl rfl) $$ [HP W35]
  · isplitl [HP]; · iexact HP
    iexact W35
  iintro ⟨HP, X01, V⟩
  ihave XK0 := (x_join c 0 1 (Xs I 3)) $$ [XK0 X01]
  · isplitl [XK0]; · iexact XK0
    iexact X01
  ihave V := (slot_none 0 0 c) $$ []
  · iempintro
  iapply (ag_send I K c 2 0 0 37 rfl (n₀ := 37) (n₁ := 38) (m := 36) rfl rfl (off27_eq c) rfl (dev41_eq c) rfl rfl) $$ [HP XK0 Y00 V]
  · isplitl [HP]; · iexact HP
    isplitl [XK0]; · iexact XK0
    isplitl [Y00]; · iexact Y00
    iexact V
  iintro ⟨HP, F37⟩
  iapply (swait_ag I K c 36 2 1 1 rfl rfl rfl) $$ [HP F36]
  · isplitl [HP]; · iexact HP
    iexact F36
  iintro ⟨HP, W36, XK1⟩
  iapply (rwait_ag I K c (n := 38) (m₀ := 36) (m₁ := 37) 36 2 1 1 rfl rfl rfl (by decide) rfl rfl) $$ [HP W36]
  · isplitl [HP]; · iexact HP
    iexact W36
  iintro ⟨HP, X11, V⟩
  ihave XK1 := (x_join c 1 1 (Xs I 3)) $$ [XK1 X11]
  · isplitl [XK1]; · iexact XK1
    iexact X11
  ihave V := (slot_none 0 1 c) $$ []
  · iempintro
  iapply (ag_send I K c 2 0 1 38 rfl (n₀ := 38) (n₁ := 39) (m := 37) rfl rfl (off28_eq c) rfl (dev42_eq c) rfl rfl) $$ [HP XK1 Y10 V]
  · isplitl [HP]; · iexact HP
    isplitl [XK1]; · iexact XK1
    isplitl [Y10]; · iexact Y10
    iexact V
  iintro ⟨HP, F38⟩
  iapply (WP_ret c)
  iapply Hk
  isplitl [HP]; · iexact HP
  isplitl [F37]; · iexact F37
  iexact F38

end Cert.K
-- ==== Proof.Body.lean ====
/-
# The body of the kernel: its parts one after the other
-/
module

public import proofs.«01_k».proof.Proof.Entry
public import proofs.«01_k».proof.Proof.Parts0
public import proofs.«01_k».proof.Proof.Parts1
public import proofs.«01_k».proof.Proof.Parts2
public import proofs.«01_k».proof.Proof.Parts3
public import proofs.«01_k».proof.Proof.Parts4

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One program after another. -/
theorem WP_bind (c : Dev nD) {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP
  rw [wp_bind]

/-- A program that is done, after an update. -/
theorem WP_done (c : Dev nD) {α : Type} {a : α} {Q : α → sProp 𝕄} : iprop(|={Set.univ}=> Q a) ⊢ WP (F := F) c (.ret a) Q := by
  unfold WP
  rw [wp_ret]

/-- All of the kernel but the end. -/
theorem part40 (I : Inp F) (K : Dev nD × CI → ℕ) (c : Dev nD) {Q : _ → sProp 𝕄} :
    iprop(Start I K c ∗ g0 c (I.x c) ∗ g1 c (I.win 0 c) ∗ g2 c (I.wout 0 c) ∗ g3 c (I.win 1 c) ∗ g4 c (I.wout 1 c) ∗ g5 c (I.win 2 c) ∗ g6 c (I.wout 2 c) ∗ xE c Finset.univ ∗ bE c Finset.univ ∗ pE c Finset.univ ∗ rE c (slot 0 0) ∗ rE c (slot 0 1) ∗ rE c (slot 0 2) ∗ rE c (slot 1 0) ∗ rE c (slot 1 1) ∗ rE c (slot 1 2))
      ⊢ iprop((∀ r, ⌜r.1 = c⌝ -∗ (g1 c (I.win 0 c) ∗ g2 c (I.wout 0 c) ∗ g3 c (I.win 1 c) ∗ g4 c (I.wout 1 c) ∗ g5 c (I.win 2 c) ∗ g6 c (I.wout 2 c) ∗ pP c (sendT 0 0 c) (acc I 2 0 c) ∗ pP c (sendT 1 0 c) (acc I 2 0 c) ∗ bE c (sendT 0 0 c) ∗ rP c (slot 0 0) (landed I 2 0 0 (sp 0 0 c)) ∗ pP c (sendT 0 1 c) (acc I 2 1 c) ∗ bE c (sendT 1 0 c) ∗ rP c (slot 1 0) (landed I 2 0 1 (sp 1 0 c)) ∗ pP c (sendT 1 1 c) (acc I 2 1 c) ∗ bE c (sendT 0 1 c) ∗ rP c (slot 0 1) (landed I 2 1 0 (sp 0 1 c)) ∗ pP c (sendT 0 2 c) (acc I 2 2 c) ∗ bE c (sendT 1 1 c) ∗ rP c (slot 1 1) (landed I 2 1 1 (sp 1 1 c)) ∗ pP c (sendT 1 2 c) (acc I 2 2 c) ∗ bE c (sendT 0 2 c) ∗ pP c (keepT 0 3 c) (acc I 2 2 c) ∗ rP c (slot 0 2) (landed I 2 2 0 (sp 0 2 c)) ∗ bE c (sendT 1 2 c) ∗ pP c (keepT 1 3 c) (acc I 2 2 c) ∗ rP c (slot 1 2) (landed I 2 2 1 (sp 1 2 c)) ∗ Fl c 38 ∗ Pool I K c 39 38 ∗ xP c (keepT 0 0 c) (Xs I 3) ∗ atPos ER (barCell c) (0 + 1) ∅ 0 ∗ bE c (keepT 0 3 c) ∗ bE c (keepT 1 3 c) ∗ g0 c (I.x c)) -∗ Q r)
        -∗ WP c (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  rw [k0_part40_eq_skeleton]
  unfold k0_part40_skel
  simp only [Prog.lift, Prog.bind_op, Prog.bind_ret, Prog.pure_eq_ret]
  iintro ⟨ST, G0, G1, G2, G3, G4, G5, G6, XU, BU, PE, R00, R01, R02, R10, R11, R12⟩ Hk
  iapply (WP_bind c)
  iapply (part1 I K c) $$ [ST G0 XU R00 R01 R02 R10 R11 R12]
  · isplitl [ST]; · iexact ST
    isplitl [G0]; · iexact G0
    isplitl [XU]; · iexact XU
    isplitl [R00]; · iexact R00
    isplitl [R01]; · iexact R01
    isplitl [R02]; · iexact R02
    isplitl [R10]; · iexact R10
    isplitl [R11]; · iexact R11
    iexact R12
  iintro %r %hr ⟨HP, HB, G0, XA, YP0, YP1, YP2, Z00, Z01, Z02, Z10, Z11, Z12⟩
  obtain ⟨d0, v2, v3, v4, v5, v6, v8, v10⟩ := r
  obtain rfl : d0 = c := hr
  ihave ⟨B0K, B02, B01, B00, B1K, B12, B11, B10⟩ := (b_start d0) $$ BU
  iapply (WP_bind d0)
  iapply (part2 I K d0 _ _ _ _) $$ [HP XA YP0 YP1]
  · isplitl [HP]; · iexact HP
    isplitl [XA]; · iexact XA
    isplitl [YP0]; · iexact YP0
    iexact YP1
  iintro ⟨HP, F1⟩
  iapply (WP_bind d0)
  iapply (part3 I K d0 _ _ _) $$ [HP F1 YP2]
  · isplitl [HP]; · iexact HP
    isplitl [F1]; · iexact F1
    iexact YP2
  iintro ⟨HP, XA, W2⟩
  iapply (WP_bind d0)
  iapply (part4 I K d0 _ _ _) $$ [HP W2 XA G1]
  · isplitl [HP]; · iexact HP
    isplitl [W2]; · iexact W2
    isplitl [XA]; · iexact XA
    iexact G1
  iintro %r %hr ⟨HP, XK0, X02, X01, X00, XK1, X12, X11, X10, G1⟩
  obtain ⟨v86, v88, v90, v92, v95, v98, v99, v101, v103, v105, v108, v111, v119⟩ := r
  dsimp only at hr
  subst hr
  iapply (WP_bind d0)
  iapply (part5 I K d0 _ _ _ _) $$ [G2 PE B00 B10 HP Z00 X00]
  · isplitl [G2]; · iexact G2
    isplitl [PE]; · iexact PE
    isplitl [B00]; · iexact B00
    isplitl [B10]; · iexact B10
    isplitl [HP]; · iexact HP
    isplitl [Z00]; · iexact Z00
    iexact X00
  iintro ⟨G2, PK0, PS00, PK1, PS10, B10, HP, F3⟩
  iapply (WP_bind d0)
  iapply (part6 I K d0 _ _ _) $$ [HP B10 Z10 X10 F3 PK0]
  · isplitl [HP]; · iexact HP
    isplitl [B10]; · iexact B10
    isplitl [Z10]; · iexact Z10
    isplitl [X10]; · iexact X10
    isplitl [F3]; · iexact F3
    iexact PK0
  iintro ⟨HP, F4, B00, R00, Y00, PK0, PS01⟩
  iapply (WP_bind d0)
  iapply (part7 I K d0 _ _ _) $$ [PS01 B01 HP Z01 X01 F4]
  · isplitl [PS01]; · iexact PS01
    isplitl [B01]; · iexact B01
    isplitl [HP]; · iexact HP
    isplitl [Z01]; · iexact Z01
    isplitl [X01]; · iexact X01
    iexact F4
  iintro ⟨PS01, HP, F5, B10, R10, Y10⟩
  iapply (WP_bind d0)
  iapply (part8 I K d0 _ _ _) $$ [PK1 R10 B11 HP Z11 X11 F5]
  · isplitl [PK1]; · iexact PK1
    isplitl [R10]; · iexact R10
    isplitl [B11]; · iexact B11
    isplitl [HP]; · iexact HP
    isplitl [Z11]; · iexact Z11
    isplitl [X11]; · iexact X11
    iexact F5
  iintro ⟨PK1, R10, PS11, HP, F6, W5, B01⟩
  iapply (WP_bind d0)
  iapply (part9 I K d0 _ _ _ _) $$ [HP W5 PK0 B02]
  · isplitl [HP]; · iexact HP
    isplitl [W5]; · iexact W5
    isplitl [PK0]; · iexact PK0
    iexact B02
  iintro ⟨HP, R01, Y01, PK0, PS02, B02⟩
  iapply (WP_bind d0)
  iapply (part10 I K d0 _ _ _) $$ [HP B02 Z02 X02 F6 PK1 B12]
  · isplitl [HP]; · iexact HP
    isplitl [B02]; · iexact B02
    isplitl [Z02]; · iexact Z02
    isplitl [X02]; · iexact X02
    isplitl [F6]; · iexact F6
    isplitl [PK1]; · iexact PK1
    iexact B12
  iintro ⟨HP, F7, B11, R11, Y11, PK1, PS12, B12⟩
  iapply (WP_bind d0)
  iapply (part11 I K d0 _ _) $$ [HP B12 Z12 X12 F7 PK0]
  · isplitl [HP]; · iexact HP
    isplitl [B12]; · iexact B12
    isplitl [Z12]; · iexact Z12
    isplitl [X12]; · iexact X12
    isplitl [F7]; · iexact F7
    iexact PK0
  iintro %r %hr ⟨HP, F8, B02, R02, Y02, PK0⟩
  subst hr
  iapply (WP_bind d0)
  iapply (part12 I K d0 _ _ _) $$ [XK0 R02 HP Y02 F8 PK1]
  · isplitl [XK0]; · iexact XK0
    isplitl [R02]; · iexact R02
    isplitl [HP]; · iexact HP
    isplitl [Y02]; · iexact Y02
    isplitl [F8]; · iexact F8
    iexact PK1
  iintro %r %hr ⟨HP, F9, B12, R12, Y12, PK1⟩
  subst hr
  iapply (WP_bind d0)
  iapply (part13 I K d0 _ _ _) $$ [R12 XK1 HP Y12 F9]
  · isplitl [R12]; · iexact R12
    isplitl [XK1]; · iexact XK1
    isplitl [HP]; · iexact HP
    isplitl [Y12]; · iexact Y12
    iexact F9
  iintro ⟨HP, F10, XK0, Z02⟩
  iapply (WP_bind d0)
  iapply (part14 I K d0 _ _ _) $$ [R01 HP XK0 Y01 F10 R11 Y11]
  · isplitl [R01]; · iexact R01
    isplitl [HP]; · iexact HP
    isplitl [XK0]; · iexact XK0
    isplitl [Y01]; · iexact Y01
    isplitl [F10]; · iexact F10
    isplitl [R11]; · iexact R11
    iexact Y11
  iintro ⟨HP, XK0, Z12, F12, W11⟩
  iapply (WP_bind d0)
  iapply (part15 I K d0 _ _) $$ [HP W11 XK0 R00 Y00 F12 R10 Y10]
  · isplitl [HP]; · iexact HP
    isplitl [W11]; · iexact W11
    isplitl [XK0]; · iexact XK0
    isplitl [R00]; · iexact R00
    isplitl [Y00]; · iexact Y00
    isplitl [F12]; · iexact F12
    isplitl [R10]; · iexact R10
    iexact Y10
  iintro ⟨HP, Z01, F13, Z11, F14⟩
  iapply (WP_bind d0)
  iapply (part16 I K d0 _ _) $$ [HP F13 F14 G3]
  · isplitl [HP]; · iexact HP
    isplitl [F13]; · iexact F13
    isplitl [F14]; · iexact F14
    iexact G3
  iintro %r %hr ⟨HP, XK0, X00, Z00, XK1, X10, Z10, X02, X01, X12, X11, G3⟩
  subst hr
  iapply (WP_bind d0)
  iapply (part17 I K d0 _ _ _ _) $$ [G4 PK0 PS02 PS01 PS00 PK1 PS12 PS11 PS10 B00 B10 HP Z00 X00]
  · isplitl [G4]; · iexact G4
    isplitl [PK0]; · iexact PK0
    isplitl [PS02]; · iexact PS02
    isplitl [PS01]; · iexact PS01
    isplitl [PS00]; · iexact PS00
    isplitl [PK1]; · iexact PK1
    isplitl [PS12]; · iexact PS12
    isplitl [PS11]; · iexact PS11
    isplitl [PS10]; · iexact PS10
    isplitl [B00]; · iexact B00
    isplitl [B10]; · iexact B10
    isplitl [HP]; · iexact HP
    isplitl [Z00]; · iexact Z00
    iexact X00
  iintro ⟨G4, PK0, PS00, PK1, PS10, B10, HP, F15⟩
  iapply (WP_bind d0)
  iapply (part18 I K d0 _ _ _) $$ [HP B10 Z10 X10 F15 PK0]
  · isplitl [HP]; · iexact HP
    isplitl [B10]; · iexact B10
    isplitl [Z10]; · iexact Z10
    isplitl [X10]; · iexact X10
    isplitl [F15]; · iexact F15
    iexact PK0
  iintro %r %hr ⟨HP, F16, B00, R00, Y00, PK0, PS01⟩
  subst hr
  iapply (WP_bind d0)
  iapply (part19 I K d0 _ _ _) $$ [B01 HP Z01 X01 F16 PK1]
  · isplitl [B01]; · iexact B01
    isplitl [HP]; · iexact HP
    isplitl [Z01]; · iexact Z01
    isplitl [X01]; · iexact X01
    isplitl [F16]; · iexact F16
    iexact PK1
  iintro %r %hr ⟨HP, F17, B10, R10, Y10, PK1⟩
  subst hr
  iapply (WP_bind d0)
  iapply (part20 I K d0 _ _ _) $$ [R10 PK1 B11 HP Z11 X11 F17]
  · isplitl [R10]; · iexact R10
    isplitl [PK1]; · iexact PK1
    isplitl [B11]; · iexact B11
    isplitl [HP]; · iexact HP
    isplitl [Z11]; · iexact Z11
    isplitl [X11]; · iexact X11
    iexact F17
  iintro ⟨R10, PK1, PS11, HP, F18, W17, B01⟩
  iapply (WP_bind d0)
  iapply (part21 I K d0 _ _ _ _) $$ [HP W17 PK0 B02 Z02 X02]
  · isplitl [HP]; · iexact HP
    isplitl [W17]; · iexact W17
    isplitl [PK0]; · iexact PK0
    isplitl [B02]; · iexact B02
    isplitl [Z02]; · iexact Z02
    iexact X02
  iintro ⟨HP, R01, Y01, PK0, PS02, F19⟩
  iapply (WP_bind d0)
  iapply (part22 I K d0 _ _ _) $$ [HP F18 PK1 B12]
  · isplitl [HP]; · iexact HP
    isplitl [F18]; · iexact F18
    isplitl [PK1]; · iexact PK1
    iexact B12
  iintro ⟨HP, B11, R11, Y11, PK1, PS12, B12⟩
  iapply (WP_bind d0)
  iapply (part23 I K d0 _ _) $$ [HP B12 Z12 X12 F19 PK0]
  · isplitl [HP]; · iexact HP
    isplitl [B12]; · iexact B12
    isplitl [Z12]; · iexact Z12
    isplitl [X12]; · iexact X12
    isplitl [F19]; · iexact F19
    iexact PK0
  iintro %r %hr ⟨HP, F20, B02, R02, Y02, PK0⟩
  subst hr
  iapply (WP_bind d0)
  iapply (part24 I K d0 _ _ _) $$ [XK0 R02 HP Y02 F20 PK1]
  · isplitl [XK0]; · iexact XK0
    isplitl [R02]; · iexact R02
    isplitl [HP]; · iexact HP
    isplitl [Y02]; · iexact Y02
    isplitl [F20]; · iexact F20
    iexact PK1
  iintro %r %hr ⟨HP, F21, B12, R12, Y12, PK1⟩
  subst hr
  iapply (WP_bind d0)
  iapply (part25 I K d0 _ _ _) $$ [XK1 R12 HP Y12 F21]
  · isplitl [XK1]; · iexact XK1
    isplitl [R12]; · iexact R12
    isplitl [HP]; · iexact HP
    isplitl [Y12]; · iexact Y12
    iexact F21
  iintro ⟨HP, F22, XK0, Z02⟩
  iapply (WP_bind d0)
  iapply (part26 I K d0 _ _ _) $$ [R01 HP XK0 Y01 F22 R11 Y11]
  · isplitl [R01]; · iexact R01
    isplitl [HP]; · iexact HP
    isplitl [XK0]; · iexact XK0
    isplitl [Y01]; · iexact Y01
    isplitl [F22]; · iexact F22
    isplitl [R11]; · iexact R11
    iexact Y11
  iintro ⟨HP, XK0, Z12, F24, W23⟩
  iapply (WP_bind d0)
  iapply (part27 I K d0 _ _) $$ [HP W23 XK0 R00 Y00 F24 R10 Y10]
  · isplitl [HP]; · iexact HP
    isplitl [W23]; · iexact W23
    isplitl [XK0]; · iexact XK0
    isplitl [R00]; · iexact R00
    isplitl [Y00]; · iexact Y00
    isplitl [F24]; · iexact F24
    isplitl [R10]; · iexact R10
    iexact Y10
  iintro ⟨HP, Z01, F25, Z11, F26⟩
  iapply (WP_bind d0)
  iapply (part28 I K d0 _ _) $$ [HP F25 F26 G5 G6]
  · isplitl [HP]; · iexact HP
    isplitl [F25]; · iexact F25
    isplitl [F26]; · iexact F26
    isplitl [G5]; · iexact G5
    iexact G6
  iintro %r %hr ⟨HP, XK0, X00, Z00, XK1, X10, Z10, X02, X01, X12, X11, G5, G6⟩
  subst hr
  iapply (WP_bind d0)
  iapply (part29 I K d0 _ _ _ _) $$ [PK0 PS02 PS01 PS00 PK1 PS12 PS11 PS10 B00 B10 HP Z00 X00]
  · isplitl [PK0]; · iexact PK0
    isplitl [PS02]; · iexact PS02
    isplitl [PS01]; · iexact PS01
    isplitl [PS00]; · iexact PS00
    isplitl [PK1]; · iexact PK1
    isplitl [PS12]; · iexact PS12
    isplitl [PS11]; · iexact PS11
    isplitl [PS10]; · iexact PS10
    isplitl [B00]; · iexact B00
    isplitl [B10]; · iexact B10
    isplitl [HP]; · iexact HP
    isplitl [Z00]; · iexact Z00
    iexact X00
  iintro ⟨PK0, PS00, PK1, PS10, B10, HP, F27⟩
  iapply (WP_bind d0)
  iapply (part30 I K d0 _ _ _) $$ [HP B10 Z10 X10 F27 PK0]
  · isplitl [HP]; · iexact HP
    isplitl [B10]; · iexact B10
    isplitl [Z10]; · iexact Z10
    isplitl [X10]; · iexact X10
    isplitl [F27]; · iexact F27
    iexact PK0
  iintro %r %hr ⟨HP, F28, B00, R00, Y00, PK0, PS01⟩
  subst hr
  iapply (WP_bind d0)
  iapply (part31 I K d0 _ _ _) $$ [B01 HP Z01 X01 F28 PK1]
  · isplitl [B01]; · iexact B01
    isplitl [HP]; · iexact HP
    isplitl [Z01]; · iexact Z01
    isplitl [X01]; · iexact X01
    isplitl [F28]; · iexact F28
    iexact PK1
  iintro %r %hr ⟨HP, F29, B10, R10, Y10, PK1⟩
  subst hr
  iapply (WP_bind d0)
  iapply (part32 I K d0 _ _ _) $$ [R10 PK1 B11 HP Z11 X11 F29]
  · isplitl [R10]; · iexact R10
    isplitl [PK1]; · iexact PK1
    isplitl [B11]; · iexact B11
    isplitl [HP]; · iexact HP
    isplitl [Z11]; · iexact Z11
    isplitl [X11]; · iexact X11
    iexact F29
  iintro ⟨R10, PK1, PS11, HP, F30, W29, B01⟩
  iapply (WP_bind d0)
  iapply (part33 I K d0 _ _ _ _) $$ [HP W29 PK0 B02 Z02 X02]
  · isplitl [HP]; · iexact HP
    isplitl [W29]; · iexact W29
    isplitl [PK0]; · iexact PK0
    isplitl [B02]; · iexact B02
    isplitl [Z02]; · iexact Z02
    iexact X02
  iintro ⟨HP, R01, Y01, PK0, PS02, F31⟩
  iapply (WP_bind d0)
  iapply (part34 I K d0 _ _ _) $$ [HP F30 PK1 B12]
  · isplitl [HP]; · iexact HP
    isplitl [F30]; · iexact F30
    isplitl [PK1]; · iexact PK1
    iexact B12
  iintro ⟨HP, B11, R11, Y11, PK1, PS12, B12⟩
  iapply (WP_bind d0)
  iapply (part35 I K d0 _ _) $$ [HP B12 Z12 X12 F31 PK0]
  · isplitl [HP]; · iexact HP
    isplitl [B12]; · iexact B12
    isplitl [Z12]; · iexact Z12
    isplitl [X12]; · iexact X12
    isplitl [F31]; · iexact F31
    iexact PK0
  iintro %r %hr ⟨HP, F32, B02, R02, Y02, PK0⟩
  subst hr
  iapply (WP_bind d0)
  iapply (part36 I K d0 _ _) $$ [XK0 HP Y02 F32 PK1]
  · isplitl [XK0]; · iexact XK0
    isplitl [HP]; · iexact HP
    isplitl [Y02]; · iexact Y02
    isplitl [F32]; · iexact F32
    iexact PK1
  iintro %r %hr ⟨HP, F33, B12, R12, Y12, PK1⟩
  subst hr
  iapply (WP_bind d0)
  iapply (part37 I K d0 _ _ _) $$ [XK1 HP Y12 F33]
  · isplitl [XK1]; · iexact XK1
    isplitl [HP]; · iexact HP
    isplitl [Y12]; · iexact Y12
    iexact F33
  iintro ⟨HP, F34, XK0⟩
  iapply (WP_bind d0)
  iapply (part38 I K d0 _ _ _) $$ [HP XK0 Y01 F34 Y11]
  · isplitl [HP]; · iexact HP
    isplitl [XK0]; · iexact XK0
    isplitl [Y01]; · iexact Y01
    isplitl [F34]; · iexact F34
    iexact Y11
  iintro ⟨HP, XK0, F36, W35⟩
  iapply (WP_bind d0)
  iapply (part39 I K d0 _ _) $$ [HP W35 XK0 Y00 F36 Y10]
  · isplitl [HP]; · iexact HP
    isplitl [W35]; · iexact W35
    isplitl [XK0]; · iexact XK0
    isplitl [Y00]; · iexact Y00
    isplitl [F36]; · iexact F36
    iexact Y10
  iintro ⟨HP, F37, F38⟩
  iapply (swait_ag I K d0 37 2 0 0 rfl rfl rfl) $$ [HP F37]
  · isplitl [HP]; · iexact HP
    iexact F37
  iintro ⟨HP, W37, XK0⟩
  iapply (rwait_ag I K d0 (n := 39) (m₀ := 37) (m₁ := 38) 37 2 0 0 rfl rfl rfl (by decide) rfl rfl) $$ [HP W37]
  · isplitl [HP]; · iexact HP
    iexact W37
  iintro ⟨HP, X00, V⟩
  ihave XK0 := (x_join d0 0 0 (Xs I 3)) $$ [XK0 X00]
  · isplitl [XK0]; · iexact XK0
    iexact X00
  iapply (WP_ret d0)
  iapply Hk $$ %_ []
  · ipureintro; rfl
  isplitl [G1]; · iexact G1
  isplitl [G2]; · iexact G2
  isplitl [G3]; · iexact G3
  isplitl [G4]; · iexact G4
  isplitl [G5]; · iexact G5
  isplitl [G6]; · iexact G6
  isplitl [PS00]; · iexact PS00
  isplitl [PS10]; · iexact PS10
  isplitl [B00]; · iexact B00
  isplitl [R00]; · iexact R00
  isplitl [PS01]; · iexact PS01
  isplitl [B10]; · iexact B10
  isplitl [R10]; · iexact R10
  isplitl [PS11]; · iexact PS11
  isplitl [B01]; · iexact B01
  isplitl [R01]; · iexact R01
  isplitl [PS02]; · iexact PS02
  isplitl [B11]; · iexact B11
  isplitl [R11]; · iexact R11
  isplitl [PS12]; · iexact PS12
  isplitl [B02]; · iexact B02
  isplitl [PK0]; · iexact PK0
  isplitl [R02]; · iexact R02
  isplitl [B12]; · iexact B12
  isplitl [PK1]; · iexact PK1
  isplitl [R12]; · iexact R12
  isplitl [F38]; · iexact F38
  isplitl [HP]; · iexact HP
  isplitl [XK0]; · iexact XK0
  isplitl [HB]; · iexact HB
  isplitl [B0K]; · iexact B0K
  isplitl [B1K]; · iexact B1K
  iexact G0

/-- The body of the kernel: from what a device starts from, to the result in the staging buffer of operand 7. -/
theorem body (I : Inp F) (K : Dev nD × CI → ℕ) (c : Dev nD) (f : Vec F S2048x256 .f32) {Q : _ → sProp 𝕄} :
    iprop(Start I K c ∗ g0 c (I.x c) ∗ g1 c (I.win 0 c) ∗ g2 c (I.wout 0 c) ∗ g3 c (I.win 1 c) ∗ g4 c (I.wout 1 c) ∗ g5 c (I.win 2 c) ∗ g6 c (I.wout 2 c) ∗ xE c Finset.univ ∗ bE c Finset.univ ∗ pE c Finset.univ ∗ rE c (slot 0 0) ∗ rE c (slot 0 1) ∗ rE c (slot 0 2) ∗ rE c (slot 1 0) ∗ rE c (slot 1 1) ∗ rE c (slot 1 2) ∗ g7 c f)
      ⊢ iprop(((Pool I K c 39 39 ∗ atPos ER (barCell c) (0 + 1) ∅ 0 ∗ g0 c (I.x c) ∗ g1 c (I.win 0 c) ∗ g2 c (I.wout 0 c) ∗ g3 c (I.win 1 c) ∗ g4 c (I.wout 1 c) ∗ g5 c (I.win 2 c) ∗ g6 c (I.wout 2 c) ∗ g7 c (k0_pay1 (Xs I 3)) ∗ xE c Finset.univ ∗ bE c Finset.univ ∗ pE c Finset.univ ∗ rE c (slot 0 0) ∗ rE c (slot 0 1) ∗ rE c (slot 0 2) ∗ rE c (slot 1 0) ∗ rE c (slot 1 1) ∗ rE c (slot 1 2)) -∗ |={Set.univ}=> Q ⟨⟩)
        -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) Q) := by
  rw [cc0_body_eq_skeleton]
  unfold cc0_body_skel
  simp only [Prog.lift, Prog.bind_op, Prog.bind_ret, Prog.pure_eq_ret]
  iintro ⟨ST, G0, G1, G2, G3, G4, G5, G6, XU, BU, PE, R00, R01, R02, R10, R11, R12, G7⟩ Hk
  iapply (WP_bind c)
  iapply (part40 I K c) $$ [ST G0 G1 G2 G3 G4 G5 G6 XU BU PE R00 R01 R02 R10 R11 R12]
  · isplitl [ST]; · iexact ST
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [XU]; · iexact XU
    isplitl [BU]; · iexact BU
    isplitl [PE]; · iexact PE
    isplitl [R00]; · iexact R00
    isplitl [R01]; · iexact R01
    isplitl [R02]; · iexact R02
    isplitl [R10]; · iexact R10
    isplitl [R11]; · iexact R11
    iexact R12
  iintro %r %hr ⟨G1, G2, G3, G4, G5, G6, PS00, PS10, B00, R00, PS01, B10, R10, PS11, B01, R01, PS02, B11, R11, PS12, B02, PK0, R02, B12, PK1, R12, F38, HP, XK0, HB, B0K, B1K, G0⟩
  obtain ⟨d0, v4⟩ := r
  obtain rfl : d0 = c := hr
  iapply (swait_ag I K d0 38 2 0 1 rfl rfl rfl) $$ [HP F38]
  · isplitl [HP]; · iexact HP
    iexact F38
  iintro ⟨HP, W38, XK1⟩
  iapply (rwait_ag I K d0 (n := 39) (m₀ := 38) (m₁ := 39) 38 2 0 1 rfl rfl rfl (by decide) rfl rfl) $$ [HP W38]
  · isplitl [HP]; · iexact HP
    iexact W38
  iintro ⟨HP, X10, V⟩
  ihave XK1 := (x_join d0 1 0 (Xs I 3)) $$ [XK1 X10]
  · isplitl [XK1]; · iexact XK1
    iexact X10
  ihave XU := (x_end d0 (Xs I 3)) $$ [XK0 XK1]
  · isplitl [XK0]; · iexact XK0
    iexact XK1
  iapply (x_load_whole d0 (Xs I 3)) $$ [XU]
  · iexact XU
  iintro XU
  iapply (g7_load d0 _) $$ [G7]
  · iexact G7
  iintro G7
  iapply (g7_store d0 _) $$ [G7]
  · iexact G7
  iintro G7
  ihave PE := (p_end d0 _ _ _ _ _ _ _ _) $$ [PK0 PS02 PS01 PS00 PK1 PS12 PS11 PS10]
  · isplitl [PK0]; · iexact PK0
    isplitl [PS02]; · iexact PS02
    isplitl [PS01]; · iexact PS01
    isplitl [PS00]; · iexact PS00
    isplitl [PK1]; · iexact PK1
    isplitl [PS12]; · iexact PS12
    isplitl [PS11]; · iexact PS11
    iexact PS10
  ihave BU := (b_end d0) $$ [B0K B02 B01 B00 B1K B12 B11 B10]
  · isplitl [B0K]; · iexact B0K
    isplitl [B02]; · iexact B02
    isplitl [B01]; · iexact B01
    isplitl [B00]; · iexact B00
    isplitl [B1K]; · iexact B1K
    isplitl [B12]; · iexact B12
    isplitl [B11]; · iexact B11
    iexact B10
  iapply (WP_done d0)
  iapply Hk
  isplitl [HP]; · iexact HP
  isplitl [HB]; · iexact HB
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [XU]; · iapply (xP_xE d0 _); iexact XU
  isplitl [BU]; · iexact BU
  isplitl [PE]; · iexact PE
  isplitl [R00]; · iapply (rP_rE d0 _); iexact R00
  isplitl [R01]; · iapply (rP_rE d0 _); iexact R01
  isplitl [R02]; · iapply (rP_rE d0 _); iexact R02
  isplitl [R10]; · iapply (rP_rE d0 _); iexact R10
  isplitl [R11]; · iapply (rP_rE d0 _); iexact R11
  iapply (rP_rE d0 _); iexact R12

end Cert.K
-- ==== Proof.Finish.lean ====
/-
# The obligation of the launch on one device

The scratch buffers cut as the body takes them and put together again, the cells closed when every round is over, and with
these the body as the launch states it: from what the pipeline stages to the result staged, every semaphore at zero.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The scratch buffers -/

theorem rE_cut (c : Dev nD) {S T : Finset S2x3x1024x128.Idx} (h : S ⊆ T) : (rE c T : sProp 𝕄) ⊢ iprop(rE c S ∗ rE c (T \ S)) := by
  unfold rE rP
  iintro ⟨%f, H⟩
  ihave ⟨H1, H2⟩ := (Entails.of_eq (congrArg (fun U : Finset S2x3x1024x128.Idx => (((c : Thread nD τ).loc cc0_scratch3) ↦[U]{fullShare} f : sProp 𝕄)) (Finset.union_sdiff_of_subset h).symm) |>.trans (pointsTo_union Finset.disjoint_sdiff).1) $$ H
  isplitl [H1]
  · iexists f; iexact H1
  iexists f; iexact H2

theorem rE_uncut (c : Dev nD) {S T : Finset S2x3x1024x128.Idx} (h : S ⊆ T) : iprop(rE c S ∗ rE c (T \ S)) ⊢ (rE c T : sProp 𝕄) := by
  unfold rE rP
  iintro ⟨⟨%f, H1⟩, ⟨%g, H2⟩⟩
  iexists (T \ S).piecewise g f
  iapply (Entails.of_eq (congrArg (fun U : Finset S2x3x1024x128.Idx => (((c : Thread nD τ).loc cc0_scratch3) ↦[U]{fullShare} ((T \ S).piecewise g f) : sProp 𝕄)) (Finset.union_sdiff_of_subset h)))
  iapply (pointsTo_join Finset.disjoint_sdiff)
  isplitl [H1]; · iexact H1
  iexact H2

/-- The landing buffer less the slots named so far. -/
def lft : ℕ → Finset S2x3x1024x128.Idx
  | 0 => Finset.univ
  | 1 => Finset.univ \ slot 0 0
  | 2 => (Finset.univ \ slot 0 0) \ slot 0 1
  | 3 => ((Finset.univ \ slot 0 0) \ slot 0 1) \ slot 0 2
  | 4 => (((Finset.univ \ slot 0 0) \ slot 0 1) \ slot 0 2) \ slot 1 0
  | 5 => ((((Finset.univ \ slot 0 0) \ slot 0 1) \ slot 0 2) \ slot 1 0) \ slot 1 1
  | _ => (((((Finset.univ \ slot 0 0) \ slot 0 1) \ slot 0 2) \ slot 1 0) \ slot 1 1) \ slot 1 2

theorem lft_sub {S T U : Finset S2x3x1024x128.Idx} (h : S ⊆ T) (hd : Disjoint U S) : S ⊆ T \ U :=
  fun x hx => Finset.mem_sdiff.mpr ⟨h hx, fun hu => Finset.disjoint_left.mp hd hu hx⟩

theorem sub1 : slot 0 1 ⊆ lft 1 := lft_sub (Finset.subset_univ _) (slot_disj (by decide))
theorem sub2 : slot 0 2 ⊆ lft 2 := lft_sub (lft_sub (Finset.subset_univ _) (slot_disj (by decide))) (slot_disj (by decide))
theorem sub3 : slot 1 0 ⊆ lft 3 := lft_sub (lft_sub (lft_sub (Finset.subset_univ _) (slot_disj (by decide))) (slot_disj (by decide))) (slot_disj (by decide))
theorem sub4 : slot 1 1 ⊆ lft 4 :=
  lft_sub (lft_sub (lft_sub (lft_sub (Finset.subset_univ _) (slot_disj (by decide))) (slot_disj (by decide))) (slot_disj (by decide))) (slot_disj (by decide))
theorem sub5 : slot 1 2 ⊆ lft 5 :=
  lft_sub (lft_sub (lft_sub (lft_sub (lft_sub (Finset.subset_univ _) (slot_disj (by decide))) (slot_disj (by decide))) (slot_disj (by decide))) (slot_disj (by decide))) (slot_disj (by decide))

/-- The landing buffer cut into its six slots and what no copy lands in. -/
theorem r_open (c : Dev nD) : (rE c Finset.univ : sProp 𝕄)
    ⊢ iprop(rE c (slot 0 0) ∗ rE c (slot 0 1) ∗ rE c (slot 0 2) ∗ rE c (slot 1 0) ∗ rE c (slot 1 1) ∗ rE c (slot 1 2) ∗ rE c (lft 6)) := by
  iintro H
  ihave ⟨H0, H⟩ := (rE_cut c (Finset.subset_univ (slot 0 0))) $$ H
  ihave ⟨H1, H⟩ := (rE_cut c sub1) $$ [H]
  · iexact H
  ihave ⟨H2, H⟩ := (rE_cut c sub2) $$ [H]
  · iexact H
  ihave ⟨H3, H⟩ := (rE_cut c sub3) $$ [H]
  · iexact H
  ihave ⟨H4, H⟩ := (rE_cut c sub4) $$ [H]
  · iexact H
  ihave ⟨H5, H⟩ := (rE_cut c sub5) $$ [H]
  · iexact H
  isplitl [H0]; · iexact H0
  isplitl [H1]; · iexact H1
  isplitl [H2]; · iexact H2
  isplitl [H3]; · iexact H3
  isplitl [H4]; · iexact H4
  isplitl [H5]; · iexact H5
  iexact H

theorem r_close (c : Dev nD) :
    iprop(rE c (slot 0 0) ∗ rE c (slot 0 1) ∗ rE c (slot 0 2) ∗ rE c (slot 1 0) ∗ rE c (slot 1 1) ∗ rE c (slot 1 2) ∗ rE c (lft 6))
      ⊢ (rE c Finset.univ : sProp 𝕄) := by
  iintro ⟨H0, H1, H2, H3, H4, H5, H⟩
  ihave H := (rE_uncut c sub5) $$ [H5 H]
  · isplitl [H5]; · iexact H5
    iexact H
  ihave H := (rE_uncut c sub4) $$ [H4 H]
  · isplitl [H4]; · iexact H4
    iexact H
  ihave H := (rE_uncut c sub3) $$ [H3 H]
  · isplitl [H3]; · iexact H3
    iexact H
  ihave H := (rE_uncut c sub2) $$ [H2 H]
  · isplitl [H2]; · iexact H2
    iexact H
  ihave H := (rE_uncut c sub1) $$ [H1 H]
  · isplitl [H1]; · iexact H1
    iexact H
  iapply (rE_uncut c (Finset.subset_univ (slot 0 0)))
  isplitl [H0]; · iexact H0
  iexact H

/-- The four scratch buffers, whole, as the launch hands them over. -/
theorem scr_eq (c : Dev nD) : (Pipeline.scopedRest (Ix := Unit) (Name := ℕ) (U := UU) (Lvl := ℕ) (Val := Elt F) cfg0.spec c : sProp 𝕄)
    = iprop(xE c Finset.univ ∗ pE c Finset.univ ∗ bE c Finset.univ ∗ rE c Finset.univ) := by
  rw [scopedRest0_eq]
  unfold xE pE bE rE xP pP bP rP
  rw [reg_univ]
  rfl

/-! ## The cells closed -/

theorem cell_done (I : Inp F) (K : Dev nD × CI → ℕ) (c : Dev nD) (ci : CI) :
    iprop(Recs I K ∗ atPos ER (kcell (c, ci)) (0 + 1) ∅ 0) ⊢ (|={Set.univ}=> semVal (kcell (c, ci)) 0 : sProp 𝕄) := by
  iintro ⟨#HR, Hat⟩
  iapply (Rounds.cell_close ER (sch I) (Set.mem_univ (K (c, ci))) (fun h => h) (R := 0 + 1) (duties_later I (kcell (c, ci))))
  isplitr; · iapply (Recs_inv I K (c, ci)); iexact HR
  iexact Hat

theorem sep_each {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A separating product over a device's cells. -/
theorem sep_CI (Φ : CI → sProp 𝕄) : bigSep Finset.univ Φ = iprop(Φ none ∗ bigSep Finset.univ (fun p => Φ (some p))) := by
  show bigSep (Finset.cons none (Finset.univ.map Function.Embedding.some) (by simp)) Φ = _
  rw [Finset.cons_eq_insert, bigSep_insert (by simp), bigSep_map]
  rfl

theorem sep_pair (Φ : Bool × Fin 39 → sProp 𝕄) :
    bigSep Finset.univ Φ = iprop(bigSep Finset.univ (fun k => Φ (false, k)) ∗ bigSep Finset.univ (fun k => Φ (true, k))) := by
  rw [bigSep_univ_prod, show (Finset.univ : Finset Bool) = {false, true} by decide, bigSep_insert (by decide), bigSep_singleton]
  rfl

theorem all_done (I : Inp F) (K : Dev nD × CI → ℕ) (c : Dev nD) :
    iprop(Recs I K ∗ atPos ER (barCell c) (0 + 1) ∅ 0 ∗ bigSep Finset.univ (fun k : Fin 39 => Dn c k))
      ⊢ (|={Set.univ}=> bigSep Finset.univ (fun ci : CI => semVal (kcell (c, ci)) 0) : sProp 𝕄) := by
  have h : iprop(atPos ER (barCell c) (0 + 1) ∅ 0 ∗ bigSep Finset.univ (fun k : Fin 39 => Dn c k))
      ⊢ (bigSep Finset.univ (fun ci : CI => atPos ER (kcell (c, ci)) (0 + 1) ∅ 0) : sProp 𝕄) := by
    rw [sep_CI, sep_pair]
    unfold Dn
    rw [bigSep_sep']
    exact Entails.rfl
  exact (sep_mono_right h).trans ((sep_each fun ci _ => cell_done I K c ci).trans (bigSep_fupd _ _))

end Cert.K
-- ==== Proof.Oblig.lean ====
/-
# The body's obligation

What the pipeline stages, what the body leaves staged, and what each device holds before and after its one point.
-/
module

public import proofs.«01_k».proof.Proof.Finish

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory a run starts from. -/
def s₀ : MemSt nD τ sig (Elt F) := ⟨m, fun _ => 0, ρ⟩

/-- The blocks each device holds at the start. -/
def inp : Inp F where
  x c := (win0_0.blk (0 : Fin 1)).view.read (Elt F) (m ((c : Thread nD τ).loc main_arg0))
  win l c := match l with
    | 0 => (win0_1.blk (0 : Fin 1)).view.read (Elt F) (m ((c : Thread nD τ).loc main_arg1))
    | 1 => (win0_3.blk (0 : Fin 1)).view.read (Elt F) (m ((c : Thread nD τ).loc main_arg2))
    | 2 => (win0_5.blk (0 : Fin 1)).view.read (Elt F) (m ((c : Thread nD τ).loc main_arg3))
  wout l c := match l with
    | 0 => (win0_2.blk (0 : Fin 1)).view.read (Elt F) (m ((c : Thread nD τ).loc main_arg4))
    | 1 => (win0_4.blk (0 : Fin 1)).view.read (Elt F) (m ((c : Thread nD τ).loc main_arg5))
    | 2 => (win0_6.blk (0 : Fin 1)).view.read (Elt F) (m ((c : Thread nD τ).loc main_arg6))

/-- What a device takes of the cells' tokens: the duties it pays and its own positions. -/
def Lin (c : Dev nD) : sProp 𝕄 :=
  iprop(dutyTok ER (barCell (prt 0 c)) 0 (0 : Fin 3) ∗ dutyTok ER (barCell (prt 1 c)) 0 (1 : Fin 3) ∗ dutyTok ER (barCell (prt 2 c)) 0 (2 : Fin 3)
    ∗ atPos ER (barCell c) 0 ∅ 0
    ∗ bigSep Finset.univ (fun k : Fin 39 => iprop(dutyTok ER (sendCell c k) 0 0 ∗ dutyTok ER (recvCell (par (dec k) c) k) 0 0
      ∗ atPos ER (sendCell c k) 0 ∅ 0 ∗ atPos ER (recvCell c k) 0 ∅ 0)))

/-- What a device starts from beside its buffers and what it owes. -/
def start (c : Dev nD) : sProp 𝕄 :=
  iprop((∃ K, Recs (inp m) K ∗ Lin c) ∗ levAts L lv ∗ cred (tallyAt (barCell c) () 3)
    ∗ bigSep Finset.univ (fun k : Fin 39 => cred (tallyAt (recvCell c k) () (amt (dec k)))))

/-- Before the point: that, and the scratch buffers at any contents. -/
def Φ₀ (c : Dev nD) : sProp 𝕄 := iprop(start m c ∗ Pipeline.scopedRest cfg0.spec c)
/-- After it: every cell's counter at zero, and the scratch buffers. -/
def Φ₁ (c : Dev nD) : sProp 𝕄 := iprop(bigSep Finset.univ (fun ci : CI => semVal (kcell (c, ci)) 0) ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).win 0 c
    | ⟨2, _⟩ => (inp m).wout 0 c
    | ⟨3, _⟩ => (inp m).win 1 c
    | ⟨4, _⟩ => (inp m).wout 1 c
    | ⟨5, _⟩ => (inp m).win 2 c
    | ⟨6, _⟩ => (inp m).wout 2 c
    | ⟨7, _⟩ => k0_pay1 (Xs (inp m) 3)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding a value. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem tok_join (c : Dev nD) (k : Fin 39) :
    iprop((dutyTok ER (sendCell c k) 0 (0 : Fin 3) ∗ dutyTok ER (recvCell (par (dec k) c) k) 0 0
        ∗ atPos ER (sendCell c k) 0 ∅ 0 ∗ atPos ER (recvCell c k) 0 ∅ 0) ∗ cred (tallyAt (recvCell c k) () (amt (dec k))))
      ⊢ (Tok c k : sProp 𝕄) := by
  unfold Tok
  iintro ⟨⟨A, B, C, D⟩, E⟩
  isplitl [A]; · iexact A
  isplitl [B]; · iexact B
  isplitl [C]; · iexact C
  isplitl [D]; · iexact D
  iexact E

/-- The tokens of every copy, from those dealt and the credits. -/
theorem toks_join (c : Dev nD) :
    iprop(bigSep Finset.univ (fun k : Fin 39 => iprop(dutyTok ER (sendCell c k) 0 (0 : Fin 3) ∗ dutyTok ER (recvCell (par (dec k) c) k) 0 0
        ∗ atPos ER (sendCell c k) 0 ∅ 0 ∗ atPos ER (recvCell c k) 0 ∅ 0))
      ∗ bigSep Finset.univ (fun k : Fin 39 => cred (tallyAt (recvCell c k) () (amt (dec k)))))
      ⊢ (bigSep Finset.univ (fun k : Fin 39 => Tok c k) : sProp 𝕄) := by
  rw [← bigSep_sep']
  exact bigSep_mono fun k _ => tok_join c k

def pre (c : Dev nD) : sProp 𝕄 :=
  iprop(Φ₀ m c ∗ (dats m ρ 0 c).owesAt () t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

def post (c : Dev nD) : sProp 𝕄 :=
  iprop(Φ₁ c ∗ (dats m ρ 0 c).owesAt () t0_0.succ ∗ stg c cc0_stg0_0 ((inp m).x c) ∗ stg c cc0_stg1_0 ((inp m).win 0 c) ∗ stg c cc0_stg2_0 ((inp m).wout 0 c) ∗ stg c cc0_stg3_0 ((inp m).win 1 c) ∗ stg c cc0_stg4_0 ((inp m).wout 1 c) ∗ stg c cc0_stg5_0 ((inp m).win 2 c) ∗ stg c cc0_stg6_0 ((inp m).wout 2 c) ∗ stg c cc0_stg7_0 (k0_pay1 (Xs (inp m) 3)))

set_option maxHeartbeats 1600000 in
/-- The body from what the pipeline stages to what it leaves staged. -/
theorem sound (c : Dev nD) :
    pre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) (fun _ => post m ρ c) := by
  unfold pre Φ₀ start Lin
  rw [scr_eq]
  unfold Dat.owesAt Pipeline.owesWithin
  rw [show (dats m ρ 0 c).owed t0_0.castSucc = O₀ c from rfl]
  iintro ⟨⟨⟨⟨%K, #HR, T0, T1, T2, HaB, HT⟩, #HL, HcB, Hcr⟩, XU, PE, BU, RU⟩, ⟨%W, %hW, HO⟩, ⟨%d0, %f0, %h0, G0⟩, ⟨%d1, %f1, %h1, G1⟩, ⟨%d2, %f2, %h2, G2⟩, ⟨%d3, %f3, %h3, G3⟩, ⟨%d4, %f4, %h4, G4⟩, ⟨%d5, %f5, %h5, G5⟩, ⟨%d6, %f6, %h6, G6⟩, ⟨%d7, %f7, %h7, G7⟩⟩
  have e0 : f0 = (inp m).x c := by rw [h0]; unfold Dat.before; rw [if_pos (fetch0_0 t0_0)]; rfl
  subst e0
  have e1 : f1 = (inp m).win 0 c := by rw [h1]; unfold Dat.before; rw [if_pos (fetch0_1 t0_0)]; rfl
  subst e1
  have e2 : f2 = (inp m).wout 0 c := by rw [h2]; unfold Dat.before; rw [if_pos (fetch0_2 t0_0)]; rfl
  subst e2
  have e3 : f3 = (inp m).win 1 c := by rw [h3]; unfold Dat.before; rw [if_pos (fetch0_3 t0_0)]; rfl
  subst e3
  have e4 : f4 = (inp m).wout 1 c := by rw [h4]; unfold Dat.before; rw [if_pos (fetch0_4 t0_0)]; rfl
  subst e4
  have e5 : f5 = (inp m).win 2 c := by rw [h5]; unfold Dat.before; rw [if_pos (fetch0_5 t0_0)]; rfl
  subst e5
  have e6 : f6 = (inp m).wout 2 c := by rw [h6]; unfold Dat.before; rw [if_pos (fetch0_6 t0_0)]; rfl
  subst e6
  ihave ⟨R00, R01, R02, R10, R11, R12, RR⟩ := (r_open c) $$ RU
  ihave HT := (toks_join c) $$ [HT Hcr]
  · isplitl [HT]; · iexact HT
    iexact Hcr
  iapply (body (inp m) K c f7) $$ [HO T0 T1 T2 HaB HcB HT G0 G1 G2 G3 G4 G5 G6 G7 XU BU PE R00 R01 R02 R10 R11 R12]
  · isplitl [HO T0 T1 T2 HaB HcB HT]
    · unfold Start
      isplitr; · iexact HR
      isplitr; · iexact HL
      isplitl [HO]; · iexists W; iexact HO
      isplitl [T0]; · iexact T0
      isplitl [T1]; · iexact T1
      isplitl [T2]; · iexact T2
      isplitl [HaB]; · iexact HaB
      isplitl [HcB]; · iexact HcB
      iexact HT
    isplitl [G0]; · unfold g0; iexact G0
    isplitl [G1]; · unfold g1; iexact G1
    isplitl [G2]; · unfold g2; iexact G2
    isplitl [G3]; · unfold g3; iexact G3
    isplitl [G4]; · unfold g4; iexact G4
    isplitl [G5]; · unfold g5; iexact G5
    isplitl [G6]; · unfold g6; iexact G6
    isplitl [XU]; · iexact XU
    isplitl [BU]; · iexact BU
    isplitl [PE]; · iexact PE
    isplitl [R00]; · iexact R00
    isplitl [R01]; · iexact R01
    isplitl [R02]; · iexact R02
    isplitl [R10]; · iexact R10
    isplitl [R11]; · iexact R11
    isplitl [R12]; · iexact R12
    unfold g7; iexact G7
  iintro ⟨HP, HaB, G0, G1, G2, G3, G4, G5, G6, G7, XU, BU, PE, R00, R01, R02, R10, R11, R12⟩
  unfold Pool owesN g0 g1 g2 g3 g4 g5 g6 g7
  icases HP with ⟨-, -, -, ⟨%W', HO⟩, HD⟩
  imod (all_done (inp m) K c) $$ [HaB HD] with HZ
  · isplitr; · iexact HR
    isplitl [HaB]; · iexact HaB
    rw [show (Finset.univ.filter fun k : Fin 39 => k.val < 39) = Finset.univ from Finset.filter_true_of_mem fun k _ => k.isLt]
    iexact HD
  imodintro
  unfold post Φ₁
  rw [scr_eq]
  unfold Dat.owesAt Pipeline.owesWithin
  rw [show (dats m ρ 0 c).owed t0_0.succ = 0 from rfl, Ob_last]
  isplitl [HZ XU PE BU R00 R01 R02 R10 R11 R12 RR]
  · isplitl [HZ]; · iexact HZ
    isplitl [XU]; · iexact XU
    isplitl [PE]; · iexact PE
    isplitl [BU]; · iexact BU
    iapply (r_close c)
    isplitl [R00]; · iexact R00
    isplitl [R01]; · iexact R01
    isplitl [R02]; · iexact R02
    isplitl [R10]; · iexact R10
    isplitl [R11]; · iexact R11
    isplitl [R12]; · iexact R12
    iexact RR
  isplitl [HO]
  · iexists W'
    isplitr; · ipureintro; exact fun _ _ => Or.inl trivial
    iexact HO
  isplitl [G0]
  · iexists _; isplitr; · (ipureintro; rfl)
    iexact G0
  isplitl [G1]
  · iexists _; isplitr; · (ipureintro; rfl)
    iexact G1
  isplitl [G2]
  · iexists _; isplitr; · (ipureintro; rfl)
    iexact G2
  isplitl [G3]
  · iexists _; isplitr; · (ipureintro; rfl)
    iexact G3
  isplitl [G4]
  · iexists _; isplitr; · (ipureintro; rfl)
    iexact G4
  isplitl [G5]
  · iexists _; isplitr; · (ipureintro; rfl)
    iexact G5
  isplitl [G6]
  · iexists _; isplitr; · (ipureintro; rfl)
    iexact G6
  iexists _; isplitr; · (ipureintro; rfl)
  iexact G7

/-- The windows one by one. -/
theorem sep_W (Φ : Fin cfg0.W → sProp 𝕄) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

set_option maxRecDepth 16384 in
/-- The library's obligation of the body. -/
theorem body_obligation (c : Dev nD) : BodyObligation (dats (F := F) m ρ 0 c) (defs₀ (F := F)) 𝒱₀ () Set.univ := fun t => by
  rw [show t = t0_0 from fin_N0 t]
  rw [sep_W, sep_W]
  simp only [owns_whole_eq]
  exact sound m ρ c

end Cert.K
-- ==== Proof.Launch.lean ====
/-
# The launch

The kernel's cells allocated for every device at once, their tokens dealt to the devices that pay with them, the credits
each device is owed, and the run of the whole mesh.
-/
module

public import proofs.«01_k».proof.Proof.Oblig
public import Idealize.ShloMosaic.Lib.Pipeline.CollectiveSegs
public import Idealize.ShloMosaic.Lib.Tactic

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

theorem semIx_csem (ci : CI) : semIx (csem ci) = ci := by
  match ci with
  | none => exact semIx_bar
  | some (false, k) => exact semIx_send k
  | some (true, k) => exact semIx_recv k

theorem csem_inj : Function.Injective csem := fun a b h => by
  rw [← semIx_csem a, ← semIx_csem b, h]

theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The kernel's own semaphores. -/
abbrev osem : Bool × Fin 39 → SemLoc sig := fun p => csem (some p)

theorem ownSemFacts : Pipeline.OwnSemFacts cfg0.spec osem where
  isScoped := by decide
  inj := fun a b h => Option.some.inj (csem_inj h)
  disj := fun k w s h => by
    have hs : ∀ w s, semIx (.dma ((cfg0.spec w).sem s)) = none := by decide
    have h1 := hs w s
    rw [← h, semIx_csem] at h1
    cases h1

theorem share_eq (c : Dev nD) (w : Fin cfg0.W) : (dats m ρ 0 c).share w = fullShare := by unfold Dat.share; split <;> rfl

def ringCells : Finset (GSem nD τ sig) := Finset.univ.map ⟨kcell, kcell_inj⟩

/-- A device's duties: its barrier cell's three, and one of each copy's cell. -/
abbrev TI : Type := Fin 3 ⊕ (Bool × Fin 39)
def tokOf (x : Dev nD × TI) : GSem nD τ sig × ℕ × Fin 3 := match x.2 with
  | .inl j => (barCell x.1, 0, j)
  | .inr p => (kcell (x.1, some p), 0, 0)
theorem tokOf_inj : Function.Injective tokOf := by
  rintro ⟨c, j⟩ ⟨c', j'⟩ h
  have h1 : c = c' := by
    have h := congrArg (fun x : GSem nD τ sig × ℕ × Fin 3 => x.1.1.1) h
    rcases j with j | j <;> rcases j' with j' | j' <;> exact h
  subst h1
  have h2 : j = j' := by
    have ha := congrArg (fun x : GSem nD τ sig × ℕ × Fin 3 => semIx x.1.2) h
    have hb := congrArg (fun x : GSem nD τ sig × ℕ × Fin 3 => x.2.2) h
    rcases j with j | j <;> rcases j' with j' | j'
    · exact congrArg Sum.inl hb
    · have ha : none = semIx (csem (some j')) := ha
      rw [semIx_csem] at ha; cases ha
    · have ha : semIx (csem (some j)) = none := ha
      rw [semIx_csem] at ha; cases ha
    · have ha : semIx (csem (some j)) = semIx (csem (some j')) := ha
      rw [semIx_csem, semIx_csem] at ha; exact congrArg Sum.inr (Option.some.inj ha)
  subst h2; rfl
def ringToks : Finset (GSem nD τ sig × ℕ × Fin 3) := Finset.univ.map ⟨tokOf, tokOf_inj⟩

def u₀ : UU :=
  (initOf (Pipeline.cells cfgs cellOf_inj) (Pipeline.launchToks cfgs cellOf_inj), initOf ringCells ringToks)

/-- The duty tokens of a device's own cells. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ bigSep Finset.univ (fun k : Fin 39 => dutyTok ER (sendCell c k) 0 (0 : Fin 3))
    ∗ bigSep Finset.univ (fun k : Fin 39 => dutyTok ER (recvCell c k) 0 (0 : Fin 3)))
/-- The duty tokens a device pays with. -/
def payToks (c : Dev nD) : sProp 𝕄 :=
  iprop((dutyTok ER (barCell (prt 0 c)) 0 (0 : Fin 3) ∗ dutyTok ER (barCell (prt 1 c)) 0 (1 : Fin 3) ∗ dutyTok ER (barCell (prt 2 c)) 0 (2 : Fin 3))
    ∗ bigSep Finset.univ (fun k : Fin 39 => dutyTok ER (sendCell c k) 0 (0 : Fin 3))
    ∗ bigSep Finset.univ (fun k : Fin 39 => dutyTok ER (recvCell (par (dec k) c) k) 0 (0 : Fin 3)))

/-- What the launch deals a device. -/
def G (c : Dev nD) : sProp 𝕄 :=
  iprop((bigSep Finset.univ fun k : CI => roundState ER (sch (inp m)) (kcell (c, k)) 0)
    ∗ (bigSep Finset.univ fun k : CI => atPos ER (kcell (c, k)) 0 ∅ 0)
    ∗ (bigSep Finset.univ fun k : CI => reached ER (kcell (c, k)) 0) ∗ toks c)
/-- What it has once all devices' cells are allocated. -/
def G' (c : Dev nD) : sProp 𝕄 := iprop(∃ K, Recs (inp m) K ∗ Lin c)

theorem sep_fin3 (Φ : Fin 3 → sProp 𝕄) : bigSep Finset.univ Φ = iprop(Φ 0 ∗ Φ 1 ∗ Φ 2) := bigSep_univ_eq_bigSepL [0, 1, 2] (by decide) (by decide) Φ

theorem toks_eq (c : Dev nD) : bigSep Finset.univ (fun j : TI => (dutyTok ER (tokOf (c, j)).1 (tokOf (c, j)).2.1 (tokOf (c, j)).2.2 : sProp 𝕄)) = toks c := by
  rw [bigSep_univ_sum, sep_fin3, sep_pair]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sch (inp m)) ringCells ringToks) $$ HX with ⟨Hst, Hr, Hat, Htok⟩
  imodintro
  ihave Hst' := (Entails.of_eq (hX fun g => roundState ER (sch (inp m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores at the start -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's own semaphores and the barrier semaphore are its cells' counters. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CI => semVal (kcell (c, k)) 0 : sProp 𝕄) := by
  rw [unscopedSems0_eq, sep_CI]
  rfl

theorem cells_open (c : Dev nD) :
    iprop((bigSep Finset.univ fun k : CI => semVal (kcell (c, k)) 0) ∗ bigSep Finset.univ fun k : CI => roundState ER (sch (inp m)) (kcell (c, k)) 0)
      ⊢ (|={Set.univ}=> bigSep Finset.univ fun k => iprop(∃ κ : ℕ, cellInv ER (sch (inp m)) κ (kcell (c, k))) : sProp 𝕄) := by
  rw [← bigSep_sep']
  exact (bigSep_mono fun k _ => (Rounds.body_intro ER (sch (inp m)) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sch (inp m)) κ (kcell (c, k))))
          ∗ (bigSep Finset.univ fun k => atPos ER (kcell (c, k)) 0 ∅ 0) ∗ (bigSep Finset.univ fun k => reached ER (kcell (c, k)) 0) ∗ toks c) := by
  unfold G
  iintro ⟨Hos, Hus, Hst, Hat, Hr, Htok⟩
  ihave Hv := (Entails.of_eq (sems0_eq (F := F) c)) $$ [Hos Hus]
  · isplitl [Hus] <;> iassumption
  imod (cells_open m c) $$ [Hv Hst] with Hinv
  · isplitl [Hv] <;> iassumption
  imodintro
  isplitl [Hinv]; · iexact Hinv
  isplitl [Hat]; · iexact Hat
  isplitl [Hr]; · iexact Hr
  iexact Htok

/-! ## The tokens dealt -/

/-- The partner as a permutation of the devices. -/
def prtE (j : Fin 3) : Dev nD ≃ Dev nD := ⟨prt j, prt j, prt_prt j, prt_prt j⟩
/-- Each copy's counterpart. -/
def parE : Dev nD × Fin 39 ≃ Dev nD × Fin 39 :=
  ⟨fun x => (par (dec x.2) x.1, x.2), fun x => (par (dec x.2) x.1, x.2), fun x => by simp only [par_par], fun x => by simp only [par_par]⟩

theorem recv_toks : (bigSep Finset.univ fun c : Dev nD => bigSep Finset.univ fun k : Fin 39 => (dutyTok ER (recvCell c k) 0 (0 : Fin 3) : sProp 𝕄))
    = bigSep Finset.univ fun c : Dev nD => bigSep Finset.univ fun k : Fin 39 => dutyTok ER (recvCell (par (dec k) c) k) 0 (0 : Fin 3) := by
  rw [← bigSep_univ_prod (fun x : Dev nD × Fin 39 => (dutyTok ER (recvCell x.1 x.2) 0 (0 : Fin 3) : sProp 𝕄)), bigSep_univ_equiv parE, bigSep_univ_prod]
  rfl

theorem toks_around : (bigSep Finset.univ fun c : Dev nD => (toks c : sProp 𝕄)) = bigSep Finset.univ fun c : Dev nD => payToks c := by
  unfold toks payToks
  simp only [bigSep_sep']
  rw [recv_toks,
    bigSep_univ_equiv (prtE 0) (fun c : Dev nD => (dutyTok ER (barCell c) 0 (0 : Fin 3) : sProp 𝕄)),
    bigSep_univ_equiv (prtE 1) (fun c : Dev nD => (dutyTok ER (barCell c) 0 (1 : Fin 3) : sProp 𝕄)),
    bigSep_univ_equiv (prtE 2) (fun c : Dev nD => (dutyTok ER (barCell c) 0 (2 : Fin 3) : sProp 𝕄))]
  rfl

theorem lin_intro (c : Dev nD) : iprop((bigSep Finset.univ fun k : CI => atPos ER (kcell (c, k)) 0 ∅ 0) ∗ payToks c) ⊢ (Lin c : sProp 𝕄) := by
  unfold payToks Lin
  rw [sep_CI, sep_pair]
  simp only [bigSep_sep']
  iintro ⟨⟨HB, HS, HV⟩, ⟨T0, T1, T2⟩, TS, TV⟩
  isplitl [T0]; · iexact T0
  isplitl [T1]; · iexact T1
  isplitl [T2]; · iexact T2
  isplitl [HB]; · iexact HB
  isplitl [TS]; · iexact TS
  isplitl [TV]; · iexact TV
  isplitl [HS]; · iexact HS
  iexact HV

theorem start_G (K : Dev nD × CI → ℕ) (c : Dev nD) : iprop(Recs (inp m) K ∗ Lin c) ⊢ G' m c := by
  unfold G'
  iintro H
  iexists K
  iexact H

theorem regroup :
    (bigSep Finset.univ fun c : Dev nD => iprop((bigSep Finset.univ fun k => iprop(∃ κ : ℕ, cellInv ER (sch (inp m)) κ (kcell (c, k))))
          ∗ (bigSep Finset.univ fun k => atPos ER (kcell (c, k)) 0 ∅ 0) ∗ (bigSep Finset.univ fun k => reached ER (kcell (c, k)) 0) ∗ toks c) : sProp 𝕄)
      ⊢ bigSep Finset.univ (G' m) := by
  rw [bigSep_sep', bigSep_sep', bigSep_sep', ← bigSep_univ_prod (fun ck : Dev nD × CI => iprop(∃ κ : ℕ, cellInv ER (sch (inp m)) κ (kcell ck))),
    ← bigSep_univ_prod (fun ck : Dev nD × CI => (reached ER (kcell ck) 0 : sProp 𝕄)), toks_around]
  iintro ⟨HI, Hat, #HR, Htok⟩
  ihave HK := (BI.bigSep_exists_pi Finset.univ (fun (ck : Dev nD × CI) (κ : ℕ) => (cellInv ER (sch (inp m)) κ (kcell ck) : sProp 𝕄))) $$ HI
  icases HK with ⟨%K, #HI⟩
  iapply (sep_each (R := Recs (inp m) K) fun c _ => start_G m K c)
  isplitr
  · unfold Recs; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => lin_intro c))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_eq_iff {a b : Dev nD} : Iff (barCell a = barCell b) (a = b) :=
  ⟨fun h => congrArg (fun g : GSem nD τ sig => g.1.1) h, fun h => h ▸ rfl⟩
theorem recv_eq_iff {a b : Dev nD} {k k' : Fin 39} : Iff (recvCell a k = recvCell b k') (a = b ∧ k = k') := by
  constructor
  · intro h
    refine ⟨congrArg (fun g : GSem nD τ sig => g.1.1) h, ?_⟩
    have h2 := congrArg (fun g : GSem nD τ sig => semIx g.2) h
    simp only [semIx_recv] at h2
    exact congrArg Prod.snd (Option.some.inj h2)
  · rintro ⟨rfl, rfl⟩; rfl

theorem Ob_bar (d c : Dev nD) : Ob d 0 (barCell c) () = 0 := by
  by_contra h
  obtain ⟨k, -, hk⟩ := Ob_pos (Nat.pos_of_ne_zero h)
  exact recv_ne_bar k (congrArg Prod.snd hk).symm

/-- What a device's copies owe a receive cell: the copy's credit, from the copy's counterpart alone. -/
theorem Ob_recv (d c : Dev nD) (k : Fin 39) : Ob d 0 (recvCell c k) () = if d = par (dec k) c then amt (dec k) else 0 := by
  have hs : ∀ (s : Finset (Fin 39)), (∑ k' ∈ s, (tallyAt (recvCell (par (dec k') d) k') () (amt (dec k')) : CellTallies nD τ sig Unit)) (recvCell c k) ()
      = ∑ k' ∈ s, (tallyAt (recvCell (par (dec k') d) k') () (amt (dec k')) : CellTallies nD τ sig Unit) (recvCell c k) () := by
    intro s
    induction s using Finset.induction_on with
    | empty => rw [Finset.sum_empty, Finset.sum_empty]; rfl
    | insert a s ha ih => rw [Finset.sum_insert ha, Finset.sum_insert ha, Pi.add_apply, Finsupp.add_apply, ih]
  unfold Ob
  rw [hs, Finset.sum_eq_single k]
  · rw [tallyAt_apply]
    by_cases h : d = par (dec k) c
    · subst h; rw [par_par, if_pos ⟨rfl, rfl⟩, if_pos rfl]
    · rw [if_neg (fun h' => h (by rw [(recv_eq_iff.mp h'.1).1, par_par])), if_neg h]
  · intro k' _ hk'
    rw [tallyAt_apply, if_neg (fun h' => hk' (recv_eq_iff.mp h'.1).2.symm)]
  · intro h
    exact absurd (Finset.mem_filter.mpr ⟨Finset.mem_univ k, Nat.zero_le k.val⟩) h

theorem one_bar (j : Fin 3) (d c : Dev nD) : (tallyAt (barCell (prt j d)) () 1 : CellTallies nD τ sig Unit) (barCell c) () = if d = prt j c then 1 else 0 := by
  rw [tallyAt_apply]
  by_cases h : d = prt j c
  · subst h; rw [prt_prt, if_pos ⟨rfl, rfl⟩, if_pos rfl]
  · rw [if_neg (fun h' => h (by rw [bar_eq_iff.mp h'.1, prt_prt])), if_neg h]

theorem owed_bar (d c : Dev nD) : O₀ d (barCell c) () = (if d = prt 2 c then 1 else 0) + (if d = prt 1 c then 1 else 0) + (if d = prt 0 c then 1 else 0) := by
  unfold O₀ O₁ O₂
  rw [Pi.add_apply, Finsupp.add_apply, Pi.add_apply, Finsupp.add_apply, Pi.add_apply, Finsupp.add_apply, Ob_bar, one_bar, one_bar, one_bar, Nat.zero_add]

theorem owed_recv (d c : Dev nD) (k : Fin 39) : O₀ d (recvCell c k) () = if d = par (dec k) c then amt (dec k) else 0 := by
  unfold O₀ O₁ O₂
  rw [Pi.add_apply, Finsupp.add_apply, Pi.add_apply, Finsupp.add_apply, Pi.add_apply, Finsupp.add_apply, Ob_recv,
    tallyAt_ne_cell (fun h => recv_ne_bar k (congrArg Prod.snd h)), tallyAt_ne_cell (fun h => recv_ne_bar k (congrArg Prod.snd h)),
    tallyAt_ne_cell (fun h => recv_ne_bar k (congrArg Prod.snd h)), Finsupp.zero_apply, Nat.add_zero, Nat.add_zero, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (prt 0 c) fun _ => 1, Finset.sum_ite_eq' Finset.univ (prt 1 c) fun _ => 1, Finset.sum_ite_eq' Finset.univ (prt 2 c) fun _ => 1,
    if_pos (Finset.mem_univ _), if_pos (Finset.mem_univ _), if_pos (Finset.mem_univ _)]

theorem launch_recv (c : Dev nD) (k : Fin 39) :
    tallyOn (recvCell c k) (launchCredit (Pipeline.owing O₀) 0 (recvCell c k)) = (tallyAt (recvCell c k) () (amt (dec k)) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (par (dec k) c) fun _ => amt (dec k), if_pos (Finset.mem_univ _)]

/-- The semaphores a device is owed credit on. -/
def crS : Option (Fin 39) → SemLoc sig
  | none => .reg barS
  | some k => .dma (recvS k)
theorem crS_inj : Function.Injective crS := by
  intro a b h
  have h := congrArg semIx h
  rcases a with _ | a <;> rcases b with _ | b
  · rfl
  · have h : none = semIx (.dma (recvS b)) := h
    rw [semIx_recv] at h; cases h
  · have h : semIx (.dma (recvS a)) = none := h
    rw [semIx_recv] at h; cases h
  · have h : semIx (.dma (recvS a)) = semIx (.dma (recvS b)) := h
    rw [semIx_recv, semIx_recv] at h
    exact congrArg some (congrArg Prod.snd (Option.some.inj h))

theorem sep_opt (Φ : Option (Fin 39) → sProp 𝕄) : bigSep Finset.univ Φ = iprop(Φ none ∗ bigSep Finset.univ (fun p => Φ (some p))) := by
  show bigSep (Finset.cons none (Finset.univ.map Function.Embedding.some) (by simp)) Φ = _
  rw [Finset.cons_eq_insert, bigSep_insert (by simp), bigSep_map]
  rfl

theorem creds (c : Dev nD) :
    (Pipeline.launchCred O₀ c : sProp 𝕄) ⊢ iprop(cred (tallyAt (barCell c) () 3) ∗ bigSep Finset.univ (fun k : Fin 39 => cred (tallyAt (recvCell c k) () (amt (dec k))))) := by
  have h1 (Φ : SemLoc sig → sProp 𝕄) : bigSep Finset.univ Φ ⊢ iprop(Φ (.reg barS) ∗ bigSep Finset.univ (fun k : Fin 39 => Φ (.dma (recvS k)))) := by
    have h2 : bigSep Finset.univ Φ ⊢ bigSep (Finset.univ.map ⟨crS, crS_inj⟩) Φ := BI.bigSep_subset (Finset.subset_univ _)
    rw [bigSep_map, sep_opt] at h2
    exact h2
  unfold Pipeline.launchCred
  refine (h1 _).trans (Entails.of_eq ?_)
  rw [launch_bar]
  simp only [launch_recv]

/-! ## The run's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [Hlev]; · iexact Hlev
    isplitl [H1]; · iexact H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems0_eq]
  iintro ⟨⟨HB, HO⟩, Hr⟩
  isplitl [HB]; · iexact HB
  isplitl [HO]; · iexact HO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every weakly fair execution on the eight devices ends, each window's array as
    the pipeline leaves it and every counter at zero. -/
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.K
-- ==== Proof.Run.lean ====
/-
# The run

What every execution of the kernel on the eight devices ends with, for any float values: each device's result the
activations past the last layer, its arguments as they were, every counter at zero.
-/
module

public import proofs.«01_k».proof.Proof.Launch
public import Idealize.ShloMosaic.Lib.Pipeline.ValueKit

@[expose] public section

set_option maxRecDepth 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

theorem final_arg0 (c : Dev nD) : finalA m ρ c (0 : Fin 8) = m ((c : Thread nD τ).loc main_arg0) := (dats m ρ 0 c).arrAt_in (0 : Fin 8) rfl _
theorem final_arg1 (c : Dev nD) : finalA m ρ c (1 : Fin 8) = m ((c : Thread nD τ).loc main_arg1) := (dats m ρ 0 c).arrAt_in (1 : Fin 8) rfl _
theorem final_arg2 (c : Dev nD) : finalA m ρ c (3 : Fin 8) = m ((c : Thread nD τ).loc main_arg2) := (dats m ρ 0 c).arrAt_in (3 : Fin 8) rfl _
theorem final_arg3 (c : Dev nD) : finalA m ρ c (5 : Fin 8) = m ((c : Thread nD τ).loc main_arg3) := (dats m ρ 0 c).arrAt_in (5 : Fin 8) rfl _
theorem final_arg4 (c : Dev nD) : finalA m ρ c (2 : Fin 8) = m ((c : Thread nD τ).loc main_arg4) := (dats m ρ 0 c).arrAt_in (2 : Fin 8) rfl _
theorem final_arg5 (c : Dev nD) : finalA m ρ c (4 : Fin 8) = m ((c : Thread nD τ).loc main_arg5) := (dats m ρ 0 c).arrAt_in (4 : Fin 8) rfl _
theorem final_arg6 (c : Dev nD) : finalA m ρ c (6 : Fin 8) = m ((c : Thread nD τ).loc main_arg6) := (dats m ρ 0 c).arrAt_in (6 : Fin 8) rfl _

set_option maxRecDepth 16384 in
/-- The result array after the run. -/
theorem final_out (c : Dev nD) : finalA m ρ c (7 : Fin 8) = k0_pay1 (Xs (inp m) 3) := by
  refine (dats m ρ 0 c).arrAt_eq_of_after_last 7 t0_0 (by decide +kernel) _ fun j => ?_
  blk_simp
  rfl

/-- Every execution ends with each device's result at the activations past the last layer, its arguments kept and every
    counter at zero. -/
theorem run_main : θ_run defs (onTc (τ := τ) (main (F := F))) ⟨m, fun _ => 0, ρ⟩ (fun r =>
    (∀ c : Dev nD, r.2.mem ((c : Thread nD τ).loc main_v1) = k0_pay1 (Xs (inp m) 3)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) :=
  (θ_run defs _ _).mono (fun r h => ⟨fun c => ⟨(h.1 c (7 : Fin 8)).trans (final_out m ρ c),
    (h.1 c (0 : Fin 8)).trans (final_arg0 m ρ c), (h.1 c (1 : Fin 8)).trans (final_arg1 m ρ c), (h.1 c (3 : Fin 8)).trans (final_arg2 m ρ c), (h.1 c (5 : Fin 8)).trans (final_arg3 m ρ c), (h.1 c (2 : Fin 8)).trans (final_arg4 m ρ c), (h.1 c (4 : Fin 8)).trans (final_arg5 m ρ c), (h.1 c (6 : Fin 8)).trans (final_arg6 m ρ c)⟩, h.2⟩) (run_all m ρ)

end Cert.K
-- ==== Proof.Frames.lean ====
/-
# The frames

Every run of the kernel, of its idealization and of the reference ends, with its arguments kept and every counter at zero.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.K

open Idealize.ShloMosaic Idealize.SL.Sem

/-- Every run ends with the arguments kept and every counter at zero, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun _ h => ⟨fun c => (h.1 c).2, h.2⟩) (run_main m ρ)

/-- The idealization's frame. -/
theorem frame_ideal : Cert.quiescent_KernelIdeal (hKernelIdeal := Cert.KernelIdeal.Gen.facts) := fun m ρ _ => frame_any (F := Ideal) m ρ

/-- The kernel's function and its idealization's are one text. -/
theorem body_same : @Cert.Kernel.cc0_body Bits _ Cert.Kernel.Gen.facts = @Cert.KernelIdeal.cc0_body Bits _ Cert.KernelIdeal.Gen.facts := rfl

/-- So are the tables of kernel functions. -/
theorem table_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun p => ?_)
  obtain ⟨_ | n, h⟩ := l
  · obtain ⟨t, s⟩ := p
    rfl
  · exact absurd h (by omega)

/-- And the tables with the pipelines' regions. -/
theorem defs_same : @Cert.Kernel.defs Bits _ Cert.Kernel.Gen.facts = @Cert.KernelIdeal.defs Bits _ Cert.KernelIdeal.Gen.facts :=
  congrArg (Pipeline.defs _) table_same

/-- The kernel's frame: its text is the idealization's. -/
theorem frame_kernel : Cert.quiescent_Kernel (hKernel := Cert.Kernel.Gen.facts) := by
  intro m ρ _
  letI := Cert.Kernel.Gen.facts
  have e := congrArg (fun d => θ_run d (onTc (τ := Cert.Kernel.τ) (Cert.Kernel.main (F := Bits))) ⟨m, fun _ => 0, ρ⟩) defs_same
  have h := frame_any (F := Bits) m ρ
  exact (congrFun (congrArg DFunLike.coe e) _).mpr h

/-- The reference's frame: it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.K
-- ==== Proof.Value.lean ====
/-
# What the kernel computes over the extended reals

A change of format is the identity there and the sum of the eight devices' partial products does not depend on the order
in which the three exchanges add them, so the activations after a layer are the sum of all the partial products, on
whichever device; and the eight blocks of 512 hidden units make up the 4096 of the reference's layer.
-/
module

public import proofs.«01_k».proof.Proof.Oblig
public import proofs.«01_k».proof.ReferenceIdeal
public import proofs.«01_k».proof.Proof.Gen.ReferenceIdeal
public import Idealize.ShloMosaic.Lib.Pipeline.ValueKit
public import Idealize.ShloMosaic.Lib.Pointwise
public import Idealize.ShloMosaic.Lib.Layout
public import Idealize.ShloMosaic.PureOps.Ideal.Laws
public import Mathlib.Algebra.BigOperators.Fin

@[expose] public section

noncomputable section

namespace Cert.Val

open Cert.K (Inp sp part stage accX nextX Xs X0 trS exS owner tileOf blkIx inp)
open Idealize.ShloMosaic
open Idealize.ShloMosaic.TcCoe

/-! ## The exchanges add up all the devices -/

/-- The eight devices reached by three exchanges are all of them, from whichever device. -/
theorem reach (i : Fin 2) (c : Fin 8) :
    [c, sp i 0 c, sp i 1 c, sp i 0 (sp i 1 c), sp i 2 c, sp i 0 (sp i 2 c), sp i 1 (sp i 2 c), sp i 0 (sp i 1 (sp i 2 c))].Perm
      (List.finRange 8) := by
  revert i c; decide +kernel

/-- So adding across three exchanges sums over all devices. -/
theorem sum_reach (f : Fin 8 → EReal) (i : Fin 2) (c : Fin 8) :
    ((f c + f (sp i 0 c)) + (f (sp i 1 c) + f (sp i 0 (sp i 1 c))))
      + ((f (sp i 2 c) + f (sp i 0 (sp i 2 c))) + (f (sp i 1 (sp i 2 c)) + f (sp i 0 (sp i 1 (sp i 2 c))))) = ∑ d, f d := by
  have h := ((reach i c).map f).sum_eq
  rw [Fin.sum_univ_def, ← h]
  simp only [List.map_cons, List.map_nil, List.sum_cons, List.sum_nil, add_zero, add_assoc]

variable (I : Inp Ideal)

/-- The activations after a layer: the sum of the devices' partial products. -/
theorem nextX_eq (l : Fin 3) (X : Vec Ideal Cert.KernelIdeal.S2048x256 .bf16) (x : Cert.KernelIdeal.S2048x256.Idx) :
    nextX I l X x = (∑ d : Fin 8, part I l X d x : EReal) :=
  sum_reach (fun d => part I l X d x) (tileOf x).2 (owner (tileOf x).2 (tileOf x).1)

/-! ## One layer -/

/-- The reference's layer on whole arrays. -/
def layer (X : FVec Ideal Cert.ReferenceIdeal.S2048x256 .f32) (W : FVec Ideal Cert.ReferenceIdeal.S256x4096 .f32)
    (U : FVec Ideal Cert.ReferenceIdeal.S4096x256 .f32) : FVec Ideal Cert.ReferenceIdeal.S2048x256 .f32 :=
  Host.dotGeneral Cert.ReferenceIdeal.dot_S2048x4096_S4096x256_S2048x256_1_0_0_1_n_n none
    (maximumf (Host.dotGeneral Cert.ReferenceIdeal.dot_S2048x256_S256x4096_S2048x4096_1_0_0_1_n_n none X W)
      (broadcastInDim Cert.ReferenceIdeal.S2048x4096 ![] Cert.ReferenceIdeal.Facts₀.bcast_S_S2048x4096 (constant Cert.ReferenceIdeal.S_ .f32 0x00000000#32))) U

/-- An element of the reference's layer. -/
theorem layer_apply (X : FVec Ideal Cert.ReferenceIdeal.S2048x256 .f32) (W : FVec Ideal Cert.ReferenceIdeal.S256x4096 .f32)
    (U : FVec Ideal Cert.ReferenceIdeal.S4096x256 .f32) (x : Cert.ReferenceIdeal.S2048x256.Idx) :
    layer X W U x = (∑ k : Fin 4096, max (∑ j : Fin 256, (X (ix2 (x 0) j) : EReal) * W (ix2 j k)) 0 * U (ix2 k (x 1)) : EReal) := by
  unfold layer
  simp only [pointwise, zero_add]

/-- An element of one device's partial product. -/
theorem part_apply (X : Vec Ideal Cert.KernelIdeal.S2048x256 .bf16) (W : Vec Ideal Cert.KernelIdeal.S256x512 .f32)
    (U : Vec Ideal Cert.KernelIdeal.S512x256 .f32) (x : Cert.KernelIdeal.S2048x256.Idx) :
    Cert.KernelIdeal.Gen.k0_pay4 (Cert.KernelIdeal.Gen.k0_pay3 X W) U x
      = (∑ k : Fin 512, max (∑ j : Fin 256, (X (ix2 (x 0) j) : EReal) * W (ix2 j k)) 0 * U (ix2 k (x 1)) : EReal) := by
  unfold Cert.KernelIdeal.Gen.k0_pay4 Cert.KernelIdeal.Gen.k0_pay3
  simp only [shapeCast_self, pointwise, zero_add]

/-- A sum over 4096 positions, as one over eight blocks of 512. -/
theorem sum_blocks (f : Fin 4096 → EReal) :
    (∑ k, f k) = ∑ c : Fin 8, ∑ k : Fin 512, f ⟨c.val * 512 + k.val, by omega⟩ := by
  rw [← Fintype.sum_prod_type']
  refine (Fintype.sum_equiv (finProdFinEquiv (m := 8) (n := 512)) _ _ fun p => ?_).symm
  refine congrArg f (Fin.ext ?_)
  show p.1.val * 512 + p.2.val = p.2.val + 512 * p.1.val
  omega

/-- The devices' partial products, each on its block of the two weights, add up to the reference's layer. -/
theorem layer_sum (X : FVec Ideal Cert.ReferenceIdeal.S2048x256 .f32) (W : FVec Ideal Cert.ReferenceIdeal.S256x4096 .f32)
    (U : FVec Ideal Cert.ReferenceIdeal.S4096x256 .f32) (w : Fin 8 → Vec Ideal Cert.KernelIdeal.S256x512 .f32)
    (u : Fin 8 → Vec Ideal Cert.KernelIdeal.S512x256 .f32)
    (hw : ∀ c, w c = Layout.block ⟨2, ![256, 512]⟩ ⟨2, ![256, 4096]⟩ 1 8 c W)
    (hu : ∀ c, u c = Layout.block ⟨2, ![512, 256]⟩ ⟨2, ![4096, 256]⟩ 0 8 c U) (x : Cert.ReferenceIdeal.S2048x256.Idx) :
    (∑ c : Fin 8, Cert.KernelIdeal.Gen.k0_pay4 (Cert.KernelIdeal.Gen.k0_pay3 X (w c)) (u c) x : EReal) = layer X W U x := by
  rw [layer_apply, sum_blocks]
  refine Finset.sum_congr rfl fun c _ => ?_
  rw [part_apply]
  refine Finset.sum_congr rfl fun k _ => ?_
  have e1 : ∀ j : Fin 256, w c (ix2 j k) = W (ix2 j ⟨c.val * 512 + k.val, by omega⟩) := fun j => by
    rw [hw]
    refine congrArg W (funext fun a => Fin.ext ?_)
    match a with
    | ⟨0, _⟩ => rfl
    | ⟨1, _⟩ => rfl
  have e2 : u c (ix2 k (x 1)) = U (ix2 ⟨c.val * 512 + k.val, by omega⟩ (x 1)) := by
    rw [hu]
    refine congrArg U (funext fun a => Fin.ext ?_)
    match a with
    | ⟨0, _⟩ => rfl
    | ⟨1, _⟩ => rfl
  rw [e2]
  simp only [e1]

/-! ## The three layers -/

/-- What the memories' agreement says: each device's inputs are its blocks of the whole arrays. -/
structure Agree (X : FVec Ideal Cert.ReferenceIdeal.S2048x256 .f32) (W : Fin 3 → FVec Ideal Cert.ReferenceIdeal.S256x4096 .f32)
    (U : Fin 3 → FVec Ideal Cert.ReferenceIdeal.S4096x256 .f32) : Prop where
  x : ∀ c, I.x c = Layout.block ⟨2, ![256, 256]⟩ ⟨2, ![2048, 256]⟩ 0 8 c X
  win : ∀ l c, I.win l c = Layout.block ⟨2, ![256, 512]⟩ ⟨2, ![256, 4096]⟩ 1 8 c (W l)
  wout : ∀ l c, I.wout l c = Layout.block ⟨2, ![512, 256]⟩ ⟨2, ![4096, 256]⟩ 0 8 c (U l)

variable {I} {X : FVec Ideal Cert.ReferenceIdeal.S2048x256 .f32} {W : Fin 3 → FVec Ideal Cert.ReferenceIdeal.S256x4096 .f32}
  {U : Fin 3 → FVec Ideal Cert.ReferenceIdeal.S4096x256 .f32}

/-- The gathered input is the whole input. -/
theorem input_eq (h : Agree I X W U) : X0 I = X := by
  funext x
  show I.x (tileOf x).1 (blkIx x) = X x
  rw [h.x]
  refine congrArg X (funext fun a => Fin.ext ?_)
  match a with
  | ⟨0, _⟩ =>
    show (x 0).val / 256 * 256 + (x 0).val % 256 = (x 0).val
    omega
  | ⟨1, _⟩ => rfl

/-- A layer of the kernel is a layer of the reference. -/
theorem next_eq (h : Agree I X W U) (l : Fin 3) (Y : FVec Ideal Cert.ReferenceIdeal.S2048x256 .f32) :
    nextX I l Y = layer Y (W l) (U l) := by
  funext x
  exact (nextX_eq I l Y x).trans (layer_sum Y (W l) (U l) (I.win l) (I.wout l) (h.win l) (h.wout l) x)

/-- The kernel's result is the reference's. -/
theorem result_eq (h : Agree I X W U) :
    Cert.KernelIdeal.Gen.k0_pay1 (Xs I 3) = layer (layer (layer X (W 0) (U 0)) (W 1) (U 1)) (W 2) (U 2) := by
  show nextX I 2 (nextX I 1 (nextX I 0 (X0 I))) = _
  rw [input_eq h, next_eq h, next_eq h, next_eq h]

end Cert.Val
-- ==== Proof.Algebraic.lean ====
/-
# The value claim

From memories that agree on the arguments, every device of the kernel over the extended reals ends with the reference's
whole result.
-/
module

public import proofs.«01_k».proof.Defs
public import proofs.«01_k».proof.Proof.Run
public import proofs.«01_k».proof.Proof.Value
public import proofs.«01_k».proof.Proof.Gen.ReferenceIdeal.Run

@[expose] public section

noncomputable section

namespace Cert.Val

open Cert.K (inp run_main)
open Idealize.ShloMosaic Idealize.SL.Sem

variable (m : (ℓ : Loc Cert.KernelIdeal.nD Cert.KernelIdeal.τ Cert.KernelIdeal.sig) → Buf (Elt Ideal) ℓ)

/-! Each window is its whole array: a device's inputs are its argument arrays. -/

theorem read_x (c : Dev Cert.KernelIdeal.nD) : (inp m).x c = m ((c.tc : Thread Cert.KernelIdeal.nD Cert.KernelIdeal.τ).loc Cert.KernelIdeal.main_arg0) := by
  funext i
  refine congrArg (m ((c.tc : Thread Cert.KernelIdeal.nD Cert.KernelIdeal.τ).loc Cert.KernelIdeal.main_arg0)) (funext fun a => Fin.ext ?_)
  match a with
  | ⟨0, h⟩ => exact (Nat.zero_add _).trans (Nat.one_mul _)
  | ⟨1, h⟩ => exact (Nat.zero_add _).trans (Nat.one_mul _)
theorem read_win0 (c : Dev Cert.KernelIdeal.nD) : (inp m).win 0 c = m ((c.tc : Thread Cert.KernelIdeal.nD Cert.KernelIdeal.τ).loc Cert.KernelIdeal.main_arg1) := by
  funext i
  refine congrArg (m ((c.tc : Thread Cert.KernelIdeal.nD Cert.KernelIdeal.τ).loc Cert.KernelIdeal.main_arg1)) (funext fun a => Fin.ext ?_)
  match a with
  | ⟨0, h⟩ => exact (Nat.zero_add _).trans (Nat.one_mul _)
  | ⟨1, h⟩ => exact (Nat.zero_add _).trans (Nat.one_mul _)
theorem read_win1 (c : Dev Cert.KernelIdeal.nD) : (inp m).win 1 c = m ((c.tc : Thread Cert.KernelIdeal.nD Cert.KernelIdeal.τ).loc Cert.KernelIdeal.main_arg2) := by
  funext i
  refine congrArg (m ((c.tc : Thread Cert.KernelIdeal.nD Cert.KernelIdeal.τ).loc Cert.KernelIdeal.main_arg2)) (funext fun a => Fin.ext ?_)
  match a with
  | ⟨0, h⟩ => exact (Nat.zero_add _).trans (Nat.one_mul _)
  | ⟨1, h⟩ => exact (Nat.zero_add _).trans (Nat.one_mul _)
theorem read_win2 (c : Dev Cert.KernelIdeal.nD) : (inp m).win 2 c = m ((c.tc : Thread Cert.KernelIdeal.nD Cert.KernelIdeal.τ).loc Cert.KernelIdeal.main_arg3) := by
  funext i
  refine congrArg (m ((c.tc : Thread Cert.KernelIdeal.nD Cert.KernelIdeal.τ).loc Cert.KernelIdeal.main_arg3)) (funext fun a => Fin.ext ?_)
  match a with
  | ⟨0, h⟩ => exact (Nat.zero_add _).trans (Nat.one_mul _)
  | ⟨1, h⟩ => exact (Nat.zero_add _).trans (Nat.one_mul _)
theorem read_wout0 (c : Dev Cert.KernelIdeal.nD) : (inp m).wout 0 c = m ((c.tc : Thread Cert.KernelIdeal.nD Cert.KernelIdeal.τ).loc Cert.KernelIdeal.main_arg4) := by
  funext i
  refine congrArg (m ((c.tc : Thread Cert.KernelIdeal.nD Cert.KernelIdeal.τ).loc Cert.KernelIdeal.main_arg4)) (funext fun a => Fin.ext ?_)
  match a with
  | ⟨0, h⟩ => exact (Nat.zero_add _).trans (Nat.one_mul _)
  | ⟨1, h⟩ => exact (Nat.zero_add _).trans (Nat.one_mul _)
theorem read_wout1 (c : Dev Cert.KernelIdeal.nD) : (inp m).wout 1 c = m ((c.tc : Thread Cert.KernelIdeal.nD Cert.KernelIdeal.τ).loc Cert.KernelIdeal.main_arg5) := by
  funext i
  refine congrArg (m ((c.tc : Thread Cert.KernelIdeal.nD Cert.KernelIdeal.τ).loc Cert.KernelIdeal.main_arg5)) (funext fun a => Fin.ext ?_)
  match a with
  | ⟨0, h⟩ => exact (Nat.zero_add _).trans (Nat.one_mul _)
  | ⟨1, h⟩ => exact (Nat.zero_add _).trans (Nat.one_mul _)
theorem read_wout2 (c : Dev Cert.KernelIdeal.nD) : (inp m).wout 2 c = m ((c.tc : Thread Cert.KernelIdeal.nD Cert.KernelIdeal.τ).loc Cert.KernelIdeal.main_arg6) := by
  funext i
  refine congrArg (m ((c.tc : Thread Cert.KernelIdeal.nD Cert.KernelIdeal.τ).loc Cert.KernelIdeal.main_arg6)) (funext fun a => Fin.ext ?_)
  match a with
  | ⟨0, h⟩ => exact (Nat.zero_add _).trans (Nat.one_mul _)
  | ⟨1, h⟩ => exact (Nat.zero_add _).trans (Nat.one_mul _)

/-- So the memories' agreement is the inputs'. -/
theorem inp_agree (X : FVec Ideal Cert.ReferenceIdeal.S2048x256 .f32) (W0 W1 W2 : FVec Ideal Cert.ReferenceIdeal.S256x4096 .f32)
    (U0 U1 U2 : FVec Ideal Cert.ReferenceIdeal.S4096x256 .f32)
    (hx : ∀ c : Dev Cert.KernelIdeal.nD, m ((c.tc : Thread Cert.KernelIdeal.nD Cert.KernelIdeal.τ).loc Cert.KernelIdeal.main_arg0) = Layout.block ⟨2, ![256, 256]⟩ ⟨2, ![2048, 256]⟩ 0 8 c X)
    (h1 : ∀ c : Dev Cert.KernelIdeal.nD, m ((c.tc : Thread Cert.KernelIdeal.nD Cert.KernelIdeal.τ).loc Cert.KernelIdeal.main_arg1) = Layout.block ⟨2, ![256, 512]⟩ ⟨2, ![256, 4096]⟩ 1 8 c W0)
    (h2 : ∀ c : Dev Cert.KernelIdeal.nD, m ((c.tc : Thread Cert.KernelIdeal.nD Cert.KernelIdeal.τ).loc Cert.KernelIdeal.main_arg2) = Layout.block ⟨2, ![256, 512]⟩ ⟨2, ![256, 4096]⟩ 1 8 c W1)
    (h3 : ∀ c : Dev Cert.KernelIdeal.nD, m ((c.tc : Thread Cert.KernelIdeal.nD Cert.KernelIdeal.τ).loc Cert.KernelIdeal.main_arg3) = Layout.block ⟨2, ![256, 512]⟩ ⟨2, ![256, 4096]⟩ 1 8 c W2)
    (h4 : ∀ c : Dev Cert.KernelIdeal.nD, m ((c.tc : Thread Cert.KernelIdeal.nD Cert.KernelIdeal.τ).loc Cert.KernelIdeal.main_arg4) = Layout.block ⟨2, ![512, 256]⟩ ⟨2, ![4096, 256]⟩ 0 8 c U0)
    (h5 : ∀ c : Dev Cert.KernelIdeal.nD, m ((c.tc : Thread Cert.KernelIdeal.nD Cert.KernelIdeal.τ).loc Cert.KernelIdeal.main_arg5) = Layout.block ⟨2, ![512, 256]⟩ ⟨2, ![4096, 256]⟩ 0 8 c U1)
    (h6 : ∀ c : Dev Cert.KernelIdeal.nD, m ((c.tc : Thread Cert.KernelIdeal.nD Cert.KernelIdeal.τ).loc Cert.KernelIdeal.main_arg6) = Layout.block ⟨2, ![512, 256]⟩ ⟨2, ![4096, 256]⟩ 0 8 c U2) :
    Agree (inp m) X ![W0, W1, W2] ![U0, U1, U2] where
  x c := (read_x m c).trans (hx c)
  win l c := match l with
    | 0 => (read_win0 m c).trans (h1 c)
    | 1 => (read_win1 m c).trans (h2 c)
    | 2 => (read_win2 m c).trans (h3 c)
  wout l c := match l with
    | 0 => (read_wout0 m c).trans (h4 c)
    | 1 => (read_wout1 m c).trans (h5 c)
    | 2 => (read_wout2 m c).trans (h6 c)

/-- The kernel and the reference compute the same function over the extended reals. -/
theorem algebraic : Cert.algebraic_KernelIdeal_ReferenceIdeal (hKernelIdeal := Cert.KernelIdeal.Gen.facts)
    (hReferenceIdeal := Cert.ReferenceIdeal.Gen.facts) := by
  intro m g m' g' _ h
  have e := result_eq (inp_agree m _ _ _ _ _ _ _ (fun c => (h c).1) (fun c => (h c).2.1) (fun c => (h c).2.2.1) (fun c => (h c).2.2.2.1)
    (fun c => (h c).2.2.2.2.1) (fun c => (h c).2.2.2.2.2.1) (fun c => (h c).2.2.2.2.2.2))
  refine ⟨_, (θ_run Cert.KernelIdeal.defs _ _).mono (fun r k c => ⟨(k.1 c).1.trans e, (k.1 c).2⟩) (run_main (F := Ideal) m g), ?_⟩
  exact (θ_run Cert.ReferenceIdeal.defs _ _).mono (fun r k => k 0) (Cert.ReferenceIdeal.Value.run (F := Ideal) m' g')

end Cert.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The claim: the three frames, that the idealization rewrites nothing, and that kernel and reference compute the same function. -/
theorem claim : Cert.Claim := ⟨Cert.Kernel.Gen.facts, Cert.KernelIdeal.Gen.facts, Cert.ReferenceIdeal.Gen.facts,
  Cert.K.frame_kernel, Cert.K.frame_ideal, Cert.K.frame_reference, trivial, Cert.Val.algebraic⟩

end Cert.Proof

end
